-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "half_root" .f32 0x3F3504F3#32 (((Real.sqrt 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "scale" .f32 0x3E0293EE#32 ((((Real.sqrt 128) * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "scale" .f32 0x3E0293EE#32 ((((Real.sqrt 128) * (Real.log 2))⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "mask" .f32 0xF149F2CA#32 ⊥

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v86) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  IdealRules.named_const.Statement Cert.Kernel9Ideal.κ "log2e" .f32 0x3FB8AA3B#32 (((Real.log 2)⁻¹ : ℝ) : EReal)
  ∧ IdealRules.named_const.Statement Cert.Kernel9Ideal.κ "mask" .f32 0xF149F2CA#32 ⊥

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v54) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S4x2048x8192 : Shape := ⟨3, ![4, 2048, 8192]⟩
abbrev S4x2048x2048 : Shape := ⟨3, ![4, 2048, 2048]⟩
abbrev S1x2048x128 : Shape := ⟨3, ![1, 2048, 128]⟩
abbrev S256x256 : Shape := ⟨2, ![256, 256]⟩
abbrev S1x256x128 : Shape := ⟨3, ![1, 256, 128]⟩
abbrev S256x128 : Shape := ⟨2, ![256, 128]⟩
abbrev S256x1 : Shape := ⟨2, ![256, 1]⟩
abbrev S256 : Shape := ⟨1, ![256]⟩

abbrev nBuf : Space → Nat
  | .hbm => 4
  | .vmem => 14
  | .smem => 0
  | _ => 0

abbrev bufTy : (tb : Table) → Fin (tcTables nBuf tb) → BufTy
  | .hbm, ⟨0, _⟩ => ⟨S4x2048x8192, .bf16⟩
  | .hbm, ⟨1, _⟩ => ⟨S4x2048x2048, .bf16⟩
  | .hbm, ⟨2, _⟩ => ⟨S4x2048x2048, .bf16⟩
  | .hbm, ⟨3, _⟩ => ⟨S4x2048x2048, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | _, _ => ⟨S4x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v4 : BitVec 32 := Scalar.muli arg9 c256_i32
  v4
def k0_off1 (k0_t1 : Fin k0_t1_loop.trips) : Fin 3 → Nat :=
  let c0 : Index := 0#32
  let c0_i32 : BitVec 32 := 0#32
  let c1_i32 : BitVec 32 := 1#32
  let arg9 : BitVec 32 := Scf.iv c0_i32 c1_i32 k0_t1
  let c256_i32 : BitVec 32 := 256#32
  let v4 : BitVec 32 := Scalar.muli arg9 c256_i32
  let v5 : BitVec 32 := v4
  let v6 : Index := Scalar.indexCast v5
  let c0_1 : Index := 0#32
  ![0, v6.toNat, 0]
@[reducible] def k0_t2_loop (k0_t1 : Fin k0_t1_loop.trips) : Scf.Loop 32 :=
  let c0_i32_6 : BitVec 32 := 0#32
  let c0_i32 : BitVec 32 := 0#32
  let c1_i32 : BitVec 32 := 1#32
  let arg9 : BitVec 32 := Scf.iv c0_i32 c1_i32 k0_t1
  let v16 : BitVec 32 := Scalar.subi arg9 c0_i32_6
  let c1_i32_7 : BitVec 32 := 1#32
  let v18 : BitVec 32 := Scalar.divsi v16 c1_i32_7
  let v19 : BitVec 32 := Scalar.muli v18 c1_i32_7
  let v20 : BitVec 32 := Scalar.addi c0_i32_6 v19
  let c1_i32_8 : BitVec 32 := 1#32
  ⟨c0_i32_6, v20, c1_i32_8⟩
def k0_mult2 (k0_t1 : Fin k0_t1_loop.trips) (k0_t2 : Fin (k0_t2_loop k0_t1).trips) : BitVec 32 :=
  let c0_i32_6 : BitVec 32 := 0#32
  let c1_i32_8 : BitVec 32 := 1#32
  let arg10 : BitVec 32 := Scf.iv c0_i32_6 c1_i32_8 k0_t2
  let c256_i32_26 : BitVec 32 := 256#32
  let v67 : BitVec 32 := Scalar.muli arg10 c256_i32_26
  v67
def k0_off2 (k0_t1 : Fin k0_t1_loop.trips) (k0_t2 : Fin (k0_t2_loop k0_t1).trips) : Fin 3 → Nat :=
  let c0_27 : Index := 0#32
  let c0_i32_6 : BitVec 32 := 0#32
  let c1_i32_8 : BitVec 32 := 1#32
  let arg10 : BitVec 32 := Scf.iv c0_i32_6 c1_i32_8 k0_t2
  let c256_i32_26 : BitVec 32 := 256#32
  let v67 : BitVec 32 := Scalar.muli arg10 c256_i32_26
  let v68 : BitVec 32 := v67
  let v69 : Index := Scalar.indexCast v68
  let c0_28 : Index := 0#32
  ![0, v69.toNat, 0]
@[reducible] def k0_t3_loop (k0_t1 : Fin k0_t1_loop.trips) : Scf.Loop 32 :=
  let c0_i32_6 : BitVec 32 := 0#32
  let c0_i32 : BitVec 32 := 0#32
  let c1_i32 : BitVec 32 := 1#32
  let arg9 : BitVec 32 := Scf.iv c0_i32 c1_i32 k0_t1
  let v16 : BitVec 32 := Scalar.subi arg9 c0_i32_6
  let c1_i32_7 : BitVec 32 := 1#32
  let v18 : BitVec 32 := Scalar.divsi v16 c1_i32_7
  let v19 : BitVec 32 := Scalar.muli v18 c1_i32_7
  let v20 : BitVec 32 := Scalar.addi c0_i32_6 v19
  let v17 : BitVec 32 := Scalar.addi c0_i32_6 v16
  let c1_i32_9 : BitVec 32 := 1#32
  ⟨v20, v17, c1_i32_9⟩
def k0_mult3 (k0_t1 : Fin k0_t1_loop.trips) (k0_t3 : Fin (k0_t3_loop k0_t1).trips) : BitVec 32 :=
  let c0_i32_6 : BitVec 32 := 0#32
  let c0_i32 : BitVec 32 := 0#32
  let c1_i32 : BitVec 32 := 1#32
  let arg9 : BitVec 32 := Scf.iv c0_i32 c1_i32 k0_t1
  let v16 : BitVec 32 := Scalar.subi arg9 c0_i32_6
  let c1_i32_7 : BitVec 32 := 1#32
  let v18 : BitVec 32 := Scalar.divsi v16 c1_i32_7
  let v19 : BitVec 32 := Scalar.muli v18 c1_i32_7
  let v20 : BitVec 32 := Scalar.addi c0_i32_6 v19
  let c1_i32_9 : BitVec 32 := 1#32
  let arg10 : BitVec 32 := Scf.iv v20 c1_i32_9 k0_t3
  let c256_i32_26 : BitVec 32 := 256#32
  let v67 : BitVec 32 := Scalar.muli arg10 c256_i32_26
  v67
def k0_off3 (k0_t1 : Fin k0_t1_loop.trips) (k0_t3 : Fin (k0_t3_loop k0_t1).trips) : Fin 3 → Nat :=
  let c0_27 : Index := 0#32
  let c0_i32_6 : BitVec 32 := 0#32
  let c0_i32 : BitVec 32 := 0#32
  let c1_i32 : BitVec 32 := 1#32
  let arg9 : BitVec 32 := Scf.iv c0_i32 c1_i32 k0_t1
  let v16 : BitVec 32 := Scalar.subi arg9 c0_i32_6
  let c1_i32_7 : BitVec 32 := 1#32
  let v18 : BitVec 32 := Scalar.divsi v16 c1_i32_7
  let v19 : BitVec 32 := Scalar.muli v18 c1_i32_7
  let v20 : BitVec 32 := Scalar.addi c0_i32_6 v19
  let c1_i32_9 : BitVec 32 := 1#32
  let arg10 : BitVec 32 := Scf.iv v20 c1_i32_9 k0_t3
  let c256_i32_26 : BitVec 32 := 256#32
  let v67 : BitVec 32 := Scalar.muli arg10 c256_i32_26
  let v68 : BitVec 32 := v67
  let v69 : Index := Scalar.indexCast v68
  let c0_28 : Index := 0#32
  ![0, v69.toNat, 0]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_10 : BitVec 32 := 256#32
  let v23 : BitVec 32 := Scalar.muli arg9 c256_i32_10
  v23
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x2048x8192 : Shape := ⟨3, ![4, 2048, 8192]⟩
abbrev S4x2048x2048 : Shape := ⟨3, ![4, 2048, 2048]⟩
abbrev S4x2048x16x128 : Shape := ⟨4, ![4, 2048, 16, 128]⟩
abbrev S4x16x2048x2048 : Shape := ⟨4, ![4, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16 : Shape := ⟨3, ![4, 2048, 16]⟩
abbrev S4x2048x16x1 : Shape := ⟨4, ![4, 2048, 16, 1]⟩
abbrev S4x16x128x2048 : Shape := ⟨4, ![4, 16, 128, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x8192, .bf16⟩
  | .hbm, ⟨1, _⟩ => ⟨S4x2048x2048, .bf16⟩
  | .hbm, ⟨2, _⟩ => ⟨S4x2048x2048, .bf16⟩
  | .hbm, ⟨3, _⟩ => ⟨S4x2048x8192, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x16x128, .f32⟩
  | .hbm, ⟨9, _⟩ => ⟨S4x2048x16x128, .f32⟩
  | .hbm, ⟨10, _⟩ => ⟨S4x2048x16x128, .f32⟩
  | .hbm, ⟨11, _⟩ => ⟨S4x2048x16x128, .f32⟩
  | .hbm, ⟨12, _⟩ => ⟨S4x2048x2048, .f32⟩
  | .hbm, ⟨13, _⟩ => ⟨S4x2048x16x128, .f32⟩
  | .hbm, ⟨14, _⟩ => ⟨S4x2048x2048, .f32⟩
  | .hbm, ⟨15, _⟩ => ⟨S4x2048x16x128, .f32⟩
  | .hbm, ⟨16, _⟩ => ⟨S4x16x2048x2048, .f32⟩
  | .hbm, ⟨17, _⟩ => ⟨S4x16x2048x2048, .f32⟩
  | .hbm, ⟨18, _⟩ => ⟨S4x16x2048x2048, .f32⟩
  | .hbm, ⟨19, _⟩ => ⟨S2048, .i32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S4x16x2048x2048, .i1⟩
  | .hbm, ⟨28, _⟩ => ⟨S4x16x2048x2048, .f32⟩
  | .hbm, ⟨29, _⟩ => ⟨S4x16x2048x2048, .f32⟩
  | .hbm, ⟨30, _⟩ => ⟨S_, .f32⟩
  | .hbm, ⟨31, _⟩ => ⟨S4x16x2048, .f32⟩
  | .hbm, ⟨32, _⟩ => ⟨S4x16x2048x1, .f32⟩
  | .hbm, ⟨33, _⟩ => ⟨S4x16x2048x2048, .f32⟩
  | .hbm, ⟨34, _⟩ => ⟨S4x16x2048x2048, .f32⟩
  | .hbm, ⟨35, _⟩ => ⟨S_, .f32⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S4x16x2048, .f32⟩
  | .hbm, ⟨40, _⟩ => ⟨S4x2048x16, .f32⟩
  | .hbm, ⟨41, _⟩ => ⟨S4x2048x16x1, .f32⟩
  | .hbm, ⟨42, _⟩ => ⟨S4x16x128x2048, .f32⟩
  | .hbm, ⟨43, _⟩ => ⟨S4x2048x16x128, .f32⟩
  | .hbm, ⟨44, _⟩ => ⟨S4x2048x16x128, .f32⟩
  | .hbm, ⟨45, _⟩ => ⟨S4x2048x16x128, .f32⟩
  | .hbm, ⟨46, _⟩ => ⟨S4x2048x16x128, .f32⟩
  | .hbm, ⟨47, _⟩ => ⟨S4x2048x2048, .f32⟩
  | .hbm, ⟨48, _⟩ => ⟨S4x2048x2048, .bf16⟩
  | _, _ => ⟨S4x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel2.lean ====
abbrev S8192x2048 : Shape := ⟨2, ![8192, 2048]⟩
abbrev S4x2048x11264 : Shape := ⟨3, ![4, 2048, 11264]⟩
abbrev S3x5632 : Shape := ⟨2, ![3, 5632]⟩
abbrev S5632 : Shape := ⟨1, ![5632]⟩
abbrev S1x5632 : Shape := ⟨2, ![1, 5632]⟩
abbrev S8192x5632 : Shape := ⟨2, ![8192, 5632]⟩
abbrev S512x2048 : Shape := ⟨2, ![512, 2048]⟩
abbrev S1x2048x512 : Shape := ⟨3, ![1, 2048, 512]⟩
abbrev S3x512 : Shape := ⟨2, ![3, 512]⟩
abbrev S1x512 : Shape := ⟨2, ![1, 512]⟩
abbrev S512x512 : Shape := ⟨2, ![512, 512]⟩
abbrev S2048x512 : Shape := ⟨2, ![2048, 512]⟩
abbrev S520x512 : Shape := ⟨2, ![520, 512]⟩
abbrev S8x512 : Shape := ⟨2, ![8, 512]⟩

abbrev nBuf : Space → Nat
  | .hbm => 6
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S4x2048x11264, .f32⟩
  | .hbm, ⟨2, _⟩ => ⟨S3x5632, .f32⟩
  | .hbm, ⟨3, _⟩ => ⟨S5632, .f32⟩
  | .hbm, ⟨4, _⟩ => ⟨S1x5632, .f32⟩
  | .hbm, ⟨5, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | .local _ .vmem, ⟨13, _⟩ => ⟨S2048x512, .bf16⟩
  | .local _ .vmem, ⟨14, _⟩ => ⟨S520x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel2Ideal.lean ====
variable {F : FTy → Type} [FloatOps F] [Named F]
def κ : String → Option EReal := fun
  | "half_root" => some (((Real.sqrt 2)⁻¹ : ℝ) : EReal)
  | _ => none
-- ==== Reference2Ideal.lean ====
abbrev S8192x2048 : Shape := ⟨2, ![8192, 2048]⟩
abbrev S4x2048x11264 : Shape := ⟨3, ![4, 2048, 11264]⟩
abbrev S3x5632 : Shape := ⟨2, ![3, 5632]⟩
abbrev S5632 : Shape := ⟨1, ![5632]⟩
abbrev S1x2048x11264 : Shape := ⟨3, ![1, 2048, 11264]⟩
abbrev S2048x11264 : Shape := ⟨2, ![2048, 11264]⟩
abbrev S8192x11264 : Shape := ⟨2, ![8192, 11264]⟩
abbrev S4x2048x5632 : Shape := ⟨3, ![4, 2048, 5632]⟩
abbrev S_ : Shape := ⟨0, ![]⟩
abbrev S4x2050x5632 : Shape := ⟨3, ![4, 2050, 5632]⟩
abbrev S1x5632 : Shape := ⟨2, ![1, 5632]⟩
abbrev S1x1x5632 : Shape := ⟨3, ![1, 1, 5632]⟩
abbrev S8192x5632 : Shape := ⟨2, ![8192, 5632]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x11264, .f32⟩
  | .hbm, ⟨2, _⟩ => ⟨S3x5632, .f32⟩
  | .hbm, ⟨3, _⟩ => ⟨S5632, .f32⟩
  | .hbm, ⟨4, _⟩ => ⟨S8192x2048, .f32⟩
  | .hbm, ⟨5, _⟩ => ⟨S1x2048x11264, .f32⟩
  | .hbm, ⟨6, _⟩ => ⟨S2048x11264, .f32⟩
  | .hbm, ⟨7, _⟩ => ⟨S8192x11264, .f32⟩
  | .hbm, ⟨8, _⟩ => ⟨S4x2048x11264, .f32⟩
  | .hbm, ⟨9, _⟩ => ⟨S4x2048x5632, .f32⟩
  | .hbm, ⟨10, _⟩ => ⟨S4x2048x5632, .f32⟩
  | .hbm, ⟨11, _⟩ => ⟨S_, .i32⟩
  | .hbm, ⟨12, _⟩ => ⟨S_, .f32⟩
  | .hbm, ⟨13, _⟩ => ⟨S4x2050x5632, .f32⟩
  | .hbm, ⟨14, _⟩ => ⟨S4x2048x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S4x2048x5632, .f32⟩
  | .hbm, ⟨19, _⟩ => ⟨S4x2048x5632, .f32⟩
  | .hbm, ⟨20, _⟩ => ⟨S_, .f32⟩
  | .hbm, ⟨21, _⟩ => ⟨S4x2048x5632, .f32⟩
  | .hbm, ⟨22, _⟩ => ⟨S4x2048x5632, .f32⟩
  | .hbm, ⟨23, _⟩ => ⟨S4x2048x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S4x2048x5632, .f32⟩
  | .hbm, ⟨28, _⟩ => ⟨S4x2048x5632, .f32⟩
  | .hbm, ⟨29, _⟩ => ⟨S4x2048x5632, .f32⟩
  | .hbm, ⟨30, _⟩ => ⟨S4x2048x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S4x2048x5632, .f32⟩
  | .hbm, ⟨35, _⟩ => ⟨S4x2048x5632, .f32⟩
  | .hbm, ⟨36, _⟩ => ⟨S4x2048x5632, .f32⟩
  | .hbm, ⟨37, _⟩ => ⟨S1x1x5632, .f32⟩
  | .hbm, ⟨38, _⟩ => ⟨S4x2048x5632, .f32⟩
  | .hbm, ⟨39, _⟩ => ⟨S4x2048x5632, .f32⟩
  | .hbm, ⟨40, _⟩ => ⟨S_, .f32⟩
  | .hbm, ⟨41, _⟩ => ⟨S4x2048x5632, .f32⟩
  | .hbm, ⟨42, _⟩ => ⟨S4x2048x5632, .f32⟩
  | .hbm, ⟨43, _⟩ => ⟨S_, .f32⟩
  | .hbm, ⟨44, _⟩ => ⟨S4x2048x5632, .f32⟩
  | .hbm, ⟨45, _⟩ => ⟨S4x2048x5632, .f32⟩
  | .hbm, ⟨46, _⟩ => ⟨S4x2048x5632, .f32⟩
  | .hbm, ⟨47, _⟩ => ⟨S4x2048x5632, .f32⟩
  | .hbm, ⟨48, _⟩ => ⟨S_, .f32⟩
  | .hbm, ⟨49, _⟩ => ⟨S4x2048x5632, .f32⟩
  | .hbm, ⟨50, _⟩ => ⟨S4x2048x5632, .f32⟩
  | .hbm, ⟨51, _⟩ => ⟨S4x2048x5632, .f32⟩
  | .hbm, ⟨52, _⟩ => ⟨S4x2048x5632, .f32⟩
  | .hbm, ⟨53, _⟩ => ⟨S8192x5632, .f32⟩
  | .hbm, ⟨54, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Kernel3.lean ====
abbrev S8192x5632 : Shape := ⟨2, ![8192, 5632]⟩
abbrev S4x5632x2048 : Shape := ⟨3, ![4, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x5632 : Shape := ⟨2, ![8192, 5632]⟩
abbrev S4x5632x2048 : Shape := ⟨3, ![4, 5632, 2048]⟩
abbrev S8192x2048 : Shape := ⟨2, ![8192, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x2048 : Shape := ⟨2, ![8192, 2048]⟩
abbrev S2x2048x8208 : Shape := ⟨3, ![2, 2048, 8208]⟩
abbrev S2x128 : Shape := ⟨2, ![2, 128]⟩
abbrev S8192x8192 : Shape := ⟨2, ![8192, 8192]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x8208, .f32⟩
  | .hbm, ⟨2, _⟩ => ⟨S2x128, .f32⟩
  | .hbm, ⟨3, _⟩ => ⟨S8192x8192, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2x128, .f32⟩
  | .local _ .vmem, ⟨5, _⟩ => ⟨S512x1024, .bf16⟩
  | .local _ .vmem, ⟨6, _⟩ => ⟨S512x1024, .bf16⟩
  | .local _ .vmem, ⟨7, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg0 : BitVec 32 := BitVec.ofNat 32 (i 0).val
  let c2_i32 : BitVec 32 := 2#32
  let v6 : BitVec 1 := Scalar.cmpi .slt arg0 c2_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg0 : BitVec 32 := BitVec.ofNat 32 (i 0).val
  let c2_i32_5 : BitVec 32 := 2#32
  let v9 : BitVec 1 := Scalar.cmpi .sge arg0 c2_i32_5
  let c4_i32 : BitVec 32 := 4#32
  let v10 : BitVec 1 := Scalar.cmpi .slt arg0 c4_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c4_i32_7 : BitVec 32 := 4#32
  let v14 : BitVec 1 := Scalar.cmpi .sge arg0 c4_i32_7
  let c6_i32 : BitVec 32 := 6#32
  let v15 : BitVec 1 := Scalar.cmpi .slt arg0 c6_i32
  let v16 : BitVec 1 := Scalar.andi v14 v15
  let v17 : BitVec 32 := Scalar.extui v16
  let c0_i32_8 : BitVec 32 := 0#32
  let v18 : BitVec 1 := Scalar.cmpi .ne v17 c0_i32_8
  v18

def k0_cond5 (i : grid0.Coords) : BitVec 1 :=
  let arg0 : BitVec 32 := BitVec.ofNat 32 (i 0).val
  let c6_i32_9 : BitVec 32 := 6#32
  let v19 : BitVec 1 := Scalar.cmpi .sge arg0 c6_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
variable {F : FTy → Type} [FloatOps F] [Named F]
def κ : String → Option EReal := fun
  | "scale" => some ((((Real.sqrt 128) * (Real.log 2))⁻¹ : ℝ) : EReal)
  | _ => none
-- ==== Reference4Ideal.lean ====
abbrev S8192x2048 : Shape := ⟨2, ![8192, 2048]⟩
abbrev S2x2048x8208 : Shape := ⟨3, ![2, 2048, 8208]⟩
abbrev S2x128 : Shape := ⟨2, ![2, 128]⟩
abbrev S1x2048x8208 : Shape := ⟨3, ![1, 2048, 8208]⟩
abbrev S2048x8208 : Shape := ⟨2, ![2048, 8208]⟩
abbrev S2048x8192 : Shape := ⟨2, ![2048, 8192]⟩
abbrev S8192x8192 : Shape := ⟨2, ![8192, 8192]⟩
abbrev S_ : Shape := ⟨0, ![]⟩
abbrev S8192x16x128 : Shape := ⟨3, ![8192, 16, 128]⟩
abbrev S1x128 : Shape := ⟨2, ![1, 128]⟩
abbrev S128 : Shape := ⟨1, ![128]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x8208, .f32⟩
  | .hbm, ⟨2, _⟩ => ⟨S2x128, .f32⟩
  | .hbm, ⟨3, _⟩ => ⟨S8192x2048, .f32⟩
  | .hbm, ⟨4, _⟩ => ⟨S1x2048x8208, .f32⟩
  | .hbm, ⟨5, _⟩ => ⟨S2048x8208, .f32⟩
  | .hbm, ⟨6, _⟩ => ⟨S2048x8192, .f32⟩
  | .hbm, ⟨7, _⟩ => ⟨S8192x8192, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x16x128, .f32⟩
  | .hbm, ⟨14, _⟩ => ⟨S8192x16x128, .f32⟩
  | .hbm, ⟨15, _⟩ => ⟨S_, .f32⟩
  | .hbm, ⟨16, _⟩ => ⟨S8192x16x128, .f32⟩
  | .hbm, ⟨17, _⟩ => ⟨S8192x16x128, .f32⟩
  | .hbm, ⟨18, _⟩ => ⟨S8192x16x128, .f32⟩
  | .hbm, ⟨19, _⟩ => ⟨S8192x16x128, .f32⟩
  | .hbm, ⟨20, _⟩ => ⟨S1x128, .f32⟩
  | .hbm, ⟨21, _⟩ => ⟨S128, .f32⟩
  | .hbm, ⟨22, _⟩ => ⟨S8192x16x128, .f32⟩
  | .hbm, ⟨23, _⟩ => ⟨S_, .f32⟩
  | .hbm, ⟨24, _⟩ => ⟨S8192x16, .f32⟩
  | .hbm, ⟨25, _⟩ => ⟨S8192x16x1, .f32⟩
  | .hbm, ⟨26, _⟩ => ⟨S_, .f32⟩
  | .hbm, ⟨27, _⟩ => ⟨S8192x16x1, .f32⟩
  | .hbm, ⟨28, _⟩ => ⟨S8192x16x1, .f32⟩
  | .hbm, ⟨29, _⟩ => ⟨S_, .f32⟩
  | .hbm, ⟨30, _⟩ => ⟨S8192x16x1, .f32⟩
  | .hbm, ⟨31, _⟩ => ⟨S8192x16x1, .f32⟩
  | .hbm, ⟨32, _⟩ => ⟨S8192x16x1, .f32⟩
  | .hbm, ⟨33, _⟩ => ⟨S8192x16x128, .f32⟩
  | .hbm, ⟨34, _⟩ => ⟨S8192x16x128, .f32⟩
  | .hbm, ⟨35, _⟩ => ⟨S1x1x128, .f32⟩
  | .hbm, ⟨36, _⟩ => ⟨S8192x16x128, .f32⟩
  | .hbm, ⟨37, _⟩ => ⟨S8192x16x128, .f32⟩
  | .hbm, ⟨38, _⟩ => ⟨S8192x16x128, .f32⟩
  | .hbm, ⟨39, _⟩ => ⟨S8192x16x128, .f32⟩
  | .hbm, ⟨40, _⟩ => ⟨S1x128, .f32⟩
  | .hbm, ⟨41, _⟩ => ⟨S128, .f32⟩
  | .hbm, ⟨42, _⟩ => ⟨S8192x16x128, .f32⟩
  | .hbm, ⟨43, _⟩ => ⟨S_, .f32⟩
  | .hbm, ⟨44, _⟩ => ⟨S8192x16, .f32⟩
  | .hbm, ⟨45, _⟩ => ⟨S8192x16x1, .f32⟩
  | .hbm, ⟨46, _⟩ => ⟨S_, .f32⟩
  | .hbm, ⟨47, _⟩ => ⟨S8192x16x1, .f32⟩
  | .hbm, ⟨48, _⟩ => ⟨S8192x16x1, .f32⟩
  | .hbm, ⟨49, _⟩ => ⟨S_, .f32⟩
  | .hbm, ⟨50, _⟩ => ⟨S8192x16x1, .f32⟩
  | .hbm, ⟨51, _⟩ => ⟨S8192x16x1, .f32⟩
  | .hbm, ⟨52, _⟩ => ⟨S8192x16x1, .f32⟩
  | .hbm, ⟨53, _⟩ => ⟨S8192x16x128, .f32⟩
  | .hbm, ⟨54, _⟩ => ⟨S8192x16x128, .f32⟩
  | .hbm, ⟨55, _⟩ => ⟨S1x1x128, .f32⟩
  | .hbm, ⟨56, _⟩ => ⟨S8192x16x128, .f32⟩
  | .hbm, ⟨57, _⟩ => ⟨S8192x16x128, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192x2048, .f32⟩
  | .hbm, ⟨67, _⟩ => ⟨S8192x2048, .f32⟩
  | .hbm, ⟨68, _⟩ => ⟨S8192x8192, .f32⟩
  | .hbm, ⟨69, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]
-- ==== Kernel5.lean ====
abbrev S8192x2048 : Shape := ⟨2, ![8192, 2048]⟩
abbrev S2x2048x6144 : Shape := ⟨3, ![2, 2048, 6144]⟩
abbrev S8192x6144 : Shape := ⟨2, ![8192, 6144]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S8192x6144, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel5Ideal.lean ====
variable {F : FTy → Type} [FloatOps F] [Named F]
def κ : String → Option EReal := fun
  | "scale" => some ((((Real.sqrt 128) * (Real.log 2))⁻¹ : ℝ) : EReal)
  | _ => none
-- ==== Reference5Ideal.lean ====
abbrev S8192x2048 : Shape := ⟨2, ![8192, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8192x6144 : Shape := ⟨2, ![8192, 6144]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S8192x2048, .f32⟩
  | .hbm, ⟨3, _⟩ => ⟨S1x2048x6144, .f32⟩
  | .hbm, ⟨4, _⟩ => ⟨S2048x6144, .f32⟩
  | .hbm, ⟨5, _⟩ => ⟨S8192x6144, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x6144, .f32⟩
  | .hbm, ⟨18, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel6.lean ====
abbrev S4x2048x6144 : Shape := ⟨3, ![4, 2048, 6144]⟩
abbrev S16x2x256x256 : Shape := ⟨4, ![16, 2, 256, 256]⟩
abbrev S4x128 : Shape := ⟨2, ![4, 128]⟩
abbrev S256 : Shape := ⟨1, ![256]⟩
abbrev S1x256 : Shape := ⟨2, ![1, 256]⟩
abbrev S4x2048x2048 : Shape := ⟨3, ![4, 2048, 2048]⟩
abbrev S1x2048x128 : Shape := ⟨3, ![1, 2048, 128]⟩
abbrev S1x2048x256 : Shape := ⟨3, ![1, 2048, 256]⟩
abbrev S2x2x256x256 : Shape := ⟨4, ![2, 2, 256, 256]⟩
abbrev S1x128 : Shape := ⟨2, ![1, 128]⟩
abbrev S1 : Shape := ⟨1, ![1]⟩
abbrev S1x1 : Shape := ⟨2, ![1, 1]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S1x1x256x256 : Shape := ⟨4, ![1, 1, 256, 256]⟩
abbrev S256x1 : Shape := ⟨2, ![256, 1]⟩

abbrev nBuf : Space → Nat
  | .hbm => 6
  | .vmem => 16
  | .smem => 0
  | _ => 0

abbrev bufTy : (tb : Table) → Fin (tcTables nBuf tb) → BufTy
  | .hbm, ⟨0, _⟩ => ⟨S4x2048x6144, .bf16⟩
  | .hbm, ⟨1, _⟩ => ⟨S16x2x256x256, .f32⟩
  | .hbm, ⟨2, _⟩ => ⟨S4x128, .f32⟩
  | .hbm, ⟨3, _⟩ => ⟨S256, .f32⟩
  | .hbm, ⟨4, _⟩ => ⟨S1x256, .f32⟩
  | .hbm, ⟨5, _⟩ => ⟨S4x2048x2048, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x256, .bf16⟩
  | .local _ .vmem, ⟨9, _⟩ => ⟨S1x2048x256, .bf16⟩
  | .local _ .vmem, ⟨10, _⟩ => ⟨S2x2x256x256, .f32⟩
  | .local _ .vmem, ⟨11, _⟩ => ⟨S2x2x256x256, .f32⟩
  | .local _ .vmem, ⟨12, _⟩ => ⟨S4x128, .f32⟩
  | .local _ .vmem, ⟨13, _⟩ => ⟨S1x256, .f32⟩
  | .local _ .vmem, ⟨14, _⟩ => ⟨S1x2048x256, .bf16⟩
  | .local _ .vmem, ⟨15, _⟩ => ⟨S1x2048x256, .bf16⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v17 : BitVec 32 := Scalar.muli arg11 c256_i32
  v17
def k0_off1 (k0_t1 : Fin k0_t1_loop.trips) : Fin 3 → Nat :=
  let c0_4 : Index := 0#32
  let c0_i32 : BitVec 32 := 0#32
  let c1_i32 : BitVec 32 := 1#32
  let arg11 : BitVec 32 := Scf.iv c0_i32 c1_i32 k0_t1
  let c256_i32 : BitVec 32 := 256#32
  let v17 : BitVec 32 := Scalar.muli arg11 c256_i32
  let v18 : BitVec 32 := v17
  let v19 : Index := Scalar.indexCast v18
  let c0_5 : Index := 0#32
  ![0, v19.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c1_i32_6 : BitVec 32 := 1#32
  let v22 : BitVec 32 := Scalar.subi arg11 c1_i32_6
  let c0_i32_7 : BitVec 32 := 0#32
  let v23 : BitVec 32 := Scalar.maxsi v22 c0_i32_7
  let c256_i32_8 : BitVec 32 := 256#32
  let v24 : BitVec 32 := Scalar.muli v23 c256_i32_8
  v24
def k0_off2 (k0_t1 : Fin k0_t1_loop.trips) : Fin 3 → Nat :=
  let c0_9 : Index := 0#32
  let c0_i32 : BitVec 32 := 0#32
  let c1_i32 : BitVec 32 := 1#32
  let arg11 : BitVec 32 := Scf.iv c0_i32 c1_i32 k0_t1
  let c1_i32_6 : BitVec 32 := 1#32
  let v22 : BitVec 32 := Scalar.subi arg11 c1_i32_6
  let c0_i32_7 : BitVec 32 := 0#32
  let v23 : BitVec 32 := Scalar.maxsi v22 c0_i32_7
  let c256_i32_8 : BitVec 32 := 256#32
  let v24 : BitVec 32 := Scalar.muli v23 c256_i32_8
  let v25 : BitVec 32 := v24
  let v26 : Index := Scalar.indexCast v25
  let c0_10 : Index := 0#32
  ![0, v26.toNat, 0]
def k0_off3 (k0_t1 : Fin k0_t1_loop.trips) : Fin 3 → Nat :=
  let c0_12 : Index := 0#32
  let c0_i32 : BitVec 32 := 0#32
  let c1_i32 : BitVec 32 := 1#32
  let arg11 : BitVec 32 := Scf.iv c0_i32 c1_i32 k0_t1
  let c1_i32_6 : BitVec 32 := 1#32
  let v22 : BitVec 32 := Scalar.subi arg11 c1_i32_6
  let c0_i32_7 : BitVec 32 := 0#32
  let v23 : BitVec 32 := Scalar.maxsi v22 c0_i32_7
  let c256_i32_8 : BitVec 32 := 256#32
  let v24 : BitVec 32 := Scalar.muli v23 c256_i32_8
  let v25 : BitVec 32 := v24
  let v30 : Index := Scalar.indexCast v25
  let c0_13 : Index := 0#32
  ![0, v30.toNat, 0]
@[reducible] def k0_t2_loop (k0_t1 : Fin k0_t1_loop.trips) : Scf.Loop 32 :=
  let c0_i32_27 : BitVec 32 := 0#32
  let c0_i32 : BitVec 32 := 0#32
  let c1_i32 : BitVec 32 := 1#32
  let arg11 : BitVec 32 := Scf.iv c0_i32 c1_i32 k0_t1
  let c1_i32_26 : BitVec 32 := 1#32
  let v60 : BitVec 32 := Scalar.subi arg11 c1_i32_26
  let v61 : BitVec 32 := Scalar.subi v60 c0_i32_27
  let c1_i32_28 : BitVec 32 := 1#32
  let v63 : BitVec 32 := Scalar.divsi v61 c1_i32_28
  let v64 : BitVec 32 := Scalar.muli v63 c1_i32_28
  let v65 : BitVec 32 := Scalar.addi c0_i32_27 v64
  let c1_i32_29 : BitVec 32 := 1#32
  ⟨c0_i32_27, v65, c1_i32_29⟩
def k0_mult3 (k0_t1 : Fin k0_t1_loop.trips) (k0_t2 : Fin (k0_t2_loop k0_t1).trips) : BitVec 32 :=
  let c0_i32_27 : BitVec 32 := 0#32
  let c1_i32_29 : BitVec 32 := 1#32
  let arg12 : BitVec 32 := Scf.iv c0_i32_27 c1_i32_29 k0_t2
  let c256_i32_93 : BitVec 32 := 256#32
  let v203 : BitVec 32 := Scalar.muli arg12 c256_i32_93
  v203
def k0_off4 (k0_t1 : Fin k0_t1_loop.trips) (k0_t2 : Fin (k0_t2_loop k0_t1).trips) : Fin 3 → Nat :=
  let c0_94 : Index := 0#32
  let c0_i32_27 : BitVec 32 := 0#32
  let c1_i32_29 : BitVec 32 := 1#32
  let arg12 : BitVec 32 := Scf.iv c0_i32_27 c1_i32_29 k0_t2
  let c256_i32_93 : BitVec 32 := 256#32
  let v203 : BitVec 32 := Scalar.muli arg12 c256_i32_93
  let v204 : BitVec 32 := v203
  let v205 : Index := Scalar.indexCast v204
  let c0_95 : Index := 0#32
  ![0, v205.toNat, 0]
def k0_off5 (k0_t1 : Fin k0_t1_loop.trips) (k0_t2 : Fin (k0_t2_loop k0_t1).trips) : Fin 3 → Nat :=
  let c0_97 : Index := 0#32
  let c0_i32_27 : BitVec 32 := 0#32
  let c1_i32_29 : BitVec 32 := 1#32
  let arg12 : BitVec 32 := Scf.iv c0_i32_27 c1_i32_29 k0_t2
  let c256_i32_93 : BitVec 32 := 256#32
  let v203 : BitVec 32 := Scalar.muli arg12 c256_i32_93
  let v204 : BitVec 32 := v203
  let v209 : Index := Scalar.indexCast v204
  let c0_98 : Index := 0#32
  ![0, v209.toNat, 0]
@[reducible] def k0_t3_loop (k0_t1 : Fin k0_t1_loop.trips) : Scf.Loop 32 :=
  let c0_i32_27 : BitVec 32 := 0#32
  let c0_i32 : BitVec 32 := 0#32
  let c1_i32 : BitVec 32 := 1#32
  let arg11 : BitVec 32 := Scf.iv c0_i32 c1_i32 k0_t1
  let c1_i32_26 : BitVec 32 := 1#32
  let v60 : BitVec 32 := Scalar.subi arg11 c1_i32_26
  let v61 : BitVec 32 := Scalar.subi v60 c0_i32_27
  let c1_i32_28 : BitVec 32 := 1#32
  let v63 : BitVec 32 := Scalar.divsi v61 c1_i32_28
  let v64 : BitVec 32 := Scalar.muli v63 c1_i32_28
  let v65 : BitVec 32 := Scalar.addi c0_i32_27 v64
  let v62 : BitVec 32 := Scalar.addi c0_i32_27 v61
  let c1_i32_30 : BitVec 32 := 1#32
  ⟨v65, v62, c1_i32_30⟩
def k0_mult4 (k0_t1 : Fin k0_t1_loop.trips) (k0_t3 : Fin (k0_t3_loop k0_t1).trips) : BitVec 32 :=
  let c0_i32_27 : BitVec 32 := 0#32
  let c0_i32 : BitVec 32 := 0#32
  let c1_i32 : BitVec 32 := 1#32
  let arg11 : BitVec 32 := Scf.iv c0_i32 c1_i32 k0_t1
  let c1_i32_26 : BitVec 32 := 1#32
  let v60 : BitVec 32 := Scalar.subi arg11 c1_i32_26
  let v61 : BitVec 32 := Scalar.subi v60 c0_i32_27
  let c1_i32_28 : BitVec 32 := 1#32
  let v63 : BitVec 32 := Scalar.divsi v61 c1_i32_28
  let v64 : BitVec 32 := Scalar.muli v63 c1_i32_28
  let v65 : BitVec 32 := Scalar.addi c0_i32_27 v64
  let c1_i32_30 : BitVec 32 := 1#32
  let arg12 : BitVec 32 := Scf.iv v65 c1_i32_30 k0_t3
  let c256_i32_93 : BitVec 32 := 256#32
  let v203 : BitVec 32 := Scalar.muli arg12 c256_i32_93
  v203
def k0_off6 (k0_t1 : Fin k0_t1_loop.trips) (k0_t3 : Fin (k0_t3_loop k0_t1).trips) : Fin 3 → Nat :=
  let c0_94 : Index := 0#32
  let c0_i32_27 : BitVec 32 := 0#32
  let c0_i32 : BitVec 32 := 0#32
  let c1_i32 : BitVec 32 := 1#32
  let arg11 : BitVec 32 := Scf.iv c0_i32 c1_i32 k0_t1
  let c1_i32_26 : BitVec 32 := 1#32
  let v60 : BitVec 32 := Scalar.subi arg11 c1_i32_26
  let v61 : BitVec 32 := Scalar.subi v60 c0_i32_27
  let c1_i32_28 : BitVec 32 := 1#32
  let v63 : BitVec 32 := Scalar.divsi v61 c1_i32_28
  let v64 : BitVec 32 := Scalar.muli v63 c1_i32_28
  let v65 : BitVec 32 := Scalar.addi c0_i32_27 v64
  let c1_i32_30 : BitVec 32 := 1#32
  let arg12 : BitVec 32 := Scf.iv v65 c1_i32_30 k0_t3
  let c256_i32_93 : BitVec 32 := 256#32
  let v203 : BitVec 32 := Scalar.muli arg12 c256_i32_93
  let v204 : BitVec 32 := v203
  let v205 : Index := Scalar.indexCast v204
  let c0_95 : Index := 0#32
  ![0, v205.toNat, 0]
def k0_off7 (k0_t1 : Fin k0_t1_loop.trips) (k0_t3 : Fin (k0_t3_loop k0_t1).trips) : Fin 3 → Nat :=
  let c0_97 : Index := 0#32
  let c0_i32_27 : BitVec 32 := 0#32
  let c0_i32 : BitVec 32 := 0#32
  let c1_i32 : BitVec 32 := 1#32
  let arg11 : BitVec 32 := Scf.iv c0_i32 c1_i32 k0_t1
  let c1_i32_26 : BitVec 32 := 1#32
  let v60 : BitVec 32 := Scalar.subi arg11 c1_i32_26
  let v61 : BitVec 32 := Scalar.subi v60 c0_i32_27
  let c1_i32_28 : BitVec 32 := 1#32
  let v63 : BitVec 32 := Scalar.divsi v61 c1_i32_28
  let v64 : BitVec 32 := Scalar.muli v63 c1_i32_28
  let v65 : BitVec 32 := Scalar.addi c0_i32_27 v64
  let c1_i32_30 : BitVec 32 := 1#32
  let arg12 : BitVec 32 := Scf.iv v65 c1_i32_30 k0_t3
  let c256_i32_93 : BitVec 32 := 256#32
  let v203 : BitVec 32 := Scalar.muli arg12 c256_i32_93
  let v204 : BitVec 32 := v203
  let v209 : Index := Scalar.indexCast v204
  let c0_98 : Index := 0#32
  ![0, v209.toNat, 0]
def k0_mult5 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_31 : BitVec 32 := 256#32
  let v68 : BitVec 32 := Scalar.muli arg11 c256_i32_31
  v68
def k0_off8 (k0_t1 : Fin k0_t1_loop.trips) : Fin 3 → Nat :=
  let c0_35 : Index := 0#32
  let c0_i32 : BitVec 32 := 0#32
  let c1_i32 : BitVec 32 := 1#32
  let arg11 : BitVec 32 := Scf.iv c0_i32 c1_i32 k0_t1
  let c256_i32_31 : BitVec 32 := 256#32
  let v68 : BitVec 32 := Scalar.muli arg11 c256_i32_31
  let v69 : BitVec 32 := v68
  let v74 : Index := Scalar.indexCast v69
  let c0_36 : Index := 0#32
  ![0, v74.toNat, 0]
def k0_mult6 (k0_t1 : Fin k0_t1_loop.trips) : BitVec 32 :=
  let c0_i32 : BitVec 32 := 0#32
  let c1_i32 : BitVec 32 := 1#32
  let arg11 : BitVec 32 := Scf.iv c0_i32 c1_i32 k0_t1
  let c1_i32_46 : BitVec 32 := 1#32
  let v102 : BitVec 32 := Scalar.subi arg11 c1_i32_46
  let c0_i32_47 : BitVec 32 := 0#32
  let v103 : BitVec 32 := Scalar.maxsi v102 c0_i32_47
  let c256_i32_48 : BitVec 32 := 256#32
  let v104 : BitVec 32 := Scalar.muli v103 c256_i32_48
  v104
@[reducible] def k0_t4_loop (k0_t1 : Fin k0_t1_loop.trips) : Scf.Loop 32 :=
  let c0_i32_68 : BitVec 32 := 0#32
  let c0_i32 : BitVec 32 := 0#32
  let c1_i32 : BitVec 32 := 1#32
  let arg11 : BitVec 32 := Scf.iv c0_i32 c1_i32 k0_t1
  let c1_i32_67 : BitVec 32 := 1#32
  let v140 : BitVec 32 := Scalar.subi arg11 c1_i32_67
  let v141 : BitVec 32 := Scalar.subi v140 c0_i32_68
  let c1_i32_69 : BitVec 32 := 1#32
  let v143 : BitVec 32 := Scalar.divsi v141 c1_i32_69
  let v144 : BitVec 32 := Scalar.muli v143 c1_i32_69
  let v145 : BitVec 32 := Scalar.addi c0_i32_68 v144
  let c1_i32_70 : BitVec 32 := 1#32
  ⟨c0_i32_68, v145, c1_i32_70⟩
def k0_mult7 (k0_t1 : Fin k0_t1_loop.trips) (k0_t4 : Fin (k0_t4_loop k0_t1).trips) : BitVec 32 :=
  let c0_i32_68 : BitVec 32 := 0#32
  let c1_i32_70 : BitVec 32 := 1#32
  let arg12 : BitVec 32 := Scf.iv c0_i32_68 c1_i32_70 k0_t4
  let c256_i32_93 : BitVec 32 := 256#32
  let v203 : BitVec 32 := Scalar.muli arg12 c256_i32_93
  v203
def k0_off9 (k0_t1 : Fin k0_t1_loop.trips) (k0_t4 : Fin (k0_t4_loop k0_t1).trips) : Fin 3 → Nat :=
  let c0_94 : Index := 0#32
  let c0_i32_68 : BitVec 32 := 0#32
  let c1_i32_70 : BitVec 32 := 1#32
  let arg12 : BitVec 32 := Scf.iv c0_i32_68 c1_i32_70 k0_t4
  let c256_i32_93 : BitVec 32 := 256#32
  let v203 : BitVec 32 := Scalar.muli arg12 c256_i32_93
  let v204 : BitVec 32 := v203
  let v205 : Index := Scalar.indexCast v204
  let c0_95 : Index := 0#32
  ![0, v205.toNat, 0]
def k0_off10 (k0_t1 : Fin k0_t1_loop.trips) (k0_t4 : Fin (k0_t4_loop k0_t1).trips) : Fin 3 → Nat :=
  let c0_97 : Index := 0#32
  let c0_i32_68 : BitVec 32 := 0#32
  let c1_i32_70 : BitVec 32 := 1#32
  let arg12 : BitVec 32 := Scf.iv c0_i32_68 c1_i32_70 k0_t4
  let c256_i32_93 : BitVec 32 := 256#32
  let v203 : BitVec 32 := Scalar.muli arg12 c256_i32_93
  let v204 : BitVec 32 := v203
  let v209 : Index := Scalar.indexCast v204
  let c0_98 : Index := 0#32
  ![0, v209.toNat, 0]
@[reducible] def k0_t5_loop (k0_t1 : Fin k0_t1_loop.trips) : Scf.Loop 32 :=
  let c0_i32_68 : BitVec 32 := 0#32
  let c0_i32 : BitVec 32 := 0#32
  let c1_i32 : BitVec 32 := 1#32
  let arg11 : BitVec 32 := Scf.iv c0_i32 c1_i32 k0_t1
  let c1_i32_67 : BitVec 32 := 1#32
  let v140 : BitVec 32 := Scalar.subi arg11 c1_i32_67
  let v141 : BitVec 32 := Scalar.subi v140 c0_i32_68
  let c1_i32_69 : BitVec 32 := 1#32
  let v143 : BitVec 32 := Scalar.divsi v141 c1_i32_69
  let v144 : BitVec 32 := Scalar.muli v143 c1_i32_69
  let v145 : BitVec 32 := Scalar.addi c0_i32_68 v144
  let v142 : BitVec 32 := Scalar.addi c0_i32_68 v141
  let c1_i32_71 : BitVec 32 := 1#32
  ⟨v145, v142, c1_i32_71⟩
def k0_mult8 (k0_t1 : Fin k0_t1_loop.trips) (k0_t5 : Fin (k0_t5_loop k0_t1).trips) : BitVec 32 :=
  let c0_i32_68 : BitVec 32 := 0#32
  let c0_i32 : BitVec 32 := 0#32
  let c1_i32 : BitVec 32 := 1#32
  let arg11 : BitVec 32 := Scf.iv c0_i32 c1_i32 k0_t1
  let c1_i32_67 : BitVec 32 := 1#32
  let v140 : BitVec 32 := Scalar.subi arg11 c1_i32_67
  let v141 : BitVec 32 := Scalar.subi v140 c0_i32_68
  let c1_i32_69 : BitVec 32 := 1#32
  let v143 : BitVec 32 := Scalar.divsi v141 c1_i32_69
  let v144 : BitVec 32 := Scalar.muli v143 c1_i32_69
  let v145 : BitVec 32 := Scalar.addi c0_i32_68 v144
  let c1_i32_71 : BitVec 32 := 1#32
  let arg12 : BitVec 32 := Scf.iv v145 c1_i32_71 k0_t5
  let c256_i32_93 : BitVec 32 := 256#32
  let v203 : BitVec 32 := Scalar.muli arg12 c256_i32_93
  v203
def k0_off11 (k0_t1 : Fin k0_t1_loop.trips) (k0_t5 : Fin (k0_t5_loop k0_t1).trips) : Fin 3 → Nat :=
  let c0_94 : Index := 0#32
  let c0_i32_68 : BitVec 32 := 0#32
  let c0_i32 : BitVec 32 := 0#32
  let c1_i32 : BitVec 32 := 1#32
  let arg11 : BitVec 32 := Scf.iv c0_i32 c1_i32 k0_t1
  let c1_i32_67 : BitVec 32 := 1#32
  let v140 : BitVec 32 := Scalar.subi arg11 c1_i32_67
  let v141 : BitVec 32 := Scalar.subi v140 c0_i32_68
  let c1_i32_69 : BitVec 32 := 1#32
  let v143 : BitVec 32 := Scalar.divsi v141 c1_i32_69
  let v144 : BitVec 32 := Scalar.muli v143 c1_i32_69
  let v145 : BitVec 32 := Scalar.addi c0_i32_68 v144
  let c1_i32_71 : BitVec 32 := 1#32
  let arg12 : BitVec 32 := Scf.iv v145 c1_i32_71 k0_t5
  let c256_i32_93 : BitVec 32 := 256#32
  let v203 : BitVec 32 := Scalar.muli arg12 c256_i32_93
  let v204 : BitVec 32 := v203
  let v205 : Index := Scalar.indexCast v204
  let c0_95 : Index := 0#32
  ![0, v205.toNat, 0]
def k0_off12 (k0_t1 : Fin k0_t1_loop.trips) (k0_t5 : Fin (k0_t5_loop k0_t1).trips) : Fin 3 → Nat :=
  let c0_97 : Index := 0#32
  let c0_i32_68 : BitVec 32 := 0#32
  let c0_i32 : BitVec 32 := 0#32
  let c1_i32 : BitVec 32 := 1#32
  let arg11 : BitVec 32 := Scf.iv c0_i32 c1_i32 k0_t1
  let c1_i32_67 : BitVec 32 := 1#32
  let v140 : BitVec 32 := Scalar.subi arg11 c1_i32_67
  let v141 : BitVec 32 := Scalar.subi v140 c0_i32_68
  let c1_i32_69 : BitVec 32 := 1#32
  let v143 : BitVec 32 := Scalar.divsi v141 c1_i32_69
  let v144 : BitVec 32 := Scalar.muli v143 c1_i32_69
  let v145 : BitVec 32 := Scalar.addi c0_i32_68 v144
  let c1_i32_71 : BitVec 32 := 1#32
  let arg12 : BitVec 32 := Scf.iv v145 c1_i32_71 k0_t5
  let c256_i32_93 : BitVec 32 := 256#32
  let v203 : BitVec 32 := Scalar.muli arg12 c256_i32_93
  let v204 : BitVec 32 := v203
  let v209 : Index := Scalar.indexCast v204
  let c0_98 : Index := 0#32
  ![0, v209.toNat, 0]
def k0_mult9 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_72 : BitVec 32 := 256#32
  let v148 : BitVec 32 := Scalar.muli arg11 c256_i32_72
  v148
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi c0_i32 v0
  let c0_i32_0 : BitVec 32 := 0#32
  let v2 : BitVec 32 := Scalar.addi v1 c0_i32_0
  let c0_i32_1 : BitVec 32 := 0#32
  let c0_i32_2 : BitVec 32 := 0#32
  ![arg1.toNat, c0_i32_1.toNat, v2.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi c0_i32 v0
  let c1_i32 : BitVec 32 := 1#32
  let v2 : BitVec 32 := Scalar.addi v1 c1_i32
  let c0_i32_0 : BitVec 32 := 0#32
  let c0_i32_1 : BitVec 32 := 0#32
  ![arg1.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 32 := Scalar.addi c16_i32 v0
  let c0_i32 : BitVec 32 := 0#32
  let v2 : BitVec 32 := Scalar.addi v1 c0_i32
  let c0_i32_0 : BitVec 32 := 0#32
  let c0_i32_1 : BitVec 32 := 0#32
  ![arg1.toNat, c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 32 := Scalar.addi c16_i32 v0
  let c1_i32 : BitVec 32 := 1#32
  let v2 : BitVec 32 := Scalar.addi v1 c1_i32
  let c0_i32 : BitVec 32 := 0#32
  let c0_i32_0 : BitVec 32 := 0#32
  ![arg1.toNat, c0_i32.toNat, v2.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x2x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel6Ideal.lean ====
variable {F : FTy → Type} [FloatOps F] [Named F]
def κ : String → Option EReal := fun
  | "mask" => some ⊥
  | _ => none
-- ==== Reference6Ideal.lean ====
abbrev S4x2048x6144 : Shape := ⟨3, ![4, 2048, 6144]⟩
abbrev S16x2x256x256 : Shape := ⟨4, ![16, 2, 256, 256]⟩
abbrev S4x128 : Shape := ⟨2, ![4, 128]⟩
abbrev S256 : Shape := ⟨1, ![256]⟩
abbrev S4x2048x2048 : Shape := ⟨3, ![4, 2048, 2048]⟩
abbrev S4x2048x8x2x128 : Shape := ⟨5, ![4, 2048, 8, 2, 128]⟩
abbrev S4x2048x8x256 : Shape := ⟨4, ![4, 2048, 8, 256]⟩
abbrev S1x128 : Shape := ⟨2, ![1, 128]⟩
abbrev S128 : Shape := ⟨1, ![128]⟩
abbrev S_ : Shape := ⟨0, ![]⟩
abbrev S8x2x2x256x256 : Shape := ⟨5, ![8, 2, 2, 256, 256]⟩
abbrev S8x2x1x256x256 : Shape := ⟨5, ![8, 2, 1, 256, 256]⟩
abbrev S8x2x256x256 : Shape := ⟨4, ![8, 2, 256, 256]⟩
abbrev S8x2x1x256x1x256 : Shape := ⟨6, ![8, 2, 1, 256, 1, 256]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x1x8x1 : Shape := ⟨4, ![8, 1, 8, 1]⟩
abbrev S8x2x8x256x8x256 : Shape := ⟨6, ![8, 2, 8, 256, 8, 256]⟩
abbrev S8x2x2048x2048 : Shape := ⟨4, ![8, 2, 2048, 2048]⟩
abbrev S4x8x2x2048x2048 : Shape := ⟨5, ![4, 8, 2, 2048, 2048]⟩
abbrev S1x8x2x2048x2048 : Shape := ⟨5, ![1, 8, 2, 2048, 2048]⟩
abbrev S4x8x2x2048 : Shape := ⟨4, ![4, 8, 2, 2048]⟩
abbrev S4x8x2x2048x1 : Shape := ⟨5, ![4, 8, 2, 2048, 1]⟩
abbrev S4x8x2x2048x256 : Shape := ⟨5, ![4, 8, 2, 2048, 256]⟩
abbrev S4x8x1x2048x256 : Shape := ⟨5, ![4, 8, 1, 2048, 256]⟩
abbrev S4x8x2048x256 : Shape := ⟨4, ![4, 8, 2048, 256]⟩
abbrev S4x2048x8 : Shape := ⟨3, ![4, 2048, 8]⟩
abbrev S4x2048x8x1 : Shape := ⟨4, ![4, 2048, 8, 1]⟩
abbrev S1x1x1x256 : Shape := ⟨4, ![1, 1, 1, 256]⟩

abbrev nBuf : Space → Nat
  | .hbm => 114
  | .vmem => 0
  | .smem => 0
  | _ => 0

abbrev bufTy : (tb : Table) → Fin (tcTables nBuf tb) → BufTy
  | .hbm, ⟨0, _⟩ => ⟨S4x2048x6144, .bf16⟩
  | .hbm, ⟨1, _⟩ => ⟨S16x2x256x256, .f32⟩
  | .hbm, ⟨2, _⟩ => ⟨S4x128, .f32⟩
  | .hbm, ⟨3, _⟩ => ⟨S256, .f32⟩
  | .hbm, ⟨4, _⟩ => ⟨S4x2048x6144, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x8x2x128, .f32⟩
  | .hbm, ⟨9, _⟩ => ⟨S4x2048x8x2x128, .f32⟩
  | .hbm, ⟨10, _⟩ => ⟨S4x2048x8x256, .f32⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S128, .f32⟩
  | .hbm, ⟨23, _⟩ => ⟨S128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x2x2x256x256, .f32⟩
  | .hbm, ⟨31, _⟩ => ⟨S8x2x1x256x256, .f32⟩
  | .hbm, ⟨32, _⟩ => ⟨S8x2x256x256, .f32⟩
  | .hbm, ⟨33, _⟩ => ⟨S8x2x1x256x1x256, .f32⟩
  | .hbm, ⟨34, _⟩ => ⟨S8x2x1x256x256, .f32⟩
  | .hbm, ⟨35, _⟩ => ⟨S8x2x256x256, .f32⟩
  | .hbm, ⟨36, _⟩ => ⟨S8x2x1x256x1x256, .f32⟩
  | .hbm, ⟨37, _⟩ => ⟨S8, .i32⟩
  | .hbm, ⟨38, _⟩ => ⟨S8x1, .i32⟩
  | .hbm, ⟨39, _⟩ => ⟨S1x8, .i32⟩
  | .hbm, ⟨40, _⟩ => ⟨S8x8, .i32⟩
  | .hbm, ⟨41, _⟩ => ⟨S8x8, .i32⟩
  | .hbm, ⟨42, _⟩ => ⟨S8x8, .i32⟩
  | .hbm, ⟨43, _⟩ => ⟨S8x1x8x1, .i32⟩
  | .hbm, ⟨44, _⟩ => ⟨S_, .i32⟩
  | .hbm, ⟨45, _⟩ => ⟨S8x1x8x1, .i32⟩
  | .hbm, ⟨46, _⟩ => ⟨S8x1x8x1, .i1⟩
  | .hbm, ⟨47, _⟩ => ⟨S_, .i32⟩
  | .hbm, ⟨48, _⟩ => ⟨S8x1x8x1, .i32⟩
  | .hbm, ⟨49, _⟩ => ⟨S8x1x8x1, .i1⟩
  | .hbm, ⟨50, _⟩ => ⟨S_, .i32⟩
  | .hbm, ⟨51, _⟩ => ⟨S8x1x8x1, .i32⟩
  | .hbm, ⟨52, _⟩ => ⟨S8x1x8x1, .i1⟩
  | .hbm, ⟨53, _⟩ => ⟨S_, .f32⟩
  | .hbm, ⟨54, _⟩ => ⟨S_, .f32⟩
  | .hbm, ⟨55, _⟩ => ⟨S8x1x8x1, .f32⟩
  | .hbm, ⟨56, _⟩ => ⟨S8x1x8x1, .f32⟩
  | .hbm, ⟨57, _⟩ => ⟨S8x1x8x1, .f32⟩
  | .hbm, ⟨58, _⟩ => ⟨S8x1x8x1, .f32⟩
  | .hbm, ⟨59, _⟩ => ⟨S8x2x8x256x8x256, .i1⟩
  | .hbm, ⟨60, _⟩ => ⟨S8x2x8x256x8x256, .f32⟩
  | .hbm, ⟨61, _⟩ => ⟨S8x2x8x256x8x256, .f32⟩
  | .hbm, ⟨62, _⟩ => ⟨S8x2x8x256x8x256, .f32⟩
  | .hbm, ⟨63, _⟩ => ⟨S8x2x8x256x8x256, .i1⟩
  | .hbm, ⟨64, _⟩ => ⟨S8x2x8x256x8x256, .f32⟩
  | .hbm, ⟨65, _⟩ => ⟨S8x2x8x256x8x256, .f32⟩
  | .hbm, ⟨66, _⟩ => ⟨S8x2x2048x2048, .f32⟩
  | .hbm, ⟨67, _⟩ => ⟨S4x8x2x2048x2048, .f32⟩
  | .hbm, ⟨68, _⟩ => ⟨S1x8x2x2048x2048, .f32⟩
  | .hbm, ⟨69, _⟩ => ⟨S4x8x2x2048x2048, .f32⟩
  | .hbm, ⟨70, _⟩ => ⟨S4x8x2x2048x2048, .f32⟩
  | .hbm, ⟨71, _⟩ => ⟨S_, .f32⟩
  | .hbm, ⟨72, _⟩ => ⟨S4x8x2x2048, .f32⟩
  | .hbm, ⟨73, _⟩ => ⟨S4x8x2x2048x1, .f32⟩
  | .hbm, ⟨74, _⟩ => ⟨S4x8x2x2048x2048, .f32⟩
  | .hbm, ⟨75, _⟩ => ⟨S4x8x2x2048x2048, .f32⟩
  | .hbm, ⟨76, _⟩ => ⟨S_, .f32⟩
  | .hbm, ⟨77, _⟩ => ⟨S4x8x2x2048x2048, .f32⟩
  | .hbm, ⟨78, _⟩ => ⟨S4x8x2x2048x2048, .f32⟩
  | .hbm, ⟨79, _⟩ => ⟨S_, .f32⟩
  | .hbm, ⟨80, _⟩ => ⟨S4x8x2x2048, .f32⟩
  | .hbm, ⟨81, _⟩ => ⟨S4x8x2x2048x256, .f32⟩
  | .hbm, ⟨82, _⟩ => ⟨S4x8x2x2048x1, .f32⟩
  | .hbm, ⟨83, _⟩ => ⟨S4x8x2x2048x256, .f32⟩
  | .hbm, ⟨84, _⟩ => ⟨S4x8x2x2048x256, .f32⟩
  | .hbm, ⟨85, _⟩ => ⟨S4x8x1x2048x256, .f32⟩
  | .hbm, ⟨86, _⟩ => ⟨S4x8x2048x256, .f32⟩
  | .hbm, ⟨87, _⟩ => ⟨S4x8x1x2048x256, .f32⟩
  | .hbm, ⟨88, _⟩ => ⟨S4x8x2048x256, .f32⟩
  | .hbm, ⟨89, _⟩ => ⟨S4x8x2048x256, .f32⟩
  | .hbm, ⟨90, _⟩ => ⟨S4x8x2048x256, .f32⟩
  | .hbm, ⟨91, _⟩ => ⟨S4x8x2048x256, .f32⟩
  | .hbm, ⟨92, _⟩ => ⟨S4x2048x8x256, .f32⟩
  | .hbm, ⟨93, _⟩ => ⟨S4x2048x8x256, .f32⟩
  | .hbm, ⟨94, _⟩ => ⟨S_, .f32⟩
  | .hbm, ⟨95, _⟩ => ⟨S4x2048x8, .f32⟩
  | .hbm, ⟨96, _⟩ => ⟨S4x2048x8x1, .f32⟩
  | .hbm, ⟨97, _⟩ => ⟨S_, .f32⟩
  | .hbm, ⟨98, _⟩ => ⟨S4x2048x8x1, .f32⟩
  | .hbm, ⟨99, _⟩ => ⟨S4x2048x8x1, .f32⟩
  | .hbm, ⟨100, _⟩ => ⟨S_, .f32⟩
  | .hbm, ⟨101, _⟩ => ⟨S4x2048x8x1, .f32⟩
  | .hbm, ⟨102, _⟩ => ⟨S4x2048x8x1, .f32⟩
  | .hbm, ⟨103, _⟩ => ⟨S4x2048x8x1, .f32⟩
  | .hbm, ⟨104, _⟩ => ⟨S4x2048x8x256, .f32⟩
  | .hbm, ⟨105, _⟩ => ⟨S4x2048x8x256, .f32⟩
  | .hbm, ⟨106, _⟩ => ⟨S1x1x1x256, .f32⟩
  | .hbm, ⟨107, _⟩ => ⟨S4x2048x8x256, .f32⟩
  | .hbm, ⟨108, _⟩ => ⟨S4x2048x8x256, .f32⟩
  | .hbm, ⟨109, _⟩ => ⟨S_, .f32⟩
  | .hbm, ⟨110, _⟩ => ⟨S4x2048x8x256, .f32⟩
  | .hbm, ⟨111, _⟩ => ⟨S4x2048x8x256, .f32⟩
  | .hbm, ⟨112, _⟩ => ⟨S4x2048x2048, .f32⟩
  | .hbm, ⟨113, _⟩ => ⟨S4x2048x2048, .bf16⟩
  | _, _ => ⟨S4x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c : Ref sig .tc := ⟨.hbm, 44, rfl⟩
abbrev main_v37 : Ref sig .tc := ⟨.hbm, 45, rfl⟩
abbrev main_v38 : Ref sig .tc := ⟨.hbm, 46, rfl⟩
abbrev main_c_2 : Ref sig .tc := ⟨.hbm, 47, rfl⟩
abbrev main_v39 : Ref sig .tc := ⟨.hbm, 48, rfl⟩
abbrev main_v40 : Ref sig .tc := ⟨.hbm, 49, rfl⟩
abbrev main_c_3 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_v43 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_v44 : Ref sig .tc := ⟨.hbm, 62, rfl⟩
abbrev main_call2_v0 : Ref sig .tc := ⟨.hbm, 63, rfl⟩
abbrev main_call2_v1 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_9 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_12 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩

abbrev nD : Nat := 1
abbrev τ : Topo := Topo.v7x

variable {F : FTy → Type} [FloatOps F]
-- ==== Kernel7.lean ====
abbrev S8192x2048 : Shape := ⟨2, ![8192, 2048]⟩
abbrev S2x2048x2048 : Shape := ⟨3, ![2, 2048, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S32x8x2 : Shape := ⟨3, ![32, 8, 2]⟩
abbrev S32x16 : Shape := ⟨2, ![32, 16]⟩
abbrev S16x2x256x256 : Shape := ⟨4, ![16, 2, 256, 256]⟩
abbrev S1x2x256x256 : Shape := ⟨4, ![1, 2, 256, 256]⟩
abbrev S256x256 : Shape := ⟨2, ![256, 256]⟩
abbrev S1x1 : Shape := ⟨2, ![1, 1]⟩
abbrev S1x1x256x256 : Shape := ⟨4, ![1, 1, 256, 256]⟩

abbrev nBuf : Space → Nat
  | .hbm => 3
  | .vmem => 2
  | .smem => 1
  | _ => 0

abbrev bufTy : (tb : Table) → Fin (tcTables nBuf tb) → BufTy
  | .hbm, ⟨0, _⟩ => ⟨S32x8x2, .f32⟩
  | .hbm, ⟨1, _⟩ => ⟨S32x16, .f32⟩
  | .hbm, ⟨2, _⟩ => ⟨S16x2x256x256, .f32⟩
  | .local _ .vmem, ⟨0, _⟩ => ⟨S1x2x256x256, .f32⟩
  | .local _ .vmem, ⟨1, _⟩ => ⟨S1x2x256x256, .f32⟩
  | .local _ .smem, ⟨0, _⟩ => ⟨S32x16, .f32⟩
  | _, _ => ⟨S32x8x2, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0 : Index := 0#32
  let arg0 : BitVec 32 := BitVec.ofNat 32 (i 0).val
  let v28 : Index := Scalar.indexCast arg0
  ![0, v28.toNat]
def k0_off2 (i : grid0.Coords) : Fin 2 → Nat :=
  let c1 : Index := 1#32
  let arg0 : BitVec 32 := BitVec.ofNat 32 (i 0).val
  let v34 : Index := Scalar.indexCast arg0
  ![1, v34.toNat]
def k0_off3 (i : grid0.Coords) : Fin 2 → Nat :=
  let c2 : Index := 2#32
  let arg0 : BitVec 32 := BitVec.ofNat 32 (i 0).val
  let v40 : Index := Scalar.indexCast arg0
  ![2, v40.toNat]
def k0_off4 (i : grid0.Coords) : Fin 2 → Nat :=
  let c3 : Index := 3#32
  let arg0 : BitVec 32 := BitVec.ofNat 32 (i 0).val
  let v46 : Index := Scalar.indexCast arg0
  ![3, v46.toNat]
def k0_off5 (i : grid0.Coords) : Fin 2 → Nat :=
  let c4 : Index := 4#32
  let arg0 : BitVec 32 := BitVec.ofNat 32 (i 0).val
  let v52 : Index := Scalar.indexCast arg0
  ![4, v52.toNat]
def k0_off6 (i : grid0.Coords) : Fin 2 → Nat :=
  let c5 : Index := 5#32
  let arg0 : BitVec 32 := BitVec.ofNat 32 (i 0).val
  let v58 : Index := Scalar.indexCast arg0
  ![5, v58.toNat]
def k0_off7 (i : grid0.Coords) : Fin 2 → Nat :=
  let c6 : Index := 6#32
  let arg0 : BitVec 32 := BitVec.ofNat 32 (i 0).val
  let v64 : Index := Scalar.indexCast arg0
  ![6, v64.toNat]
def k0_off8 (i : grid0.Coords) : Fin 2 → Nat :=
  let c7 : Index := 7#32
  let arg0 : BitVec 32 := BitVec.ofNat 32 (i 0).val
  let v70 : Index := Scalar.indexCast arg0
  ![7, v70.toNat]
def k0_off9 (i : grid0.Coords) : Fin 2 → Nat :=
  let c8 : Index := 8#32
  let arg0 : BitVec 32 := BitVec.ofNat 32 (i 0).val
  let v76 : Index := Scalar.indexCast arg0
  ![8, v76.toNat]
def k0_off10 (i : grid0.Coords) : Fin 2 → Nat :=
  let c9 : Index := 9#32
  let arg0 : BitVec 32 := BitVec.ofNat 32 (i 0).val
  let v82 : Index := Scalar.indexCast arg0
  ![9, v82.toNat]
def k0_off11 (i : grid0.Coords) : Fin 2 → Nat :=
  let c10 : Index := 10#32
  let arg0 : BitVec 32 := BitVec.ofNat 32 (i 0).val
  let v88 : Index := Scalar.indexCast arg0
  ![10, v88.toNat]
def k0_off12 (i : grid0.Coords) : Fin 2 → Nat :=
  let c11 : Index := 11#32
  let arg0 : BitVec 32 := BitVec.ofNat 32 (i 0).val
  let v94 : Index := Scalar.indexCast arg0
  ![11, v94.toNat]
def k0_off13 (i : grid0.Coords) : Fin 2 → Nat :=
  let c12 : Index := 12#32
  let arg0 : BitVec 32 := BitVec.ofNat 32 (i 0).val
  let v100 : Index := Scalar.indexCast arg0
  ![12, v100.toNat]
def k0_off14 (i : grid0.Coords) : Fin 2 → Nat :=
  let c13 : Index := 13#32
  let arg0 : BitVec 32 := BitVec.ofNat 32 (i 0).val
  let v106 : Index := Scalar.indexCast arg0
  ![13, v106.toNat]
def k0_off15 (i : grid0.Coords) : Fin 2 → Nat :=
  let c14 : Index := 14#32
  let arg0 : BitVec 32 := BitVec.ofNat 32 (i 0).val
  let v112 : Index := Scalar.indexCast arg0
  ![14, v112.toNat]
def k0_off16 (i : grid0.Coords) : Fin 2 → Nat :=
  let c15 : Index := 15#32
  let arg0 : BitVec 32 := BitVec.ofNat 32 (i 0).val
  let v118 : Index := Scalar.indexCast arg0
  ![15, v118.toNat]
def k0_off17 (i : grid0.Coords) : Fin 2 → Nat :=
  let c16 : Index := 16#32
  let arg0 : BitVec 32 := BitVec.ofNat 32 (i 0).val
  let v124 : Index := Scalar.indexCast arg0
  ![16, v124.toNat]
def k0_off18 (i : grid0.Coords) : Fin 2 → Nat :=
  let c17 : Index := 17#32
  let arg0 : BitVec 32 := BitVec.ofNat 32 (i 0).val
  let v130 : Index := Scalar.indexCast arg0
  ![17, v130.toNat]
def k0_off19 (i : grid0.Coords) : Fin 2 → Nat :=
  let c18 : Index := 18#32
  let arg0 : BitVec 32 := BitVec.ofNat 32 (i 0).val
  let v136 : Index := Scalar.indexCast arg0
  ![18, v136.toNat]
def k0_off20 (i : grid0.Coords) : Fin 2 → Nat :=
  let c19 : Index := 19#32
  let arg0 : BitVec 32 := BitVec.ofNat 32 (i 0).val
  let v142 : Index := Scalar.indexCast arg0
  ![19, v142.toNat]
def k0_off21 (i : grid0.Coords) : Fin 2 → Nat :=
  let c20 : Index := 20#32
  let arg0 : BitVec 32 := BitVec.ofNat 32 (i 0).val
  let v148 : Index := Scalar.indexCast arg0
  ![20, v148.toNat]
def k0_off22 (i : grid0.Coords) : Fin 2 → Nat :=
  let c21 : Index := 21#32
  let arg0 : BitVec 32 := BitVec.ofNat 32 (i 0).val
  let v154 : Index := Scalar.indexCast arg0
  ![21, v154.toNat]
def k0_off23 (i : grid0.Coords) : Fin 2 → Nat :=
  let c22 : Index := 22#32
  let arg0 : BitVec 32 := BitVec.ofNat 32 (i 0).val
  let v160 : Index := Scalar.indexCast arg0
  ![22, v160.toNat]
def k0_off24 (i : grid0.Coords) : Fin 2 → Nat :=
  let c23 : Index := 23#32
  let arg0 : BitVec 32 := BitVec.ofNat 32 (i 0).val
  let v166 : Index := Scalar.indexCast arg0
  ![23, v166.toNat]
def k0_off25 (i : grid0.Coords) : Fin 2 → Nat :=
  let c24 : Index := 24#32
  let arg0 : BitVec 32 := BitVec.ofNat 32 (i 0).val
  let v172 : Index := Scalar.indexCast arg0
  ![24, v172.toNat]
def k0_off26 (i : grid0.Coords) : Fin 2 → Nat :=
  let c25 : Index := 25#32
  let arg0 : BitVec 32 := BitVec.ofNat 32 (i 0).val
  let v178 : Index := Scalar.indexCast arg0
  ![25, v178.toNat]
def k0_off27 (i : grid0.Coords) : Fin 2 → Nat :=
  let c26 : Index := 26#32
  let arg0 : BitVec 32 := BitVec.ofNat 32 (i 0).val
  let v184 : Index := Scalar.indexCast arg0
  ![26, v184.toNat]
def k0_off28 (i : grid0.Coords) : Fin 2 → Nat :=
  let c27 : Index := 27#32
  let arg0 : BitVec 32 := BitVec.ofNat 32 (i 0).val
  let v190 : Index := Scalar.indexCast arg0
  ![27, v190.toNat]
def k0_off29 (i : grid0.Coords) : Fin 2 → Nat :=
  let c28 : Index := 28#32
  let arg0 : BitVec 32 := BitVec.ofNat 32 (i 0).val
  let v196 : Index := Scalar.indexCast arg0
  ![28, v196.toNat]
def k0_off30 (i : grid0.Coords) : Fin 2 → Nat :=
  let c29 : Index := 29#32
  let arg0 : BitVec 32 := BitVec.ofNat 32 (i 0).val
  let v202 : Index := Scalar.indexCast arg0
  ![29, v202.toNat]
def k0_off31 (i : grid0.Coords) : Fin 2 → Nat :=
  let c30 : Index := 30#32
  let arg0 : BitVec 32 := BitVec.ofNat 32 (i 0).val
  let v208 : Index := Scalar.indexCast arg0
  ![30, v208.toNat]
def k0_off32 (i : grid0.Coords) : Fin 2 → Nat :=
  let c31 : Index := 31#32
  let arg0 : BitVec 32 := BitVec.ofNat 32 (i 0).val
  let v214 : Index := Scalar.indexCast arg0
  ![31, v214.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel9Ideal.lean ====
variable {F : FTy → Type} [FloatOps F] [Named F]
def κ : String → Option EReal := fun
  | "log2e" => some (((Real.log 2)⁻¹ : ℝ) : EReal)
  | "mask" => some ⊥
  | _ => none
-- ==== Reference9Ideal.lean ====
abbrev S32x8x2 : Shape := ⟨3, ![32, 8, 2]⟩
abbrev S256 : Shape := ⟨1, ![256]⟩
abbrev S2 : Shape := ⟨1, ![2]⟩
abbrev S1x256x1 : Shape := ⟨3, ![1, 256, 1]⟩
abbrev S1x1x256 : Shape := ⟨3, ![1, 1, 256]⟩
abbrev S1x256x256 : Shape := ⟨3, ![1, 256, 256]⟩
abbrev S2x1x1 : Shape := ⟨3, ![2, 1, 1]⟩
abbrev S_ : Shape := ⟨0, ![]⟩
abbrev S2x256x256 : Shape := ⟨3, ![2, 256, 256]⟩
abbrev S32x16 : Shape := ⟨2, ![32, 16]⟩
abbrev S16x32 : Shape := ⟨2, ![16, 32]⟩
abbrev S1x2x256x256x1 : Shape := ⟨5, ![1, 2, 256, 256, 1]⟩
abbrev S32 : Shape := ⟨1, ![32]⟩
abbrev S1x1x1x1x32 : Shape := ⟨5, ![1, 1, 1, 1, 32]⟩
abbrev S1x2x256x256x32 : Shape := ⟨5, ![1, 2, 256, 256, 32]⟩
abbrev S16x1x1x1x32 : Shape := ⟨5, ![16, 1, 1, 1, 32]⟩
abbrev S16x2x256x256x32 : Shape := ⟨5, ![16, 2, 256, 256, 32]⟩
abbrev S16x2x256x256 : Shape := ⟨4, ![16, 2, 256, 256]⟩
abbrev S16x1 : Shape := ⟨2, ![16, 1]⟩
abbrev S16 : Shape := ⟨1, ![16]⟩
abbrev S16x1x1x1 : Shape := ⟨4, ![16, 1, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S32x8x2, .f32⟩
  | .hbm, ⟨1, _⟩ => ⟨S256, .i32⟩
  | .hbm, ⟨2, _⟩ => ⟨S2, .i32⟩
  | .hbm, ⟨3, _⟩ => ⟨S1x256x1, .i32⟩
  | .hbm, ⟨4, _⟩ => ⟨S1x1x256, .i32⟩
  | .hbm, ⟨5, _⟩ => ⟨S1x256x256, .i32⟩
  | .hbm, ⟨6, _⟩ => ⟨S1x256x256, .i32⟩
  | .hbm, ⟨7, _⟩ => ⟨S1x256x256, .i32⟩
  | .hbm, ⟨8, _⟩ => ⟨S2x1x1, .i32⟩
  | .hbm, ⟨9, _⟩ => ⟨S_, .i32⟩
  | .hbm, ⟨10, _⟩ => ⟨S2x1x1, .i32⟩
  | .hbm, ⟨11, _⟩ => ⟨S2x1x1, .i32⟩
  | .hbm, ⟨12, _⟩ => ⟨S2x256x256, .i32⟩
  | .hbm, ⟨13, _⟩ => ⟨S2x256x256, .i32⟩
  | .hbm, ⟨14, _⟩ => ⟨S2x256x256, .i32⟩
  | .hbm, ⟨15, _⟩ => ⟨S_, .i32⟩
  | .hbm, ⟨16, _⟩ => ⟨S2x256x256, .i32⟩
  | .hbm, ⟨17, _⟩ => ⟨S2x256x256, .i32⟩
  | .hbm, ⟨18, _⟩ => ⟨S_, .i32⟩
  | .hbm, ⟨19, _⟩ => ⟨S2x256x256, .i32⟩
  | .hbm, ⟨20, _⟩ => ⟨S2x256x256, .i32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S_, .f32⟩
  | .hbm, ⟨30, _⟩ => ⟨S2x256x256, .f32⟩
  | .hbm, ⟨31, _⟩ => ⟨S2x256x256, .f32⟩
  | .hbm, ⟨32, _⟩ => ⟨S2x256x256, .i32⟩
  | .hbm, ⟨33, _⟩ => ⟨S_, .i32⟩
  | .hbm, ⟨34, _⟩ => ⟨S2x256x256, .i32⟩
  | .hbm, ⟨35, _⟩ => ⟨S2x256x256, .i32⟩
  | .hbm, ⟨36, _⟩ => ⟨S_, .i32⟩
  | .hbm, ⟨37, _⟩ => ⟨S2x256x256, .i32⟩
  | .hbm, ⟨38, _⟩ => ⟨S2x256x256, .i1⟩
  | .hbm, ⟨39, _⟩ => ⟨S_, .i32⟩
  | .hbm, ⟨40, _⟩ => ⟨S2x256x256, .i32⟩
  | .hbm, ⟨41, _⟩ => ⟨S2x256x256, .i32⟩
  | .hbm, ⟨42, _⟩ => ⟨S2x256x256, .i32⟩
  | .hbm, ⟨43, _⟩ => ⟨S32x16, .f32⟩
  | .hbm, ⟨44, _⟩ => ⟨S16x32, .f32⟩
  | .hbm, ⟨45, _⟩ => ⟨S1x2x256x256x1, .i32⟩
  | .hbm, ⟨46, _⟩ => ⟨S32, .i32⟩
  | .hbm, ⟨47, _⟩ => ⟨S1x1x1x1x32, .i32⟩
  | .hbm, ⟨48, _⟩ => ⟨S1x2x256x256x32, .i32⟩
  | .hbm, ⟨49, _⟩ => ⟨S1x2x256x256x32, .i32⟩
  | .hbm, ⟨50, _⟩ => ⟨S1x2x256x256x32, .i1⟩
  | .hbm, ⟨51, _⟩ => ⟨S16x1x1x1x32, .f32⟩
  | .hbm, ⟨52, _⟩ => ⟨S_, .f32⟩
  | .hbm, ⟨53, _⟩ => ⟨S_, .f32⟩
  | .hbm, ⟨54, _⟩ => ⟨S16x2x256x256x32, .i1⟩
  | .hbm, ⟨55, _⟩ => ⟨S16x2x256x256x32, .f32⟩
  | .hbm, ⟨56, _⟩ => ⟨S16x2x256x256x32, .f32⟩
  | .hbm, ⟨57, _⟩ => ⟨S16x2x256x256x32, .f32⟩
  | .hbm, ⟨58, _⟩ => ⟨S_, .f32⟩
  | .hbm, ⟨59, _⟩ => ⟨S16x2x256x256, .f32⟩
  | .hbm, ⟨60, _⟩ => ⟨S16x1, .f32⟩
  | .hbm, ⟨61, _⟩ => ⟨S16, .f32⟩
  | .hbm, ⟨62, _⟩ => ⟨S16x1x1x1, .f32⟩
  | .hbm, ⟨63, _⟩ => ⟨S16x2x256x256, .f32⟩
  | .hbm, ⟨64, _⟩ => ⟨S16x2x256x256, .f32⟩
  | .hbm, ⟨65, _⟩ => ⟨S_, .f32⟩
  | .hbm, ⟨66, _⟩ => ⟨S_, .f32⟩
  | .hbm, ⟨67, _⟩ => ⟨S16x2x256x256, .f32⟩
  | .hbm, ⟨68, _⟩ => ⟨S16x2x256x256, .f32⟩
  | .hbm, ⟨69, _⟩ => ⟨S_, .i32⟩
  | .hbm, ⟨70, _⟩ => ⟨S2x256x256, .i32⟩
  | .hbm, ⟨71, _⟩ => ⟨S2x256x256, .i1⟩
  | .hbm, ⟨72, _⟩ => ⟨S_, .f32⟩
  | .hbm, ⟨73, _⟩ => ⟨S_, .f32⟩
  | .hbm, ⟨74, _⟩ => ⟨S16x2x256x256, .i1⟩
  | .hbm, ⟨75, _⟩ => ⟨S16x2x256x256, .f32⟩
  | .hbm, ⟨76, _⟩ => ⟨S16x2x256x256, .f32⟩
  | _, _ => ⟨S32x8x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c_0 : Ref sig .tc := ⟨.hbm, 15, rfl⟩
abbrev main_v13 : Ref sig .tc := ⟨.hbm, 16, rfl⟩
abbrev main_v14 : Ref sig .tc := ⟨.hbm, 17, rfl⟩
abbrev main_c_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_4 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_v28 : Ref sig .tc := ⟨.hbm, 37, rfl⟩
abbrev main_v29 : Ref sig .tc := ⟨.hbm, 38, rfl⟩
abbrev main_c_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_7 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Proof.FoxLoop.lean ====
/- The attention kernel's loop over query blocks: what one block of 256 query rows stores, as a function of the six
   staged input blocks, and the invariant of the loop that stores the eight blocks one after the other. -/
module

public import proofs.«01_k».proof.Proof.Gen.KernelIdeal.Frame
public import proofs.«01_k».proof.Proof.Gen.KernelIdeal.Loops

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## What one query block computes -/

/-- The 256 rows of query block `k` (also the rows of the diagonal key tile). -/
abbrev rowsOf (k : Fin k0_t1_loop.trips) : Rect S1x2048x128 :=
  Rect.unit (s := S1x2048x128) (k0_off1 k) S1x256x128.size (k0_off1_inb k)
/-- The 256 rows of key tile `j` before query block `k`. -/
abbrev keysOf (k : Fin k0_t1_loop.trips) (j : Fin (k0_t2_loop k).trips) : Rect S1x2048x128 :=
  Rect.unit (s := S1x2048x128) (k0_off2 k j) S1x256x128.size (k0_off2_inb k j)

/-- The carried triple: running maximum, running sum, running weighted values. -/
abbrev Carry (F : FTy → Type) := FVec F S256x1 .f32 × FVec F S256x1 .f32 × FVec F S256x128 .f32

/-- One full key tile folded into the carried triple. -/
def stepTile (q cq k ck v : Vec F S1x256x128 .bf16) (a : Carry F) : Carry F :=
  (k0_pay8 q cq a.1 k ck, k0_pay11 q cq a.1 a.2.1 k ck, k0_pay12 q cq a.1 a.2.2 k ck v)

/-- The carried triple after the first `n` key tiles before query block `k`. -/
def carry (x0 x1 x2 x3 x4 : Vec F S1x2048x128 .bf16) (k : Fin k0_t1_loop.trips) : ℕ → Carry F
  | 0 => (k0_pay4, k0_pay5, k0_pay6)
  | n + 1 =>
    if h : n < (k0_t2_loop k).trips then
      stepTile (View.ld x0 (rowsOf k)) (View.ld x1 (rowsOf k)) (View.ld x2 (keysOf k ⟨n, h⟩)) (View.ld x3 (keysOf k ⟨n, h⟩))
        (View.ld x4 (keysOf k ⟨n, h⟩)) (carry x0 x1 x2 x3 x4 k n)
    else carry x0 x1 x2 x3 x4 k n

/-- The diagonal tile folded in, divided and gated: the block's stored rows from the carried triple. -/
def finish (q cq k ck v g : Vec F S1x256x128 .bf16) (a : Carry F) : Vec F S1x256x128 .bf16 :=
  k0_pay2 a.1 a.2.1 a.2.2 (k0_pay19 v) (k0_pay20 k0_pay1 q cq k ck) (k0_pay21 k0_pay1 q cq a.1 k ck) g

/-- What query block `k` stores. -/
def block (x0 x1 x2 x3 x4 x5 : Vec F S1x2048x128 .bf16) (k : Fin k0_t1_loop.trips) : Vec F S1x256x128 .bf16 :=
  finish (View.ld x0 (rowsOf k)) (View.ld x1 (rowsOf k)) (View.ld x2 (rowsOf k)) (View.ld x3 (rowsOf k)) (View.ld x4 (rowsOf k))
    (View.ld x5 (rowsOf k)) (carry x0 x1 x2 x3 x4 k (k0_t2_loop k).trips)

/-- The first `n` blocks' stores, newest first. -/
def pieces (x0 x1 x2 x3 x4 x5 : Vec F S1x2048x128 .bf16) : ℕ → List (View.Piece (Elt F) S1x2048x128 .bf16)
  | 0 => []
  | n + 1 =>
    if h : n < k0_t1_loop.trips then ⟨rowsOf ⟨n, h⟩, block x0 x1 x2 x3 x4 x5 ⟨n, h⟩⟩ :: pieces x0 x1 x2 x3 x4 x5 n
    else pieces x0 x1 x2 x3 x4 x5 n

theorem pieces_succ (x0 x1 x2 x3 x4 x5 : Vec F S1x2048x128 .bf16) (k : Fin k0_t1_loop.trips) :
    pieces x0 x1 x2 x3 x4 x5 (k.val + 1)
      = [⟨rowsOf k, block x0 x1 x2 x3 x4 x5 k⟩] ++ pieces x0 x1 x2 x3 x4 x5 k.val := by
  rw [pieces, dif_pos k.isLt]; rfl

/-! ## One trip of the loop over query blocks -/

section Trip

variable (c : Dev nD) (i : grid0.Coords)
  (arg2 : Memref sig .tc .vmem S1x2048x128 .bf16) (harg2 : arg2.IsWhole) (arg3 : Memref sig .tc .vmem S1x2048x128 .bf16) (harg3 : arg3.IsWhole)
  (arg4 : Memref sig .tc .vmem S1x2048x128 .bf16) (harg4 : arg4.IsWhole) (arg5 : Memref sig .tc .vmem S1x2048x128 .bf16) (harg5 : arg5.IsWhole)
  (arg6 : Memref sig .tc .vmem S1x2048x128 .bf16) (harg6 : arg6.IsWhole) (arg7 : Memref sig .tc .vmem S1x2048x128 .bf16) (harg7 : arg7.IsWhole)
  (arg8 : Memref sig .tc .vmem S1x2048x128 .bf16) (harg8 : arg8.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)

/-- A staging buffer held whole at contents `X`. -/
abbrev held (arg : Memref sig .tc .vmem S1x2048x128 .bf16) (X : BufTy.Contents (Elt F) arg.view.ty) : sProp 𝕄 :=
  arg.view.loc (c : Thread nD τ) ↦[arg.view.set]{fullShare} X

/-- The seven staging buffers, the output's at `f`. -/
abbrev res (f : BufTy.Contents (Elt F) arg8.view.ty) : sProp 𝕄 :=
  iprop(held c arg2 X2 ∗ held c arg3 X3 ∗ held c arg4 X4 ∗ held c arg5 X5 ∗ held c arg6 X6 ∗ held c arg7 X7 ∗ held c arg8 f)

set_option maxHeartbeats 2000000 in
/-- One trip: the block it stores is found by running it. -/
@[irreducible] def trip (k : Fin k0_t1_loop.trips) :
    { w : Vec F S1x256x128 .bf16 // ∀ (E : Set ℕ) (f : BufTy.Contents (Elt F) arg8.view.ty),
      res c arg2 arg3 arg4 arg5 arg6 arg7 arg8 X2 X3 X4 X5 X6 X7 f
      ⊢ wp frame (wpE (defs₀ (F := F)) Variants.none (c : Thread nD τ) none) E
          (k0_t1_body (F := F) i arg2 harg2 arg3 harg3 arg4 harg4 arg5 harg5 arg6 harg6 arg7 harg7 arg8 harg8 k ())
          (fun _ => res c arg2 arg3 arg4 arg5 arg6 arg7 arg8 X2 X3 X4 X5 X6 X7 (arg8.view.writes (Elt F) f [⟨rowsOf k, w⟩])) } := by
  refine ⟨?_, fun E f => ?run⟩
  case run =>
    unfold k0_t1_body
    iintro ⟨H2, H3, H4, H5, H6, H7, H8⟩
    sl_exec
    sl_step
    sl_close

/-- Input contents as the values read through the whole buffers. -/
abbrev val (arg : Memref sig .tc .vmem S1x2048x128 .bf16) (X : BufTy.Contents (Elt F) arg.view.ty) : Vec F S1x2048x128 .bf16 :=
  arg.view.read (Elt F) X

/-- The key-tile loop's yield, in the payloads' names. -/
theorem tripR_eq (k : Fin k0_t1_loop.trips) (j : Fin (k0_t2_loop k).trips) (v7 v10 : Vec F S1x256x128 .bf16) (a : Carry F) :
    tripR_k0_t2 (F := F) Variants.none c none i arg2 harg2 arg3 harg3 arg4 harg4 arg5 harg5 arg6 harg6 arg7 harg7 arg8 harg8 k0_pay1 0#32 1#32 k v7 v10 X4 X5 X6 j a
      = stepTile v7 v10 (View.ld (val arg4 X4) (keysOf k j)) (View.ld (val arg5 X5) (keysOf k j)) (View.ld (val arg6 X6) (keysOf k j)) a := by
  unfold tripR_k0_t2 trip_k0_t2
  rfl

/-- The key-tile loop's carried triple is `carry`. -/
theorem st_eq (k : Fin k0_t1_loop.trips) : ∀ n, n ≤ (k0_t2_loop k).trips →
    st_k0_t2 (F := F) Variants.none c none i arg2 harg2 arg3 harg3 arg4 harg4 arg5 harg5 arg6 harg6 arg7 harg7 arg8 harg8 k0_pay1 0#32 1#32 k
        (View.ld (val arg2 X2) (rowsOf k)) (View.ld (val arg3 X3) (rowsOf k)) X4 X5 X6 (k0_pay4, k0_pay5, k0_pay6) n
      = carry (val arg2 X2) (val arg3 X3) (val arg4 X4) (val arg5 X5) (val arg6 X6) k n
  | 0, _ => st_k0_t2_zero ..
  | n + 1, h => by
    rw [st_k0_t2_succ (F := F) (k := ⟨n, h⟩), tripR_eq, st_eq k n (Nat.le_of_lt h), carry, dif_pos (show n < (k0_t2_loop k).trips from h)]

/-- The remainder loop runs no trips. -/
theorem t3_trips (k : Fin k0_t1_loop.trips) : (k0_t3_loop k).trips = 0 := Nat.le_zero.1 (k0_t3_abs k).2.1

/-- What the trip stores is the query block's value. -/
theorem trip_eq (k : Fin k0_t1_loop.trips) :
    (trip (F := F) c i arg2 harg2 arg3 harg3 arg4 harg4 arg5 harg5 arg6 harg6 arg7 harg7 arg8 harg8 X2 X3 X4 X5 X6 X7 k).1
      = block (val arg2 X2) (val arg3 X3) (val arg4 X4) (val arg5 X5) (val arg6 X6) (val arg7 X7) k := by
  have h3 : Scf.trips (k0_t3_loop k).lb (k0_t3_loop k).ub (k0_t3_loop k).st = 0 := t3_trips k
  unfold block
  rw [← st_eq (F := F) c i arg2 harg2 arg3 harg3 arg4 harg4 arg5 harg5 arg6 harg6 arg7 harg7 arg8 harg8 X2 X3 X4 X5 X6 k _ le_rfl]
  unfold trip
  sl_unfold_run_names
  simp only [h3, st_k0_t3_zero]
  rfl

set_option warn.classDefReducibility false in
/-- The loop over query blocks by its invariant: before trip `k` the output holds the first `k` blocks' stores. -/
@[sl_loop] def loopInv (E : Set ℕ) (f : BufTy.Contents (Elt F) arg8.view.ty) :
    LoopInvTy_k0_t1 (F := F) Unit ℕ (UR sig nD τ) ℕ Variants.none c none E i arg2 harg2 arg3 harg3 arg4 harg4 arg5 harg5 arg6 harg6 arg7 harg7 arg8 harg8 where
  inv k _ := res c arg2 arg3 arg4 arg5 arg6 arg7 arg8 X2 X3 X4 X5 X6 X7
    (arg8.view.writes (Elt F) f (pieces (val arg2 X2) (val arg3 X3) (val arg4 X4) (val arg5 X5) (val arg6 X6) (val arg7 X7) k))
  step k _ := by
    iintro H
    iapply (wp_wand_r Idealize.ShloMosaic.frame (wpE (defs₀ (F := F)) Variants.none (c : Thread nD τ) none) E)
    isplitl [H]
    · iapply (trip (F := F) c i arg2 harg2 arg3 harg3 arg4 harg4 arg5 harg5 arg6 harg6 arg7 harg7 arg8 harg8 X2 X3 X4 X5 X6 X7 k).2 E _
      iexact H
    · iintro %_ H
      rw [pieces_succ, View.writes_append, trip_eq]
      iexact H

end Trip

end Cert.KernelIdeal.Fox

end
-- ==== Proof.FoxFrame.lean ====
/- The attention kernel's launch: what the body leaves in the output's staging buffer at each grid point, and the run of
   the whole program — the argument arrays end unchanged, every counter ends at zero, and the output array is written
   block by block. -/
module

public import proofs.«01_k».proof.Proof.FoxLoop
public import proofs.«01_k».proof.Proof.Gen.KernelIdeal.Points
public import proofs.«01_k».proof.Proof.Gen.KernelIdeal.Launch
public import Idealize.ShloMosaic.Lib.Pipeline.FrameBody
public import Idealize.ShloMosaic.Lib.Claim

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The output block after the body: the eight query blocks' stores. -/
def outBlock (x0 x1 x2 x3 x4 x5 : Vec F S1x2048x128 .bf16) : Vec F S1x2048x128 .bf16 :=
  View.canon (pieces x0 x1 x2 x3 x4 x5 8)

theorem trips_eq : k0_t1_loop.trips = 8 := by decide +kernel

/-- Row `y 1` lies in the rows of query block `y 1 / 256`. -/
theorem mem_rowsOf (y : S1x2048x128.Idx) (k : Fin k0_t1_loop.trips) :
    y ∈ (rowsOf k).set ↔ 256 * k.val ≤ (y 1).val ∧ (y 1).val < 256 * k.val + 256 := by
  rw [Rect.mem_set_unit, k0_off1_eq]
  constructor
  · intro h; exact h 1
  · intro h a
    match a with
    | ⟨0, _⟩ => exact ⟨Nat.zero_le _, by have := (y 0).isLt; simpa using this⟩
    | ⟨1, _⟩ => exact h
    | ⟨2, _⟩ => exact ⟨Nat.zero_le _, by have := (y 2).isLt; simpa using this⟩

theorem pieces_mem (x0 x1 x2 x3 x4 x5 : Vec F S1x2048x128 .bf16) (k : Fin k0_t1_loop.trips) :
    ∀ n, k.val < n → (⟨rowsOf k, block x0 x1 x2 x3 x4 x5 k⟩ : View.Piece (Elt F) S1x2048x128 .bf16) ∈ pieces x0 x1 x2 x3 x4 x5 n
  | 0, h => absurd h (Nat.not_lt_zero _)
  | n + 1, h => by
    rw [pieces]
    split
    · next hn =>
      rcases Nat.lt_succ_iff_lt_or_eq.1 h with h' | h'
      · exact List.mem_cons_of_mem _ (pieces_mem x0 x1 x2 x3 x4 x5 k n h')
      · subst h'; exact List.mem_cons_self
    · next hn => exact pieces_mem x0 x1 x2 x3 x4 x5 k n (lt_of_lt_of_le k.isLt (Nat.not_lt.1 hn))

/-- The eight stores cover the block. -/
theorem cover (x0 x1 x2 x3 x4 x5 : Vec F S1x2048x128 .bf16) (y : S1x2048x128.Idx) :
    ∃ pc ∈ pieces x0 x1 x2 x3 x4 x5 8, y ∈ pc.1.set := by
  have hy : (y 1).val < 2048 := (y 1).isLt
  have hk : (y 1).val / 256 < k0_t1_loop.trips := by rw [trips_eq]; omega
  refine ⟨_, pieces_mem x0 x1 x2 x3 x4 x5 ⟨_, hk⟩ 8 (by show (y 1).val / 256 < 8; omega), ?_⟩
  rw [mem_rowsOf]
  show 256 * ((y 1).val / 256) ≤ _ ∧ _ < 256 * ((y 1).val / 256) + 256
  omega

set_option maxHeartbeats 1000000 in
/-- The kernel body on whole staging buffers: the inputs stay as they were, the output's buffer ends at `outBlock`. -/
theorem sound_kernel (c : Dev nD) (E : Set ℕ) (i : grid0.Coords)
    (arg2 : Memref sig .tc .vmem S1x2048x128 .bf16) (harg2 : arg2.IsWhole) (arg3 : Memref sig .tc .vmem S1x2048x128 .bf16) (harg3 : arg3.IsWhole)
    (arg4 : Memref sig .tc .vmem S1x2048x128 .bf16) (harg4 : arg4.IsWhole) (arg5 : Memref sig .tc .vmem S1x2048x128 .bf16) (harg5 : arg5.IsWhole)
    (arg6 : Memref sig .tc .vmem S1x2048x128 .bf16) (harg6 : arg6.IsWhole) (arg7 : Memref sig .tc .vmem S1x2048x128 .bf16) (harg7 : arg7.IsWhole)
    (arg8 : Memref sig .tc .vmem S1x2048x128 .bf16) (harg8 : arg8.IsWhole)
    (x0 x1 x2 x3 x4 x5 : Vec F S1x2048x128 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outBlock x0 x1 x2 x3 x4 x5)) -∗ K ⟨⟩))
      ⊢ wp frame (wpE (defs₀ (F := F)) Variants.none c none) E
          (cc0_fox_attn i arg2 harg2 arg3 harg3 arg4 harg4 arg5 harg5 arg6 harg6 arg7 harg7 arg8 harg8) K := by
  simp only [cc0_fox_attn_eq_skeleton]; unfold cc0_fox_attn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [show Scf.trips k0_t1_loop.lb k0_t1_loop.ub k0_t1_loop.st = 8 from trips_eq]
  exact View.read_writes_eq_canon _ _ _ (cover _ _ _ _ _ _)

variable (m : (ℓ : Loc nD τ sig) → Buf (Elt F) ℓ) (ρ : Dev nD → PrngReg)

/-! ## The launch's proof data -/

/-- The proof data of the one call on core `c`: the arrays as launched; after the body each input's buffer at its block
    and the output's at `outBlock` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a grid point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution terminates; at every end the arrays are what the launch's data say and every counter is zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_frame : θ_run defs (onTc (τ := τ) (main (F := F))) (s₀ m ρ) (Pipeline.FramePost cfgs (dats m) 0 (V m)) :=
  (θ_run defs _ _).mono (fun _ h => h.1) (run_quiescent m ρ)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_frame m ρ)) ((θ_run defs _ _).mono (fun _ h => h.2) (run_quiescent m ρ))

end Cert.KernelIdeal.Fox

end
-- ==== Proof.Softmax.lean ====
/- A softmax in base two taken over a growing prefix of columns, on the extended reals. Three numbers describe a prefix:
   the largest score, the sum of the powers of two of the scores shifted by it, and the same sum weighted by the values.
   Appending a stretch of columns rescales the old sums by one factor; columns whose score is minus infinity change nothing.
   No finiteness is assumed anywhere. -/
module

public import Idealize.ShloMosaic.PureOps.Ideal

@[expose] public section

noncomputable section

namespace Cert.Softmax

open Idealize.ShloMosaic

/-! ## Powers of two of differences -/

theorem exp2_nonneg (x : EReal) : 0 ≤ Ideal.exp2 x := by
  induction x using EReal.rec with
  | bot => simp
  | top => simp
  | coe r => rw [Ideal.exp2_coe]; exact_mod_cast Real.rpow_nonneg (by norm_num) r

/-- A difference `m - m'` with `m ≤ m'` is never plus infinity, so its power of two is finite. -/
theorem exp2_sub_ne_top {m m' : EReal} (h : m ≤ m') : Ideal.exp2 (m - m') ≠ ⊤ := by
  induction m using EReal.rec with
  | bot => simp
  | top => rw [top_le_iff.1 h]; simp
  | coe r =>
    induction m' using EReal.rec with
    | bot => simp at h
    | top => simp
    | coe r' => rw [← EReal.coe_sub, Ideal.exp2_coe]; exact EReal.coe_ne_top _

/-- Rescaling: shifting by `m` and then correcting by `m - m'` is shifting by `m'`. -/
theorem exp2_rescale {x m m' : EReal} (hx : x ≤ m) (hm : m ≤ m') :
    Ideal.exp2 (m - m') * Ideal.exp2 (x - m) = Ideal.exp2 (x - m') := by
  induction m' using EReal.rec with
  | bot =>
    obtain rfl := le_bot_iff.1 hm
    obtain rfl := le_bot_iff.1 hx
    simp
  | top =>
    have e : ∀ y : EReal, Ideal.exp2 (y - ⊤) = 0 := fun y => by
      induction y using EReal.rec <;> simp
    rw [e, e, zero_mul]
  | coe r' =>
    induction m using EReal.rec with
    | top => simp at hm
    | bot => obtain rfl := le_bot_iff.1 hx; simp
    | coe r =>
      induction x using EReal.rec with
      | bot => simp
      | top => simp at hx
      | coe s =>
        rw [← EReal.coe_sub, ← EReal.coe_sub, ← EReal.coe_sub, Ideal.exp2_coe, Ideal.exp2_coe, Ideal.exp2_coe,
          ← EReal.coe_mul]
        have e := Real.rpow_add (show (0 : ℝ) < 2 by norm_num) (r - r') (s - r)
        rw [show r - r' + (s - r) = s - r' by ring] at e
        exact congrArg _ e.symm

/-- A finite nonnegative factor distributes over a sum of extended reals. -/
theorem mul_sum {ι : Type} (a : EReal) (h0 : 0 ≤ a) (ht : a ≠ ⊤) (s : Finset ι) (f : ι → EReal) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

/-! ## The three numbers of a prefix -/

/-- The largest of the first `n` scores; minus infinity when there is none. -/
def top (s : ℕ → EReal) (n : ℕ) : EReal := (Finset.range n).sup s
/-- The sum of the first `n` weights, each the power of two of its score shifted by the largest. -/
def mass (s : ℕ → EReal) (n : ℕ) : EReal := ∑ c ∈ Finset.range n, Ideal.exp2 (s c - top s n)
/-- The first `n` values summed with those weights. -/
def mix (s v : ℕ → EReal) (n : ℕ) : EReal := ∑ c ∈ Finset.range n, Ideal.exp2 (s c - top s n) * v c

theorem top_zero (s : ℕ → EReal) : top s 0 = ⊥ := rfl
theorem mass_zero (s : ℕ → EReal) : mass s 0 = 0 := rfl
theorem mix_zero (s v : ℕ → EReal) : mix s v 0 = 0 := rfl

theorem le_top (s : ℕ → EReal) {n c : ℕ} (h : c < n) : s c ≤ top s n := Finset.le_sup (Finset.mem_range.2 h)

theorem range_add_sum (f : ℕ → EReal) (n b : ℕ) :
    ∑ c ∈ Finset.range (n + b), f c = ∑ c ∈ Finset.range n, f c + ∑ t : Fin b, f (n + t) := by
  rw [Finset.sum_range_add, Finset.sum_range (fun x => f (n + x))]

/-- A maximum taken over `Fin b` starting from minus infinity is a supremum. -/
theorem fold_max (b : ℕ) (f : Fin b → EReal) : Finset.univ.fold max ⊥ f = Finset.univ.sup f := rfl

theorem top_range (s : ℕ → EReal) (n : ℕ) : top s n = Finset.univ.fold max ⊥ (fun t : Fin n => s t) := by
  rw [fold_max]
  apply le_antisymm
  · refine Finset.sup_le fun c hc => ?_
    exact Finset.le_sup (f := fun t : Fin n => s t) (Finset.mem_univ (⟨c, Finset.mem_range.1 hc⟩ : Fin n))
  · exact Finset.sup_le fun t _ => le_top s t.isLt

theorem top_add (s : ℕ → EReal) (n b : ℕ) :
    top s (n + b) = max (top s n) (Finset.univ.fold max ⊥ (fun t : Fin b => s (n + t))) := by
  rw [fold_max]
  apply le_antisymm
  · refine Finset.sup_le fun c hc => ?_
    rcases Nat.lt_or_ge c n with h | h
    · exact le_max_of_le_left (le_top s h)
    · have hb : c - n < b := by have := Finset.mem_range.1 hc; omega
      refine le_max_of_le_right ?_
      have := Finset.le_sup (f := fun t : Fin b => s (n + t)) (Finset.mem_univ (⟨c - n, hb⟩ : Fin b))
      simpa [Nat.add_sub_cancel' h] using this
  · refine max_le (Finset.sup_le fun c hc => le_top s (by have := Finset.mem_range.1 hc; omega)) ?_
    exact Finset.sup_le fun t _ => le_top s (by have := t.isLt; omega)

theorem top_le_add (s : ℕ → EReal) (n b : ℕ) : top s n ≤ top s (n + b) := by
  rw [top_add]; exact le_max_left _ _

/-- Appending `b` columns to the sum of weights. -/
theorem mass_add (s : ℕ → EReal) (n b : ℕ) :
    mass s (n + b) = Ideal.exp2 (top s n - top s (n + b)) * mass s n + ∑ t : Fin b, Ideal.exp2 (s (n + t) - top s (n + b)) := by
  rw [mass, range_add_sum, mass, mul_sum _ (exp2_nonneg _) (exp2_sub_ne_top (top_le_add s n b))]
  congr 1
  exact Finset.sum_congr rfl fun c hc => (exp2_rescale (le_top s (Finset.mem_range.1 hc)) (top_le_add s n b)).symm

/-- Appending `b` columns to the weighted values. -/
theorem mix_add (s v : ℕ → EReal) (n b : ℕ) :
    mix s v (n + b) = Ideal.exp2 (top s n - top s (n + b)) * mix s v n
      + ∑ t : Fin b, Ideal.exp2 (s (n + t) - top s (n + b)) * v (n + t) := by
  rw [mix, range_add_sum, mix, mul_sum _ (exp2_nonneg _) (exp2_sub_ne_top (top_le_add s n b))]
  congr 1
  refine Finset.sum_congr rfl fun c hc => ?_
  rw [← mul_assoc, exp2_rescale (le_top s (Finset.mem_range.1 hc)) (top_le_add s n b)]

/-! ## Columns at minus infinity -/

theorem top_tail (s : ℕ → EReal) {n N : ℕ} (h : n ≤ N) (hs : ∀ c, n ≤ c → s c = ⊥) : top s N = top s n := by
  obtain ⟨b, rfl⟩ := Nat.exists_eq_add_of_le h
  rw [top_add]
  refine max_eq_left ?_
  rw [fold_max]
  exact Finset.sup_le fun t _ => by rw [hs _ (by omega)]; exact bot_le

theorem mass_tail (s : ℕ → EReal) {n N : ℕ} (h : n ≤ N) (hs : ∀ c, n ≤ c → s c = ⊥) : mass s N = mass s n := by
  rw [mass, mass, top_tail s h hs]
  refine (Finset.sum_subset (Finset.range_mono h) fun c _ hc => ?_).symm
  rw [hs c (by simpa using hc)]; simp

theorem mix_tail (s v : ℕ → EReal) {n N : ℕ} (h : n ≤ N) (hs : ∀ c, n ≤ c → s c = ⊥) : mix s v N = mix s v n := by
  rw [mix, mix, top_tail s h hs]
  refine (Finset.sum_subset (Finset.range_mono h) fun c _ hc => ?_).symm
  rw [hs c (by simpa using hc)]; simp

/-- Two score rows that agree on the first `n` columns have the same three numbers. -/
theorem top_congr {s s' : ℕ → EReal} {n : ℕ} (h : ∀ c < n, s c = s' c) : top s n = top s' n :=
  Finset.sup_congr rfl fun c hc => h c (Finset.mem_range.1 hc)
theorem mass_congr {s s' : ℕ → EReal} {n : ℕ} (h : ∀ c < n, s c = s' c) : mass s n = mass s' n := by
  rw [mass, mass, top_congr h]
  exact Finset.sum_congr rfl fun c hc => by rw [h c (Finset.mem_range.1 hc)]
theorem mix_congr {s s' v v' : ℕ → EReal} {n : ℕ} (h : ∀ c < n, s c = s' c) (hv : ∀ c < n, v c = v' c) :
    mix s v n = mix s' v' n := by
  rw [mix, mix, top_congr h]
  exact Finset.sum_congr rfl fun c hc => by rw [h c (Finset.mem_range.1 hc), hv c (Finset.mem_range.1 hc)]

/-! ## Constants -/

/-- The word of two is the real two. -/
theorem word_two : Ideal.ofBits .f32 0x40000000#32 = ((2 : ℝ) : EReal) := by
  simp [Ideal.ofBits, Ideal.ieee, -EReal.coe_mul]; norm_num

/-- The word of minus infinity is minus infinity. -/
theorem word_bot : Ideal.ofBits .f32 0xFF800000#32 = ⊥ := by
  simp [Ideal.ofBits, Ideal.ieee]

/-- Two raised to a power is the power of two. -/
theorem two_pow (x : EReal) : Ideal.pow ((2 : ℝ) : EReal) x = Ideal.exp2 x := by
  induction x using EReal.rec with
  | bot => simp
  | top => simp
  | coe r => rfl

end Cert.Softmax

end
-- ==== Proof.FoxBlock.lean ====
/- The attention kernel's query block on the extended reals: the carried triple after some key tiles is the running
   softmax's three numbers, and what the block stores is the gated quotient of the last two. -/
module

public import proofs.«01_k».proof.Proof.FoxLoop
public import proofs.«01_k».proof.Proof.Softmax
public import Idealize.ShloMosaic.Lib.Pointwise
public import Idealize.ShloMosaic.Lib.Pipeline.ValueKit

@[expose] public section

set_option maxRecDepth 16384

noncomputable section

namespace Cert.KernelIdeal.Fox

open Cert.KernelIdeal Cert.KernelIdeal.Gen
open Idealize.ShloMosaic Idealize.ShloMosaic.TcCoe
open Cert.Softmax

/-! ## Scores and values of one head, by row and column number -/

/-- Lane `d` of row `r` of a staged head; zero past the last row. -/
def lane (x : Vec Ideal S1x2048x128 .bf16) (r : ℕ) (d : Fin 128) : EReal :=
  if h : r < 2048 then x (ix3 0 ⟨r, h⟩ d) else 0

/-- The score of query row `r` against key row `c`: the two products of 128 lanes. -/
def score (x0 x1 x2 x3 : Vec Ideal S1x2048x128 .bf16) (r c : ℕ) : EReal :=
  ∑ d : Fin 128, lane x0 r d * lane x2 c d + ∑ d : Fin 128, lane x1 r d * lane x3 c d

/-- The score with the columns after the row taken out. -/
def masked (x0 x1 x2 x3 : Vec Ideal S1x2048x128 .bf16) (r c : ℕ) : EReal :=
  if c ≤ r then score x0 x1 x2 x3 r c else ⊥

theorem trips1 : k0_t1_loop.trips = 8 := by decide +kernel
theorem trips2 : ∀ k : Fin k0_t1_loop.trips, (k0_t2_loop k).trips = k.val := by decide +kernel

theorem ld_rows (x : Vec Ideal S1x2048x128 .bf16) (k : Fin k0_t1_loop.trips) (r : Fin 256) (d : Fin 128) :
    View.ld x (rowsOf k) (ix3 0 r d) = lane x (256 * k.val + r.val) d := by
  have hk : k.val < 8 := k.isLt.trans_eq trips1
  have h : 256 * k.val + r.val < 2048 := by have := r.isLt; omega
  rw [lane, dif_pos h]
  show x _ = _
  refine congrArg x (funext fun a => Fin.ext ?_)
  rw [Rect.idx_unit_val]
  refine (congrArg (· + _) (congrFun (k0_off1_eq k) a)).trans ?_
  fin_cases a <;> simp [ix3]

theorem ld_keys (x : Vec Ideal S1x2048x128 .bf16) (k : Fin k0_t1_loop.trips) (j : Fin (k0_t2_loop k).trips) (r : Fin 256) (d : Fin 128) :
    View.ld x (keysOf k j) (ix3 0 r d) = lane x (256 * j.val + r.val) d := by
  have hk : k.val < 8 := k.isLt.trans_eq trips1
  have hj : j.val < k.val := j.isLt.trans_eq (trips2 k)
  have h : 256 * j.val + r.val < 2048 := by have := r.isLt; omega
  rw [lane, dif_pos h]
  show x _ = _
  refine congrArg x (funext fun a => Fin.ext ?_)
  rw [Rect.idx_unit_val]
  refine (congrArg (· + _) (congrFun (k0_off2_eq k j) a)).trans ?_
  fin_cases a <;> simp [ix3]

/-! ## One tile's payloads at an index -/

/-- The score of row `r` of a query tile against row `c` of a key tile. -/
def tileScore (q cq k ck : Vec Ideal S1x256x128 .bf16) (r c : Fin 256) : EReal :=
  ∑ d : Fin 128, q (ix3 0 r d) * k (ix3 0 c d) + ∑ d : Fin 128, cq (ix3 0 r d) * ck (ix3 0 c d)

theorem pay7_at (q cq k ck : Vec Ideal S1x256x128 .bf16) (r c : Fin 256) :
    k0_pay7 (F := Ideal) q cq k ck (ix2 r c) = tileScore q cq k ck r c := by
  pointwise [k0_pay7, k0_pay3, tileScore]

theorem pay8_at (q cq k ck : Vec Ideal S1x256x128 .bf16) (m : FVec Ideal S256x1 .f32) (r : Fin 256) :
    k0_pay8 (F := Ideal) q cq m k ck (ix2 r 0)
      = max (m (ix2 r 0)) (Finset.univ.fold max ⊥ (fun c : Fin 256 => tileScore q cq k ck r c)) := by
  pointwise [k0_pay8, pay7_at]
  rw [word_bot]

theorem pay11_at (q cq k ck : Vec Ideal S1x256x128 .bf16) (m l : FVec Ideal S256x1 .f32) (r : Fin 256) :
    k0_pay11 (F := Ideal) q cq m l k ck (ix2 r 0)
      = Ideal.exp2 (m (ix2 r 0) - k0_pay8 (F := Ideal) q cq m k ck (ix2 r 0)) * l (ix2 r 0)
        + ∑ c : Fin 256, Ideal.exp2 (tileScore q cq k ck r c - k0_pay8 (F := Ideal) q cq m k ck (ix2 r 0)) := by
  pointwise [k0_pay11, k0_pay9, k0_pay10, pay7_at]
  rfl

theorem pay12_at (q cq k ck v : Vec Ideal S1x256x128 .bf16) (m : FVec Ideal S256x1 .f32) (a : FVec Ideal S256x128 .f32)
    (r : Fin 256) (d : Fin 128) :
    k0_pay12 (F := Ideal) q cq m a k ck v (ix2 r d)
      = Ideal.exp2 (m (ix2 r 0) - k0_pay8 (F := Ideal) q cq m k ck (ix2 r 0)) * a (ix2 r d)
        + ∑ c : Fin 256, Ideal.exp2 (tileScore q cq k ck r c - k0_pay8 (F := Ideal) q cq m k ck (ix2 r 0)) * v (ix3 0 c d) := by
  pointwise [k0_pay12, k0_pay9, k0_pay10, pay7_at]
  rfl

theorem pay20_at (q cq k ck : Vec Ideal S1x256x128 .bf16) (r c : Fin 256) :
    k0_pay20 (F := Ideal) k0_pay1 q cq k ck (ix2 r c) = if c.val ≤ r.val then tileScore q cq k ck r c else ⊥ := by
  pointwise [k0_pay20, k0_pay1, k0_pay3, tileScore]
  rw [WordCmp.cmpi_sle_ofNat (by have := c.isLt; omega) (by have := r.isLt; omega), IdealRules.named_const.ideal_named_scalar _ _ _ _ rfl]
  simp only [hlo_ix]

theorem pay21_at (q cq k ck : Vec Ideal S1x256x128 .bf16) (m : FVec Ideal S256x1 .f32) (r : Fin 256) :
    k0_pay21 (F := Ideal) k0_pay1 q cq m k ck (ix2 r 0)
      = max (m (ix2 r 0)) (Finset.univ.fold max ⊥ (fun c : Fin 256 => k0_pay20 (F := Ideal) k0_pay1 q cq k ck (ix2 r c))) := by
  pointwise [k0_pay21]
  rw [word_bot]

theorem pay19_at (v : Vec Ideal S1x256x128 .bf16) (c : Fin 256) (d : Fin 128) :
    k0_pay19 (F := Ideal) v (ix2 c d) = v (ix3 0 c d) := by
  pointwise [k0_pay19]

theorem pay2_at (m l : FVec Ideal S256x1 .f32) (a : FVec Ideal S256x128 .f32) (v : FVec Ideal S256x128 .bf16)
    (s : FVec Ideal S256x256 .f32) (m' : FVec Ideal S256x1 .f32) (g : Vec Ideal S1x256x128 .bf16) (r : Fin 256) (d : Fin 128) :
    k0_pay2 (F := Ideal) m l a v s m' g (ix3 0 r d)
      = Ideal.div
          (Ideal.exp2 (m (ix2 r 0) - m' (ix2 r 0)) * a (ix2 r d)
            + ∑ c : Fin 256, Ideal.exp2 (s (ix2 r c) - m' (ix2 r 0)) * v (ix2 c d))
          (Ideal.exp2 (m (ix2 r 0) - m' (ix2 r 0)) * l (ix2 r 0) + ∑ c : Fin 256, Ideal.exp2 (s (ix2 r c) - m' (ix2 r 0)))
        * g (ix3 0 r d) := by
  pointwise [k0_pay2]
  rfl

/-! ## Tiles of a head -/

theorem tileScore_keys (x0 x1 x2 x3 : Vec Ideal S1x2048x128 .bf16) (k : Fin k0_t1_loop.trips) (j : Fin (k0_t2_loop k).trips)
    (r c : Fin 256) :
    tileScore (View.ld x0 (rowsOf k)) (View.ld x1 (rowsOf k)) (View.ld x2 (keysOf k j)) (View.ld x3 (keysOf k j)) r c
      = score x0 x1 x2 x3 (256 * k.val + r.val) (256 * j.val + c.val) := by
  refine congrArg₂ (· + ·) (Finset.sum_congr rfl fun d _ => ?_) (Finset.sum_congr rfl fun d _ => ?_)
  · exact congrArg₂ (· * ·) (ld_rows x0 k r d) (ld_keys x2 k j c d)
  · exact congrArg₂ (· * ·) (ld_rows x1 k r d) (ld_keys x3 k j c d)

theorem tileScore_rows (x0 x1 x2 x3 : Vec Ideal S1x2048x128 .bf16) (k : Fin k0_t1_loop.trips) (r c : Fin 256) :
    tileScore (View.ld x0 (rowsOf k)) (View.ld x1 (rowsOf k)) (View.ld x2 (rowsOf k)) (View.ld x3 (rowsOf k)) r c
      = score x0 x1 x2 x3 (256 * k.val + r.val) (256 * k.val + c.val) := by
  refine congrArg₂ (· + ·) (Finset.sum_congr rfl fun d _ => ?_) (Finset.sum_congr rfl fun d _ => ?_)
  · exact congrArg₂ (· * ·) (ld_rows x0 k r d) (ld_rows x2 k c d)
  · exact congrArg₂ (· * ·) (ld_rows x1 k r d) (ld_rows x3 k c d)

/-- The carried triple after `n` key tiles: the three numbers of the first `256 n` columns. -/
theorem carry_at (x0 x1 x2 x3 x4 : Vec Ideal S1x2048x128 .bf16) (k : Fin k0_t1_loop.trips) (r : Fin 256) (d : Fin 128) :
    ∀ n, n ≤ (k0_t2_loop k).trips →
      (carry (F := Ideal) x0 x1 x2 x3 x4 k n).1 (ix2 r 0) = top (score x0 x1 x2 x3 (256 * k.val + r.val)) (256 * n)
      ∧ (carry (F := Ideal) x0 x1 x2 x3 x4 k n).2.1 (ix2 r 0) = mass (score x0 x1 x2 x3 (256 * k.val + r.val)) (256 * n)
      ∧ (carry (F := Ideal) x0 x1 x2 x3 x4 k n).2.2 (ix2 r d)
          = mix (score x0 x1 x2 x3 (256 * k.val + r.val)) (fun c => lane x4 c d) (256 * n)
  | 0, _ => by
    refine ⟨?_, ?_, ?_⟩
    · show k0_pay4 (F := Ideal) (ix2 r 0) = ⊥
      pointwise [k0_pay4]
      exact IdealRules.named_const.ideal_named_scalar _ _ _ _ rfl
    · show k0_pay5 (F := Ideal) (ix2 r 0) = 0
      pointwise [k0_pay5]
    · show k0_pay6 (F := Ideal) (ix2 r d) = 0
      pointwise [k0_pay6]
  | n + 1, h => by
    obtain ⟨h1, h2, h3⟩ := carry_at x0 x1 x2 x3 x4 k r d n (Nat.le_of_lt h)
    rw [carry, dif_pos (show n < (k0_t2_loop k).trips from h), show 256 * (n + 1) = 256 * n + 256 by ring]
    unfold stepTile
    dsimp only
    have e1 := pay8_at (View.ld x0 (rowsOf k)) (View.ld x1 (rowsOf k)) (View.ld x2 (keysOf k ⟨n, h⟩)) (View.ld x3 (keysOf k ⟨n, h⟩))
      (carry (F := Ideal) x0 x1 x2 x3 x4 k n).1 r
    simp only [tileScore_keys, h1] at e1
    rw [← top_add (score x0 x1 x2 x3 (256 * k.val + r.val)) (256 * n) 256] at e1
    refine ⟨e1, ?_, ?_⟩
    · rw [pay11_at, e1, h1, h2, mass_add]
      simp only [tileScore_keys]
    · rw [pay12_at, e1, h1, h3, mix_add]
      simp only [tileScore_keys]
      exact congrArg (_ + ·) (Finset.sum_congr rfl fun c _ => congrArg (_ * ·) (ld_keys x4 k ⟨n, h⟩ c d))

/-- What a query block stores at a row: the gated quotient of that row's masked softmax. -/
theorem block_at (x0 x1 x2 x3 x4 x5 : Vec Ideal S1x2048x128 .bf16) (k : Fin k0_t1_loop.trips) (r : Fin 256) (d : Fin 128) :
    block (F := Ideal) x0 x1 x2 x3 x4 x5 k (ix3 0 r d)
      = Ideal.div (mix (masked x0 x1 x2 x3 (256 * k.val + r.val)) (fun c => lane x4 c d) 2048)
          (mass (masked x0 x1 x2 x3 (256 * k.val + r.val)) 2048) * lane x5 (256 * k.val + r.val) d := by
  have hk : k.val < 8 := k.isLt.trans_eq trips1
  obtain ⟨h1, h2, h3⟩ := carry_at x0 x1 x2 x3 x4 k r d _ le_rfl
  rw [trips2 k] at h1 h2 h3
  set s := masked x0 x1 x2 x3 (256 * k.val + r.val) with hs
  have hlow : ∀ c < 256 * k.val, score x0 x1 x2 x3 (256 * k.val + r.val) c = s c := fun c hc => by
    rw [hs, masked, if_pos (by omega)]
  rw [top_congr hlow] at h1
  rw [mass_congr hlow] at h2
  rw [mix_congr hlow (fun _ _ => rfl)] at h3
  have hdiag : ∀ c : Fin 256, k0_pay20 (F := Ideal) k0_pay1 (View.ld x0 (rowsOf k)) (View.ld x1 (rowsOf k)) (View.ld x2 (rowsOf k))
      (View.ld x3 (rowsOf k)) (ix2 r c) = s (256 * k.val + c.val) := fun c => by
    rw [pay20_at, hs, masked, tileScore_rows]
    by_cases hc : c.val ≤ r.val
    · rw [if_pos hc, if_pos (by omega)]
    · rw [if_neg hc, if_neg (by omega)]
  have hmax : k0_pay21 (F := Ideal) k0_pay1 (View.ld x0 (rowsOf k)) (View.ld x1 (rowsOf k)) (carry (F := Ideal) x0 x1 x2 x3 x4 k k.val).1
      (View.ld x2 (rowsOf k)) (View.ld x3 (rowsOf k)) (ix2 r 0) = top s (256 * k.val + 256) := by
    rw [pay21_at]
    simp only [hdiag, h1]
    rw [top_add]
  have htail : ∀ c, 256 * k.val + 256 ≤ c → s c = ⊥ := fun c hc => by
    rw [hs, masked, if_neg (by have := r.isLt; omega)]
  have hm := mix_add s (fun c => lane x4 c d) (256 * k.val) 256
  have hl := mass_add s (256 * k.val) 256
  rw [mix_tail s _ (show 256 * k.val + 256 ≤ 2048 by omega) htail, mass_tail s (show 256 * k.val + 256 ≤ 2048 by omega) htail, hm, hl,
    ← h1, ← h2, ← h3, ← hmax]
  unfold block finish
  rw [trips2 k]
  refine (pay2_at _ _ _ _ _ _ _ r d).trans ?_
  simp only [hdiag]
  refine congrArg₂ (fun y z => Ideal.div (_ + y) _ * z) (Finset.sum_congr rfl fun c _ => ?_) (ld_rows x5 k r d)
  exact congrArg (_ * ·) ((pay19_at _ c d).trans (ld_rows x4 k c d))

end Cert.KernelIdeal.Fox

end
-- ==== Proof.FoxRef.lean ====
/- The reference's attention read at an index: the gated quotient of one row's masked softmax, over the head's columns of
   the argument arrays. -/
module

public import proofs.«01_k».proof.Proof.FoxBlock
public import proofs.«01_k».proof.Proof.Gen.ReferenceIdeal
public import proofs.«01_k».proof.Proof.Gen.ReferenceIdeal.Read

@[expose] public section

set_option maxRecDepth 16384

noncomputable section

namespace Cert.FoxRef

open Cert.ReferenceIdeal Cert.ReferenceIdeal.Read
open Idealize.ShloMosaic Idealize.ShloMosaic.TcCoe
open Cert.Softmax

variable (P : FVec Ideal S4x2048x8192 .bf16) (C K : FVec Ideal S4x2048x2048 .bf16)

/-- Query row `r` against key row `c` of head `h`, the columns after the row at minus infinity. -/
def logit (b : Fin 4) (h : Fin 16) (r c : Fin 2048) : EReal :=
  if c.val ≤ r.val then
    ∑ d : Fin 128, P (ix3 b r ⟨h.val * 128 + d.val, by omega⟩) * P (ix3 b c ⟨2048 + (h.val * 128 + d.val), by omega⟩)
      + ∑ d : Fin 128, C (ix3 b r ⟨h.val * 128 + d.val, by omega⟩) * K (ix3 b c ⟨h.val * 128 + d.val, by omega⟩)
  else ⊥

theorem logit_at (b : Fin 4) (h : Fin 16) (r c : Fin 2048) :
    val_main_v22 (F := Ideal) P C K (ix4 b h r c) = logit P C K b h r c := by
  pointwise [val_main_v22, val_main_v15, val_main_v13, val_main_v14, val_main_v5, val_main_v6, val_main_v10, val_main_v12,
    val_main_v1, val_main_v2, val_main_v0, val_main_v9, val_main_v11, val_main_call0_v1, val_main_call0_v2, val_main_call0_v0,
    val_main_cst, val_main_v21, val_main_v19, val_main_v20, val_main_v17, val_main_v18, val_main_v16, logit]
  rw [WordCmp.cmpi_sle_ofNat (by have := c.isLt; omega) (by have := r.isLt; omega)]
  simp only [hlo_ix]
  refine if_congr Iff.rfl rfl ?_
  exact word_bot

theorem max_at (b : Fin 4) (h : Fin 16) (r : Fin 2048) :
    val_main_v23 (F := Ideal) P C K (ix3 b h r) = Finset.univ.fold max ⊥ (fun c => logit P C K b h r c) := by
  pointwise [val_main_v23, logit_at, val_main_cst_0]
  rw [word_bot]

theorem weight_at (b : Fin 4) (h : Fin 16) (r c : Fin 2048) :
    val_main_v28 (F := Ideal) P C K (ix4 b h r c)
      = Ideal.exp2 (logit P C K b h r c - val_main_v23 (F := Ideal) P C K (ix3 b h r)) := by
  pointwise [val_main_v28, val_main_v27, val_main_v26, val_main_v25, val_main_v24, val_main_cst_1, logit_at]
  rw [word_two, two_pow]

theorem result_at (b : Fin 4) (r : Fin 2048) (h : Fin 16) (d : Fin 128) :
    val_main_v38 (F := Ideal) P C K (ix3 b r ⟨h.val * 128 + d.val, by omega⟩)
      = Ideal.div (∑ c : Fin 2048, val_main_v28 (F := Ideal) P C K (ix4 b h r c) * P (ix3 b c ⟨4096 + (h.val * 128 + d.val), by omega⟩))
          (∑ c : Fin 2048, val_main_v28 (F := Ideal) P C K (ix4 b h r c)) * P (ix3 b r ⟨6144 + (h.val * 128 + d.val), by omega⟩) := by
  pointwise [val_main_v38, val_main_v37, val_main_v36, val_main_v35, val_main_v34, val_main_v33, val_main_v32, val_main_v31,
    val_main_v30, val_main_v29, val_main_cst_2, val_main_v7, val_main_v8, val_main_v3, val_main_v4, val_main_v0]
  simp only [mul_comm (P _)]

/-! ## The same, over the blocks of one head -/

open Cert.KernelIdeal.Fox (lane score masked)

/-- The reference's result at row `r`, lane `d` of head `h`, over any six blocks that hold that head's queries, decay
    queries, keys, decay keys, values and gate. -/
theorem result_of_blocks (b : Fin 4) (h : Fin 16) (x0 x1 x2 x3 x4 x5 : Vec Ideal Cert.KernelIdeal.S1x2048x128 .bf16)
    (h0 : ∀ (r : Fin 2048) (d : Fin 128), x0 (ix3 0 r d) = P (ix3 b r ⟨h.val * 128 + d.val, by omega⟩))
    (h1 : ∀ (r : Fin 2048) (d : Fin 128), x1 (ix3 0 r d) = C (ix3 b r ⟨h.val * 128 + d.val, by omega⟩))
    (h2 : ∀ (r : Fin 2048) (d : Fin 128), x2 (ix3 0 r d) = P (ix3 b r ⟨2048 + (h.val * 128 + d.val), by omega⟩))
    (h3 : ∀ (r : Fin 2048) (d : Fin 128), x3 (ix3 0 r d) = K (ix3 b r ⟨h.val * 128 + d.val, by omega⟩))
    (h4 : ∀ (r : Fin 2048) (d : Fin 128), x4 (ix3 0 r d) = P (ix3 b r ⟨4096 + (h.val * 128 + d.val), by omega⟩))
    (h5 : ∀ (r : Fin 2048) (d : Fin 128), x5 (ix3 0 r d) = P (ix3 b r ⟨6144 + (h.val * 128 + d.val), by omega⟩))
    (r : Fin 2048) (d : Fin 128) :
    val_main_v38 (F := Ideal) P C K (ix3 b r ⟨h.val * 128 + d.val, by omega⟩)
      = Ideal.div (mix (masked x0 x1 x2 x3 r.val) (fun c => lane x4 c d) 2048) (mass (masked x0 x1 x2 x3 r.val) 2048)
        * lane x5 r.val d := by
  have lane_of : ∀ (x : Vec Ideal Cert.KernelIdeal.S1x2048x128 .bf16) (r : Fin 2048) (d : Fin 128), lane x r.val d = x (ix3 0 r d) :=
    fun x r d => by rw [lane, dif_pos r.isLt]
  have hs : ∀ c : Fin 2048, masked x0 x1 x2 x3 r.val c.val = logit P C K b h r c := fun c => by
    unfold masked logit score
    simp only [lane_of, h0, h1, h2, h3]
  have ht : val_main_v23 (F := Ideal) P C K (ix3 b h r) = top (masked x0 x1 x2 x3 r.val) 2048 := by
    rw [max_at, top_range]; simp only [hs]
  rw [result_at, mix, mass, Finset.sum_range (n := 2048), Finset.sum_range (n := 2048)]
  simp only [weight_at, ht, hs, lane_of, h4, h5]

end Cert.FoxRef

end
-- ==== Proof.FoxValue.lean ====
/- The attention kernel's result array is the reference's result of the same arguments. -/
module

public import proofs.«01_k».proof.Proof.FoxFrame
public import proofs.«01_k».proof.Proof.FoxRef
public import Idealize.ShloMosaic.Lib.Pipeline.ValueKit

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)
open Cert.Softmax

variable (m : (ℓ : Loc nD τ sig) → Buf (Elt Ideal) ℓ)

theorem block_idx : ∀ t : Fin cfg0.N, win0_0.index t = ![t.val / 16, 0, t.val % 16] ∧ win0_1.index t = ![t.val / 16, 0, t.val % 16]
    ∧ win0_2.index t = ![t.val / 16, 0, 16 + t.val % 16] ∧ win0_3.index t = ![t.val / 16, 0, t.val % 16]
    ∧ win0_4.index t = ![t.val / 16, 0, 32 + t.val % 16] ∧ win0_5.index t = ![t.val / 16, 0, 48 + t.val % 16]
    ∧ win0_6.index t = ![t.val / 16, 0, t.val % 16] ∧ t.val / 16 < 4 :=
  (by decide +kernel : ∀ t : Fin grid0.N, _)

/-- A row of the output block is the row of the query block that holds it. -/
theorem outBlock_at (x0 x1 x2 x3 x4 x5 : Vec Ideal S1x2048x128 .bf16) (r : Fin 2048) (d : Fin 128) :
    outBlock (F := Ideal) x0 x1 x2 x3 x4 x5 (ix3 0 r d)
      = Ideal.div (mix (masked x0 x1 x2 x3 r.val) (fun c => lane x4 c d) 2048) (mass (masked x0 x1 x2 x3 r.val) 2048)
        * lane x5 r.val d := by
  have key : ∀ n, n ≤ 8 → r.val < 256 * n → View.canon (pieces (F := Ideal) x0 x1 x2 x3 x4 x5 n) (ix3 0 r d)
      = Ideal.div (mix (masked x0 x1 x2 x3 r.val) (fun c => lane x4 c d) 2048) (mass (masked x0 x1 x2 x3 r.val) 2048)
        * lane x5 r.val d := by
    intro n
    induction n with
    | zero => intro _ h; omega
    | succ n ih =>
      intro hn hr
      have hk : n < k0_t1_loop.trips := by rw [trips1]; omega
      rw [pieces, dif_pos hk]
      by_cases h : r.val < 256 * n
      · rw [View.canon_cons_of_not_mem _ _ (by rw [mem_rowsOf]; show ¬(256 * n ≤ r.val ∧ r.val < 256 * n + 256); omega)]
        exact ih (by omega) h
      · have hq : r.val - 256 * n < 256 := by omega
        have e : (ix3 0 r d : S1x2048x128.Idx) = (rowsOf ⟨n, hk⟩).idx (ix3 0 (⟨r.val - 256 * n, hq⟩ : Fin 256) d : S1x256x128.Idx) := by
          refine funext fun a => Fin.ext ?_
          rw [Rect.idx_unit_val]
          refine Eq.trans ?_ (congrArg (· + _) (congrFun (k0_off1_eq ⟨n, hk⟩) a)).symm
          fin_cases a <;> simp [ix3]
          omega
        rw [e]
        refine (View.canon_cons_emb _ _ _ _).trans ?_
        refine (block_at x0 x1 x2 x3 x4 x5 ⟨n, hk⟩ ⟨r.val - 256 * n, hq⟩ d).trans ?_
        show Ideal.div (mix (masked x0 x1 x2 x3 (256 * n + (r.val - 256 * n))) _ _) _ * _ = _
        rw [show 256 * n + (r.val - 256 * n) = r.val by omega]
  exact key 8 le_rfl (by have := r.isLt; omega)

/-- The reference's result of the kernel's arguments. -/
abbrev RES (c : Dev nD) : FVec Ideal S4x2048x2048 .bf16 :=
  Cert.ReferenceIdeal.Read.val_main_v38 (F := Ideal) (m ((c : Thread nD τ).loc main_arg0)) (m ((c : Thread nD τ).loc main_arg1))
    (m ((c : Thread nD τ).loc main_arg2))

theorem final (c : Dev nD) : (dats m 0 c).arrAt 6 cfg0.N = RES m c := by
  refine (dats m 0 c).arrAt_eq_of_covers 6 _ (by decide +kernel) fun t _ y => ?_
  blk_simp
  rw [after_6]
  have hb : t.val / 16 < 4 := (block_idx t).2.2.2.2.2.2.2
  have hh : t.val % 16 < 16 := Nat.mod_lt _ (by norm_num)
  idx_vars y
  obtain rfl : y0 = 0 := Subsingleton.elim _ _
  have e : ((View.whole main_v0).slice (win0_6.rect t)).emb (ix3 0 y1 y2)
      = (ix3 (⟨t.val / 16, hb⟩ : Fin 4) y1 (⟨t.val % 16 * 128 + y2.val, by omega⟩ : Fin 2048) : S4x2048x2048.Idx) := by
    blk_ext [block_idx t]
  refine (outBlock_at _ _ _ _ _ _ y1 y2).trans ((congrArg (RES m c) e).trans ?_).symm
  refine Cert.FoxRef.result_of_blocks _ _ _ ⟨t.val / 16, hb⟩ ⟨t.val % 16, hh⟩ (iblk m c 0 t) (iblk m c 1 t) (iblk m c 2 t)
    (iblk m c 3 t) (iblk m c 4 t) (iblk m c 5 t) ?_ ?_ ?_ ?_ ?_ ?_ y1 y2
  all_goals (intro r d; blk_ext [iblk, V, block_idx t])

/-- Every execution ends with the result array at the reference's result of the arguments, and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 6).trans (final m c), h.2.1 c⟩)
    (θ_run_and (run_frame m ρ) (frame m ρ))

end Cert.KernelIdeal.Fox

end
-- ==== Proof.Scale.lean ====
/- The scale of the queries: a quotient by the root of 128 times the logarithm of 2 is a product by its reciprocal. -/
module

public import proofs.«01_k».proof.Proof.Softmax

@[expose] public section

noncomputable section

namespace Cert.Scale

open Idealize.ShloMosaic

/-- The word of 128 is 128. -/
theorem word_lanes : Ideal.ofBits .f32 0x43000000#32 = ((128 : ℝ) : EReal) := by
  simp [Ideal.ofBits, Ideal.ieee, -EReal.coe_mul]; norm_num

/-- The word of 1 is 1. -/
theorem word_one : Ideal.ofBits .f32 0x3F800000#32 = 1 := by
  simp [Ideal.ofBits, Ideal.ieee, -EReal.coe_mul]; norm_num

/-- The scale's reciprocal, as a real number. -/
abbrev scale : EReal := (((Real.sqrt 128 * Real.log 2)⁻¹ : ℝ) : EReal)

/-- The quotient by the root of 128 and the logarithm of 2 is the product by the scale. -/
theorem quotient (x : EReal) :
    Ideal.div x (Ideal.sqrt (Ideal.ofBits .f32 0x43000000#32) * Ideal.log (Ideal.ofBits .f32 0x40000000#32)) = x * scale := by
  rw [word_lanes, Cert.Softmax.word_two]
  have hs : Ideal.sqrt ((128 : ℝ) : EReal) = ((Real.sqrt 128 : ℝ) : EReal) := if_neg (by norm_num)
  have hl : Ideal.log ((2 : ℝ) : EReal) = ((Real.log 2 : ℝ) : EReal) := if_neg (by norm_num)
  have h0 : Real.sqrt 128 * Real.log 2 ≠ 0 :=
    mul_ne_zero (Real.sqrt_ne_zero'.mpr (by norm_num)) (Real.log_pos (by norm_num)).ne'
  rw [hs, hl, ← EReal.coe_mul, Ideal.div_coe h0, one_div]

end Cert.Scale

end
-- ==== Proof.FfnIn.lean ====
/- The feed-forward layer's first half: the result array is the reference's result of the same arguments. -/
module

public import proofs.«01_k».proof.Proof.Scale
public import proofs.«01_k».proof.Proof.Gen.Kernel2Ideal.Frame
public import proofs.«01_k».proof.Proof.Gen.Reference2Ideal
public import proofs.«01_k».proof.Proof.Gen.Reference2Ideal.Read
public import Idealize.ShloMosaic.Lib.WritesUnit
public import Idealize.ShloMosaic.Lib.Pipeline.ReadBack
public import Idealize.ShloMosaic.Lib.Pointwise
public import Idealize.ShloMosaic.Lib.Pipeline.ValueKit

@[expose] public section

set_option maxRecDepth 16384

noncomputable section

namespace Cert.Kernel2Ideal.Gated

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at a grid point: 16 row blocks under each column block. -/
theorem block_idx : ∀ t : Fin cfg0.N, win0_0.index t = ![t.val % 16, 0] ∧ win0_1.index t = ![0, 0, t.val / 16]
    ∧ win0_2.index t = ![0, 0, 11 + t.val / 16] ∧ win0_3.index t = ![0, t.val / 16] ∧ win0_4.index t = ![0, t.val / 16]
    ∧ win0_5.index t = ![t.val % 16, t.val / 16] ∧ t.val / 16 < 11 :=
  (by decide +kernel : ∀ t : Fin grid0.N, _)

/-- The blocks a grid point is given: rows of the left factor, columns of the gate's and of the other half's weights, the
    convolution's coefficients and offset. -/
abbrev rows (c : Dev nD) (t : Fin cfg0.N) : Vec Ideal S512x2048 .bf16 := iblk m c 0 t
abbrev gates (c : Dev nD) (t : Fin cfg0.N) : Vec Ideal S1x2048x512 .f32 := iblk m c 1 t
abbrev ups (c : Dev nD) (t : Fin cfg0.N) : Vec Ideal S1x2048x512 .f32 := iblk m c 2 t
abbrev coefs (c : Dev nD) (t : Fin cfg0.N) : Vec Ideal S3x512 .f32 := iblk m c 3 t
abbrev offs (c : Dev nD) (t : Fin cfg0.N) : Vec Ideal S1x512 .f32 := iblk m c 4 t

theorem gate_weights_at (w : Vec Ideal S1x2048x512 .f32) (k : Fin 2048) (j : Fin 512) :
    k0_pay3 (F := Ideal) w (ix2 k j) = w (ix3 0 k j) := by
  pointwise [k0_pay3]

theorem up_weights_at (w : Vec Ideal S1x2048x512 .f32) (k : Fin 2048) (j : Fin 512) :
    k0_pay4 (F := Ideal) w (ix2 k j) = w (ix3 0 k j) := by
  pointwise [k0_pay4]

theorem zero_rows_at (r : Fin 8) (j : Fin 512) : k0_pay5 (F := Ideal) (ix2 r j) = 0 := by
  pointwise [k0_pay5]

theorem copied_rows_at (v : Vec Ideal S8x512 .f32) (r : Fin 8) (j : Fin 512) : k0_pay2 (F := Ideal) v (ix2 r j) = v (ix2 r j) := by
  pointwise [k0_pay2]

/-- Through all the row blocks of a column block the kept weights of the gate are that column block's. -/
theorem kept_gates (c : Dev nD) : ∀ (n : ℕ) (h : n < cfg0.N) (k : Fin 2048) (j : Fin 512),
    (outsAt0 m c n h).2.1 (ix2 k j) = gates m c ⟨n, h⟩ (ix3 0 k j) := by
  intro n
  induction n with
  | zero =>
    intro h k j
    rw [outsAt0_A m c ⟨0, h⟩ rfl rfl]
    frame_out
    exact gate_weights_at _ k j
  | succ n ih =>
    intro h k j
    by_cases h0 : (n + 1) % 16 = 0
    · rw [outsAt0_A m c ⟨n + 1, h⟩ h0 (by show (n + 1) % 4 = 0; omega)]
      frame_out
      exact gate_weights_at _ k j
    · have e : n / 16 = (n + 1) / 16 := by omega
      have a := (block_idx ⟨n, by omega⟩).2.1
      have b := (block_idx ⟨n + 1, h⟩).2.1
      rw [← e] at b
      by_cases h1 : (n + 1) % 4 = 0
      · rw [outsAt0_C m c ⟨n + 1, h⟩ h0 h1]
        frame_out
        refine (ih (by omega) k j).trans ?_
        blk_ext [iblk, V, a, b]
      · rw [outsAt0_B m c ⟨n + 1, h⟩ h0 h1]
        frame_out
        refine (ih (by omega) k j).trans ?_
        blk_ext [iblk, V, a, b]

/-- And those of the other half. -/
theorem kept_ups (c : Dev nD) : ∀ (n : ℕ) (h : n < cfg0.N) (k : Fin 2048) (j : Fin 512),
    (outsAt0 m c n h).2.2.1 (ix2 k j) = ups m c ⟨n, h⟩ (ix3 0 k j) := by
  intro n
  induction n with
  | zero =>
    intro h k j
    rw [outsAt0_A m c ⟨0, h⟩ rfl rfl]
    frame_out
    exact up_weights_at _ k j
  | succ n ih =>
    intro h k j
    by_cases h0 : (n + 1) % 16 = 0
    · rw [outsAt0_A m c ⟨n + 1, h⟩ h0 (by show (n + 1) % 4 = 0; omega)]
      frame_out
      exact up_weights_at _ k j
    · have e : n / 16 = (n + 1) / 16 := by omega
      have a := (block_idx ⟨n, by omega⟩).2.2.1
      have b := (block_idx ⟨n + 1, h⟩).2.2.1
      rw [← e] at b
      by_cases h1 : (n + 1) % 4 = 0
      · rw [outsAt0_C m c ⟨n + 1, h⟩ h0 h1]
        frame_out
        refine (ih (by omega) k j).trans ?_
        blk_ext [iblk, V, a, b]
      · rw [outsAt0_B m c ⟨n + 1, h⟩ h0 h1]
        frame_out
        refine (ih (by omega) k j).trans ?_
        blk_ext [iblk, V, a, b]

/-- Kept weights of the point before, where the column block has not changed. -/
theorem gates_before (c : Dev nD) (t : Fin cfg0.N) (h0 : ¬ t.val % 16 = 0) (j : Fin 512) (k : Fin 2048) :
    (outsAt0 m c (t.val - 1) (by omega)).2.1 (ix2 k j) = gates m c t (ix3 0 k j) := by
  refine (kept_gates m c _ _ k j).trans ?_
  have e : (t.val - 1) / 16 = t.val / 16 := by omega
  have a := (block_idx ⟨t.val - 1, by omega⟩).2.1
  have b := (block_idx t).2.1
  rw [← e] at b
  blk_ext [iblk, V, a, b]

theorem ups_before (c : Dev nD) (t : Fin cfg0.N) (h0 : ¬ t.val % 16 = 0) (j : Fin 512) (k : Fin 2048) :
    (outsAt0 m c (t.val - 1) (by omega)).2.2.1 (ix2 k j) = ups m c t (ix3 0 k j) := by
  refine (kept_ups m c _ _ k j).trans ?_
  have e : (t.val - 1) / 16 = t.val / 16 := by omega
  have a := (block_idx ⟨t.val - 1, by omega⟩).2.2.1
  have b := (block_idx t).2.2.1
  rw [← e] at b
  blk_ext [iblk, V, a, b]

/-- The gate's product at a grid point's block, and the other half's. -/
def gate (c : Dev nD) (t : Fin cfg0.N) (i : Fin 512) (j : Fin 512) : EReal :=
  ∑ k : Fin 2048, rows m c t (ix2 i k) * gates m c t (ix3 0 k j)
def up (c : Dev nD) (t : Fin cfg0.N) (i : Fin 512) (j : Fin 512) : EReal :=
  ∑ k : Fin 2048, rows m c t (ix2 i k) * ups m c t (ix3 0 k j)

theorem gate_at (c : Dev nD) (t : Fin cfg0.N) (w : Vec Ideal S2048x512 .bf16)
    (i : Fin 512) (j : Fin 512) (h : ∀ k : Fin 2048, w (ix2 k j) = gates m c t (ix3 0 k j)) :
    k0_pay8 (F := Ideal) (rows m c t) w (ix2 i j) = gate m c t i j := by
  unfold gate
  generalize rows m c t = x at *
  generalize gates m c t = v at *
  pointwise [k0_pay8, k0_pay6]
  simp only [h]

theorem up_at (c : Dev nD) (t : Fin cfg0.N) (w : Vec Ideal S2048x512 .bf16)
    (i : Fin 512) (j : Fin 512) (h : ∀ k : Fin 2048, w (ix2 k j) = ups m c t (ix3 0 k j)) :
    k0_pay7 (F := Ideal) (rows m c t) w (ix2 i j) = up m c t i j := by
  unfold up
  generalize rows m c t = x at *
  generalize ups m c t = v at *
  pointwise [k0_pay7]
  simp only [h]

theorem weighed_at (c : Dev nD) (t : Fin cfg0.N) (w : Vec Ideal S2048x512 .bf16) (b : Vec Ideal S1x512 .f32)
    (i : Fin 512) (j : Fin 512) (h : ∀ k : Fin 2048, w (ix2 k j) = gates m c t (ix3 0 k j)) :
    k0_pay9 (F := Ideal) (rows m c t) w b (ix2 i j) = b (ix2 0 j) * gate m c t i j := by
  unfold gate
  generalize rows m c t = x at *
  generalize gates m c t = v at *
  pointwise [k0_pay9, k0_pay6]
  simp only [h]

/-! What the carry holds: eight rows of the block before (or zeros), then the block's own rows. -/

section Carry
variable {κ : Kind} {sp : Space} (v : View sig κ sp S520x512 .f32) (f : v.ty.Contents (Elt Ideal))
  (inb : ∀ a, (![8, 0] : Fin 2 → ℕ) a + (![512, 512] : Fin 2 → ℕ) a ≤ S520x512.size a)
  (inb' : ∀ a, (![0, 0] : Fin 2 → ℕ) a + (![8, 512] : Fin 2 → ℕ) a ≤ S520x512.size a)
  (g : S512x512.Idx → Elt Ideal .f32) (z : S8x512.Idx → Elt Ideal .f32) (L : List (View.Piece (Elt Ideal) S520x512 .f32))

theorem own_row (i : Fin 512) (j : Fin 512) (y : Fin 520) (hy : y.val = 8 + i.val) :
    v.read (Elt Ideal) (v.writes (Elt Ideal) f (⟨Rect.unit ![8, 0] ![512, 512] inb, g⟩ :: L)) (ix2 y j) = g (ix2 i j) :=
  View.read_writes_cons_unit_of_mem v f inb g L (ix2 y j) (ix2 i j) rfl (by
    intro a; fin_cases a
    · exact hy
    · show j.val = 0 + j.val; omega)

theorem other_row (j : Fin 512) (y : Fin 520) (hy : y.val < 8) :
    v.read (Elt Ideal) (v.writes (Elt Ideal) f (⟨Rect.unit ![8, 0] ![512, 512] inb, g⟩ :: L)) (ix2 y j)
      = v.read (Elt Ideal) (v.writes (Elt Ideal) f L) (ix2 y j) :=
  View.read_writes_cons_unit_of_not_mem v f inb g L (ix2 y j) rfl 0 (Or.inl hy)

theorem top_row (r : Fin 8) (j : Fin 512) (y : Fin 520) (hy : y.val = r.val) :
    v.read (Elt Ideal) (v.writes (Elt Ideal) f (⟨Rect.unit ![0, 0] ![8, 512] inb', z⟩ :: L)) (ix2 y j) = z (ix2 r j) :=
  View.read_writes_cons_unit_of_mem v f inb' z L (ix2 y j) (ix2 r j) rfl (by
    intro a; fin_cases a
    · show y.val = 0 + r.val; omega
    · show j.val = 0 + j.val; omega)

/-- A load of some rows reads them. -/
theorem load_row {o n : ℕ} (L : List (View.Piece (Elt Ideal) S520x512 .f32))
    (h : ∀ a, (![o, 0] : Fin 2 → ℕ) a + (![n, 512] : Fin 2 → ℕ) a ≤ S520x512.size a) (i : Fin n) (j : Fin 512)
    (y : Fin 520) (hy : y.val = o + i.val) :
    v.readCov L (Rect.unit (s := S520x512) ![o, 0] ![n, 512] h).toLoadRect (ix2 i j)
      = v.read (Elt Ideal) (v.writes (Elt Ideal) v.junk L) (ix2 y j) := by
  refine congrArg (v.read (Elt Ideal) (v.writes (Elt Ideal) v.junk L)) (funext fun a => Fin.ext ?_)
  fin_cases a
  · show o + 1 * i.val = y.val; omega
  · show 0 + 1 * j.val = j.val; omega

theorem load_kept_row {o n : ℕ} (X : S520x512.Idx → Elt Ideal .f32)
    (h : ∀ a, (![o, 0] : Fin 2 → ℕ) a + (![n, 512] : Fin 2 → ℕ) a ≤ S520x512.size a) (i : Fin n) (j : Fin 512)
    (y : Fin 520) (hy : y.val = o + i.val) :
    View.ld X (Rect.unit ![o, 0] ![n, 512] h) (ix2 i j) = X (ix2 y j) := by
  refine congrArg X (funext fun a => Fin.ext ?_)
  fin_cases a
  · show o + 1 * i.val = y.val; omega
  · show 0 + 1 * j.val = j.val; omega

/-- What the carry's first eight rows hold once the block's last eight are copied over them. -/
theorem copied_row (inb'' : ∀ a, (![512, 0] : Fin 2 → ℕ) a + (![8, 512] : Fin 2 → ℕ) a ≤ S520x512.size a)
    (M : List (View.Piece (Elt Ideal) S520x512 .f32)) (r : Fin 8) (j : Fin 512) (y : Fin 520) (hy : y.val = r.val) :
    View.canon (⟨Rect.unit ![0, 0] ![8, 512] inb',
        k0_pay2 (F := Ideal) (v.readCov (⟨Rect.unit ![8, 0] ![512, 512] inb, g⟩ :: L) (Rect.unit (s := S520x512) ![512, 0] ![8, 512] inb'').toLoadRect)⟩ :: M)
      (ix2 y j) = g (ix2 ⟨504 + r.val, by omega⟩ j) := by
  refine (View.read_writes_junk_apply_eq_canon v _ _).symm.trans ((top_row v v.junk inb' _ M r j y hy).trans
    ((copied_rows_at _ r j).trans ((load_row v _ inb'' r j ⟨512 + r.val, by omega⟩ rfl).trans
      (own_row v v.junk inb g L ⟨504 + r.val, by omega⟩ j _ (by show 512 + r.val = 8 + (504 + r.val); omega)))))

end Carry

/-- At the end of a grid point the carry's first eight rows are the last eight of the gate's block. -/
theorem carry (c : Dev nD) (t : Fin cfg0.N) (r : Fin 8) (j : Fin 512) (y : Fin 520) (hy : y.val = r.val) :
    (outsAt0 m c t.val t.isLt).2.2.2 (ix2 y j) = gate m c t ⟨504 + r.val, by omega⟩ j := by
  by_cases h0 : t.val % 16 = 0
  · rw [outsAt0_A m c t h0 (by omega)]
    frame_out
    exact (copied_row (r := r) (j := j) (y := y) (hy := hy) ..).trans (gate_at m c t _ _ j fun k => gate_weights_at _ k j)
  · by_cases h1 : t.val % 4 = 0
    · rw [outsAt0_C m c t h0 h1]
      frame_out
      simp only [read_unread_whole]
      exact (copied_row (r := r) (j := j) (y := y) (hy := hy) ..).trans (gate_at m c t _ _ j (gates_before m c t h0 j))
    · rw [outsAt0_B m c t h0 h1]
      frame_out
      simp only [read_unread_whole]
      exact (copied_row (r := r) (j := j) (y := y) (hy := hy) ..).trans (gate_at m c t _ _ j (gates_before m c t h0 j))

/-- The gate `d` rows before a row of the block (`d` is 1 or 2): the block's own row, or at the block's head the last rows of
    the block before, and zero at the head of a sequence. -/
def back (c : Dev nD) (t : Fin cfg0.N) (d : ℕ) (i : Fin 512) (j : Fin 512) : EReal :=
  if h : d ≤ i.val then gate m c t ⟨i.val - d, by omega⟩ j
  else if t.val % 4 = 0 then 0 else gate m c ⟨t.val - 1, by omega⟩ ⟨(512 + i.val - d) % 512, by omega⟩ j

/-- A row of a load of the carry that starts `d` rows above the block's own: at the head of a sequence, -/
theorem back_fresh (c : Dev nD) (t : Fin cfg0.N) (h1 : t.val % 4 = 0) (o d : ℕ) (hd : o + d = 8) (w : Vec Ideal S2048x512 .bf16)
    {κ : Kind} {sp : Space} (v : View sig κ sp S520x512 .f32) (inb : ∀ a, (![8, 0] : Fin 2 → ℕ) a + (![512, 512] : Fin 2 → ℕ) a ≤ S520x512.size a)
    (inb' : ∀ a, (![0, 0] : Fin 2 → ℕ) a + (![8, 512] : Fin 2 → ℕ) a ≤ S520x512.size a)
    (h : ∀ a, (![o, 0] : Fin 2 → ℕ) a + (![512, 512] : Fin 2 → ℕ) a ≤ S520x512.size a)
    (i : Fin 512) (j : Fin 512) (hw : ∀ k : Fin 2048, w (ix2 k j) = gates m c t (ix3 0 k j)) :
    (show EReal from v.readCov (Val := Elt Ideal) [⟨Rect.unit ![8, 0] ![512, 512] inb, k0_pay8 (F := Ideal) (rows m c t) w⟩,
        ⟨Rect.unit ![0, 0] ![8, 512] inb', k0_pay5 (F := Ideal)⟩] (Rect.unit (s := S520x512) ![o, 0] ![512, 512] h).toLoadRect (ix2 i j))
      = back m c t d i j := by
  refine (load_row v _ h i j ⟨o + i.val, by omega⟩ rfl).trans ?_
  unfold back
  by_cases hi : d ≤ i.val
  · rw [dif_pos hi]
    exact (own_row v v.junk inb _ _ ⟨i.val - d, by omega⟩ j _ (by show o + i.val = 8 + (i.val - d); omega)).trans
      (gate_at m c t w _ j hw)
  · rw [dif_neg hi, if_pos h1]
    exact (other_row v v.junk inb _ _ j _ (by show o + i.val < 8; omega)).trans
      ((top_row v v.junk inb' _ _ ⟨o + i.val, by omega⟩ j _ rfl).trans (zero_rows_at _ j))

/-- and inside one. -/
theorem back_kept (c : Dev nD) (t : Fin cfg0.N) (h1 : ¬ t.val % 4 = 0) (o d : ℕ) (hd : o + d = 8) (w : Vec Ideal S2048x512 .bf16)
    {κ : Kind} {sp : Space} (v : View sig κ sp S520x512 .f32) (f : v.ty.Contents (Elt Ideal))
    (inb : ∀ a, (![8, 0] : Fin 2 → ℕ) a + (![512, 512] : Fin 2 → ℕ) a ≤ S520x512.size a)
    (h : ∀ a, (![o, 0] : Fin 2 → ℕ) a + (![512, 512] : Fin 2 → ℕ) a ≤ S520x512.size a)
    (i : Fin 512) (j : Fin 512) (hw : ∀ k : Fin 2048, w (ix2 k j) = gates m c t (ix3 0 k j))
    (hf : v.read (Elt Ideal) f = (outsAt0 m c (t.val - 1) (by omega)).2.2.2) :
    View.ld (v.read (Elt Ideal) (v.writes (Elt Ideal) f [⟨Rect.unit ![8, 0] ![512, 512] inb, k0_pay8 (F := Ideal) (rows m c t) w⟩]))
        (Rect.unit ![o, 0] ![512, 512] h) (ix2 i j)
      = back m c t d i j := by
  refine (load_kept_row _ h i j ⟨o + i.val, by omega⟩ rfl).trans ?_
  unfold back
  by_cases hi : d ≤ i.val
  · rw [dif_pos hi]
    exact (own_row v f inb _ _ ⟨i.val - d, by omega⟩ j _ (by show o + i.val = 8 + (i.val - d); omega)).trans
      (gate_at m c t w _ j hw)
  · rw [dif_neg hi, if_neg h1]
    refine (other_row v f inb _ _ j _ (by show o + i.val < 8; omega)).trans
      ((congrFun hf _).trans ((carry m c ⟨t.val - 1, by omega⟩ ⟨o + i.val, by omega⟩ j _ rfl).trans
        (congrArg (gate m c _ · j) (Fin.ext ?_))))
    show 504 + (o + i.val) = (512 + i.val - d) % 512
    omega

/-- The gated unit of one column: the convolution of three gate rows, its GELU, and the other half. -/
def unit (g0 g1 g2 u w0 w1 w2 b : EReal) : EReal :=
  Ideal.ofBits .f32 0x3F000000#32 * (w2 * g0 + w1 * g1 + w0 * g2 + b)
    * (1 + Ideal.erf ((w2 * g0 + w1 * g1 + w0 * g2 + b) * (((Real.sqrt 2)⁻¹ : ℝ) : EReal))) * u

theorem unit_congr {g0 g1 g2 u w0 w1 w2 b g0' g1' g2' u' w0' w1' w2' b' : EReal} (e0 : g0 = g0') (e1 : g1 = g1') (e2 : g2 = g2')
    (eu : u = u') (f0 : w0 = w0') (f1 : w1 = w1') (f2 : w2 = w2') (eb : b = b') :
    unit g0 g1 g2 u w0 w1 w2 b = unit g0' g1' g2' u' w0' w1' w2' b' := by
  rw [e0, e1, e2, eu, f0, f1, f2, eb]

theorem unit_at (u g1 g2 g0 : Vec Ideal S512x512 .f32) (w1 w0 b : Vec Ideal S1x512 .f32) (i j : Fin 512) (x0 x1 x2 y c0 c1 c2 : EReal)
    (h0 : g0 (ix2 i j) = c2 * x0) (h1 : g1 (ix2 i j) = x1) (h2 : g2 (ix2 i j) = x2) (hu : u (ix2 i j) = y)
    (k0 : w0 (ix2 0 j) = c0) (k1 : w1 (ix2 0 j) = c1) :
    k0_pay1 (F := Ideal) u g1 g2 g0 w1 w0 b (ix2 i j) = unit x0 x1 x2 y c0 c1 c2 (b (ix2 0 j)) := by
  have e : Named.named (F := Ideal) (φ := .f32) κ "half_root" 0x3F3504F3#32 = (((Real.sqrt 2)⁻¹ : ℝ) : EReal) :=
    IdealRules.named_const.ideal_named_scalar _ _ _ _ rfl
  pointwise [k0_pay1]
  rw [h0, h1, h2, hu, k0, k1, e]
  rfl

theorem coef_at (X : S3x512.Idx → Elt Ideal .f32) (o : ℕ) (h : ∀ a, (![o, 0] : Fin 2 → ℕ) a + (![1, 512] : Fin 2 → ℕ) a ≤ S3x512.size a)
    (j : Fin 512) (y : Fin 3) (hy : y.val = o) : View.ld X (Rect.unit ![o, 0] ![1, 512] h) (ix2 0 j) = X (ix2 y j) := by
  refine congrArg X (funext fun a => Fin.ext ?_)
  fin_cases a
  · show o + 1 * 0 = y.val; omega
  · show 0 + 1 * j.val = j.val; omega

/-- What a grid point leaves in the output's block. -/
theorem block_at (c : Dev nD) (t : Fin cfg0.N) (i : Fin 512) (j : Fin 512) :
    (outsAt0 m c t.val t.isLt).1 (ix2 i j)
      = unit (gate m c t i j) (back m c t 1 i j) (back m c t 2 i j) (up m c t i j)
          (coefs m c t (ix2 0 j)) (coefs m c t (ix2 1 j)) (coefs m c t (ix2 2 j)) (offs m c t (ix2 0 j)) := by
  by_cases h0 : t.val % 16 = 0
  · rw [outsAt0_A m c t h0 (by omega)]
    frame_out
    have hg : ∀ k : Fin 2048, k0_pay3 (F := Ideal) (gates m c t) (ix2 k j) = gates m c t (ix3 0 k j) := fun k => gate_weights_at _ k j
    have hu : ∀ k : Fin 2048, k0_pay4 (F := Ideal) (ups m c t) (ix2 k j) = ups m c t (ix3 0 k j) := fun k => up_weights_at _ k j
    refine unit_at _ _ _ _ _ _ _ i j _ _ _ _ _ _ _ ((weighed_at m c t _ _ i j hg).trans ?_) ?_ ?_ (up_at m c t _ i j hu) ?_ ?_
    · rw [coef_at _ 2 _ j 2 rfl]
    · exact back_fresh m c t (by omega) 7 1 rfl _ _ _ _ _ i j hg
    · exact back_fresh m c t (by omega) 6 2 rfl _ _ _ _ _ i j hg
    · exact coef_at _ 0 _ j 0 rfl
    · exact coef_at _ 1 _ j 1 rfl
  · have hg := gates_before m c t h0 j
    have hu := ups_before m c t h0 j
    by_cases h1 : t.val % 4 = 0
    · rw [outsAt0_C m c t h0 h1]
      frame_out
      simp only [read_unread_whole]
      refine unit_at _ _ _ _ _ _ _ i j _ _ _ _ _ _ _ ((weighed_at m c t _ _ i j hg).trans ?_) ?_ ?_ (up_at m c t _ i j hu) ?_ ?_
      · rw [coef_at _ 2 _ j 2 rfl]
      · exact back_fresh m c t h1 7 1 rfl _ _ _ _ _ i j hg
      · exact back_fresh m c t h1 6 2 rfl _ _ _ _ _ i j hg
      · exact coef_at _ 0 _ j 0 rfl
      · exact coef_at _ 1 _ j 1 rfl
    · rw [outsAt0_B m c t h0 h1]
      frame_out
      simp only [read_unread_whole]
      refine unit_at _ _ _ _ _ _ _ i j _ _ _ _ _ _ _ ((weighed_at m c t _ _ i j hg).trans ?_) ?_ ?_ (up_at m c t _ i j hu) ?_ ?_
      · rw [coef_at _ 2 _ j 2 rfl]
      · exact back_kept m c t h1 7 1 rfl _ _ _ _ _ i j hg (read_unread_whole _ _ _)
      · exact back_kept m c t h1 6 2 rfl _ _ _ _ _ i j hg (read_unread_whole _ _ _)
      · exact coef_at _ 0 _ j 0 rfl
      · exact coef_at _ 1 _ j 1 rfl

/-! The reference's result at an index. -/

section Reference
open Cert.Reference2Ideal.Read
variable (x : FVec Ideal S8192x2048 .bf16) (w : FVec Ideal S4x2048x11264 .f32) (cw : FVec Ideal S3x5632 .f32) (cb : FVec Ideal S5632 .f32)

theorem products_at (i : Fin 8192) (j : Fin 11264) :
    val_main_v3 (F := Ideal) x w (ix2 i j) = ∑ k : Fin 2048, x (ix2 i k) * w (ix3 0 k j) := by
  pointwise [val_main_v3, val_main_v2, val_main_v1, val_main_v0]

/-- The gate's and the other half's columns of the product, by sequence and place. -/
theorem split_at (b : Fin 4) (s : Fin 2048) (j : Fin 5632) :
    val_main_v5 (F := Ideal) x w (ix3 b s j) = val_main_v3 (F := Ideal) x w (ix2 ⟨b.val * 2048 + s.val, by omega⟩ ⟨j.val, by omega⟩)
      ∧ val_main_v6 (F := Ideal) x w (ix3 b s j) = val_main_v3 (F := Ideal) x w (ix2 ⟨b.val * 2048 + s.val, by omega⟩ ⟨5632 + j.val, by omega⟩) := by
  unfold val_main_v5 val_main_v6 val_main_v4
  generalize val_main_v3 (F := Ideal) x w = y
  constructor <;> pointwise []

theorem padded_at (b : Fin 4) (s : Fin 2050) (j : Fin 5632) :
    val_main_v7 (F := Ideal) x w (ix3 b s j) = if h : 2 ≤ s.val then val_main_v5 (F := Ideal) x w (ix3 b ⟨s.val - 2, by omega⟩ j) else 0 := by
  unfold val_main_v7
  generalize val_main_v5 (F := Ideal) x w = y
  pointwise [val_main_call0_v0, val_main_c]
  have e : FloatOps.sitofp (F := Ideal) FTy.f32 (0#32) = (0 : EReal) := by
    show (((0#32 : BitVec 32).toInt : ℝ) : EReal) = 0
    simp
  by_cases h : 2 ≤ s.val
  · rw [dif_pos h, dif_pos ⟨h, by omega⟩]
  · rw [dif_neg h, dif_neg (fun a => h a.1), e]

theorem result_at (b : Fin 4) (s : Fin 2048) (j : Fin 5632) (i : Fin 8192) (hi : i.val = b.val * 2048 + s.val) :
    val_main_v44 (F := Ideal) x w cw cb (ix2 i j)
      = unit (val_main_v7 (F := Ideal) x w (ix3 b ⟨s.val + 2, by omega⟩ j)) (val_main_v7 (F := Ideal) x w (ix3 b ⟨s.val + 1, by omega⟩ j))
          (val_main_v7 (F := Ideal) x w (ix3 b ⟨s.val, by omega⟩ j)) (val_main_v6 (F := Ideal) x w (ix3 b s j))
          (cw (ix2 0 j)) (cw (ix2 1 j)) (cw (ix2 2 j)) (cb (ix1 j)) := by
  simp only [val_main_v44, val_main_v43, val_main_v42, val_main_v41, val_main_v40, val_main_v39, val_main_v38, val_main_v37,
    val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_cst, val_main_cst_0, val_main_cst_1, val_main_cst_2]
  generalize val_main_v7 (F := Ideal) x w = p
  generalize val_main_v6 (F := Ideal) x w = u
  pointwise []
  have hb : (⟨i.val / 2048, by omega⟩ : Fin 4) = b := Fin.ext (by show i.val / 2048 = b.val; omega)
  have hs : i.val % 2048 = s.val := by omega
  have e : ∀ z : EReal, Ideal.div z (Ideal.sqrt (Ideal.ofBits FTy.f32 0x40000000#32)) = z * (((Real.sqrt 2)⁻¹ : ℝ) : EReal) := by
    intro z
    have h2 : Ideal.sqrt ((2 : ℝ) : EReal) = ((Real.sqrt 2 : ℝ) : EReal) := if_neg (by norm_num)
    rw [Cert.Softmax.word_two, h2, Ideal.div_coe (Real.sqrt_ne_zero'.mpr (by norm_num)), one_div]
  have f2 : (⟨s.val + 2, by omega⟩ : Fin 2050) = ⟨2 + s.val, by omega⟩ := Fin.ext (by show s.val + 2 = 2 + s.val; omega)
  have f1 : (⟨s.val + 1, by omega⟩ : Fin 2050) = ⟨1 + s.val, by omega⟩ := Fin.ext (by show s.val + 1 = 1 + s.val; omega)
  simp only [hb, hs, e, f2, f1]
  have sum : ∀ a0 a1 a2 c0 c1 c2 d : EReal, a0 * c0 + a1 * c1 + a2 * c2 + d = c2 * a2 + c1 * a1 + c0 * a0 + d := by
    intro a0 a1 a2 c0 c1 c2 d
    rw [mul_comm a0, mul_comm a1, mul_comm a2]
    ac_rfl
  unfold unit
  rw [sum]
end Reference

/-- The reference's result of the kernel's arguments. -/
abbrev RES (c : Dev nD) : FVec Ideal S8192x5632 .bf16 :=
  Cert.Reference2Ideal.Read.val_main_v44 (F := Ideal) (m ((c : Thread nD τ).loc main_arg0)) (m ((c : Thread nD τ).loc main_arg1))
    (m ((c : Thread nD τ).loc main_arg2)) (m ((c : Thread nD τ).loc main_arg3))

/-- The whole product of the kernel's arguments. -/
abbrev prods (c : Dev nD) : FVec Ideal Cert.Reference2Ideal.S8192x11264 .f32 :=
  Cert.Reference2Ideal.Read.val_main_v3 (F := Ideal) (m ((c : Thread nD τ).loc main_arg0)) (m ((c : Thread nD τ).loc main_arg1))

theorem gate_ref (c : Dev nD) (t : Fin cfg0.N) (i j : Fin 512) (R : Fin 8192) (C : Fin 11264) (hR : R.val = t.val % 16 * 512 + i.val)
    (hC : C.val = t.val / 16 * 512 + j.val) : gate m c t i j = prods m c (ix2 R C) := by
  have hc : t.val / 16 < 11 := (block_idx t).2.2.2.2.2.2
  obtain ⟨R, lR⟩ := R
  obtain ⟨C, lC⟩ := C
  dsimp only at hR hC
  subst hR hC
  refine Eq.symm ((products_at _ _ _ _).trans ?_)
  unfold gate
  refine Finset.sum_congr rfl fun k _ => congrArg₂ (· * ·) ?_ ?_
  all_goals blk_ext [iblk, V, block_idx t]

theorem up_ref (c : Dev nD) (t : Fin cfg0.N) (i j : Fin 512) (R : Fin 8192) (C : Fin 11264) (hR : R.val = t.val % 16 * 512 + i.val)
    (hC : C.val = (11 + t.val / 16) * 512 + j.val) : up m c t i j = prods m c (ix2 R C) := by
  have hc : t.val / 16 < 11 := (block_idx t).2.2.2.2.2.2
  obtain ⟨R, lR⟩ := R
  obtain ⟨C, lC⟩ := C
  dsimp only at hR hC
  subst hR hC
  refine Eq.symm ((products_at _ _ _ _).trans ?_)
  unfold up
  refine Finset.sum_congr rfl fun k _ => congrArg₂ (· * ·) ?_ ?_
  all_goals blk_ext [iblk, V, block_idx t]

theorem back_ref (c : Dev nD) (t : Fin cfg0.N) (d : ℕ) (hd : d ≤ 2) (i j : Fin 512) (R : Fin 8192) (C : Fin 11264)
    (hR : R.val = t.val % 16 * 512 + i.val) (hC : C.val = t.val / 16 * 512 + j.val) :
    back m c t d i j = if d ≤ R.val % 2048 then prods m c (ix2 ⟨R.val - d, by omega⟩ C) else 0 := by
  have hN : t.val < 176 := t.isLt
  unfold back
  by_cases h : d ≤ i.val
  · rw [dif_pos h, if_pos (by omega)]
    exact gate_ref m c t _ j _ _ (by show R.val - d = t.val % 16 * 512 + (i.val - d); omega) hC
  · rw [dif_neg h]
    by_cases h1 : t.val % 4 = 0
    · rw [if_pos h1, if_neg (by omega)]
    · rw [if_neg h1, if_pos (by omega)]
      exact gate_ref m c _ _ j _ _ (by show R.val - d = (t.val - 1) % 16 * 512 + (512 + i.val - d) % 512; omega)
        (by show C.val = (t.val - 1) / 16 * 512 + j.val; omega)

/-- The reference's gate `d` rows before a row: zero above a sequence's first. -/
theorem padded_ref (c : Dev nD) (d : ℕ) (hd : d ≤ 2) (b : Fin 4) (s : Fin 2048) (z : Fin 2050) (j : Fin 5632) (R : Fin 8192) (C : Fin 11264)
    (hz : z.val = s.val + 2 - d) (hR : R.val = b.val * 2048 + s.val) (hC : C.val = j.val) :
    Cert.Reference2Ideal.Read.val_main_v7 (F := Ideal) (m ((c : Thread nD τ).loc main_arg0)) (m ((c : Thread nD τ).loc main_arg1)) (ix3 b z j)
      = if d ≤ R.val % 2048 then prods m c (ix2 ⟨R.val - d, by omega⟩ C) else 0 := by
  refine (padded_at _ _ b z j).trans ?_
  by_cases h : d ≤ s.val
  · rw [dif_pos (by omega), if_pos (by omega)]
    refine (split_at _ _ b _ j).1.trans (congrArg (prods m c) ?_)
    exact congrArg₂ ix2 (Fin.ext (by show b.val * 2048 + (z.val - 2) = R.val - d; omega)) (Fin.ext hC.symm)
  · rw [dif_neg (by omega), if_neg (by omega)]

/-- The convolution's offsets as the one row the kernel is given. -/
theorem offset_row (b : Vec Ideal S5632 .f32) (k : Fin 5632) : shapeCast S1x5632 b shapeCasts_S5632_S1x5632 (ix2 0 k) = b (ix1 k) := by
  pointwise []

theorem final (c : Dev nD) : (dats m 0 c).arrAt 5 cfg0.N = RES m c := by
  refine (dats m 0 c).arrAt_eq_of_covers 5 _ (by decide +kernel) fun t _ y => ?_
  blk_simp
  rw [after0_5]
  have hc : t.val / 16 < 11 := (block_idx t).2.2.2.2.2.2
  idx_vars y
  have e : ((View.whole main_v1).slice (win0_5.rect t)).emb (ix2 y0 y1)
      = (ix2 (⟨t.val % 16 * 512 + y0.val, by omega⟩ : Fin 8192) (⟨t.val / 16 * 512 + y1.val, by omega⟩ : Fin 5632) : S8192x5632.Idx) := by
    blk_ext [block_idx t]
  refine (block_at m c t y0 y1).trans ((congrArg (RES m c) e).trans ((result_at _ _ _ _
    ⟨(t.val % 16 * 512 + y0.val) / 2048, by omega⟩ ⟨(t.val % 16 * 512 + y0.val) % 2048, by omega⟩ _ _
      (by show t.val % 16 * 512 + y0.val = (t.val % 16 * 512 + y0.val) / 2048 * 2048 + (t.val % 16 * 512 + y0.val) % 2048; omega)).trans ?_)).symm
  have g0 := gate_ref m c t y0 y1 ⟨t.val % 16 * 512 + y0.val, by omega⟩ ⟨t.val / 16 * 512 + y1.val, by omega⟩ rfl rfl
  have g1 := back_ref m c t 1 (by omega) y0 y1 ⟨t.val % 16 * 512 + y0.val, by omega⟩ ⟨t.val / 16 * 512 + y1.val, by omega⟩ rfl rfl
  have g2 := back_ref m c t 2 (by omega) y0 y1 ⟨t.val % 16 * 512 + y0.val, by omega⟩ ⟨t.val / 16 * 512 + y1.val, by omega⟩ rfl rfl
  have u0 := up_ref m c t y0 y1 ⟨t.val % 16 * 512 + y0.val, by omega⟩ ⟨5632 + (t.val / 16 * 512 + y1.val), by omega⟩ rfl
    (by show 5632 + (t.val / 16 * 512 + y1.val) = (11 + t.val / 16) * 512 + y1.val; omega)
  rw [g0, g1, g2, u0]
  have hb : t.val % 16 * 512 + y0.val = (t.val % 16 * 512 + y0.val) / 2048 * 2048 + (t.val % 16 * 512 + y0.val) % 2048 := by omega
  have p0 := padded_ref m c 0 (by omega) ⟨(t.val % 16 * 512 + y0.val) / 2048, by omega⟩ ⟨(t.val % 16 * 512 + y0.val) % 2048, by omega⟩
    ⟨(t.val % 16 * 512 + y0.val) % 2048 + 2, by omega⟩ ⟨t.val / 16 * 512 + y1.val, by omega⟩
    ⟨t.val % 16 * 512 + y0.val, by omega⟩ ⟨t.val / 16 * 512 + y1.val, by omega⟩ rfl hb rfl
  have p1 := padded_ref m c 1 (by omega) ⟨(t.val % 16 * 512 + y0.val) / 2048, by omega⟩ ⟨(t.val % 16 * 512 + y0.val) % 2048, by omega⟩
    ⟨(t.val % 16 * 512 + y0.val) % 2048 + 1, by omega⟩ ⟨t.val / 16 * 512 + y1.val, by omega⟩
    ⟨t.val % 16 * 512 + y0.val, by omega⟩ ⟨t.val / 16 * 512 + y1.val, by omega⟩ rfl hb rfl
  have p2 := padded_ref m c 2 (by omega) ⟨(t.val % 16 * 512 + y0.val) / 2048, by omega⟩ ⟨(t.val % 16 * 512 + y0.val) % 2048, by omega⟩
    ⟨(t.val % 16 * 512 + y0.val) % 2048, by omega⟩ ⟨t.val / 16 * 512 + y1.val, by omega⟩
    ⟨t.val % 16 * 512 + y0.val, by omega⟩ ⟨t.val / 16 * 512 + y1.val, by omega⟩ rfl hb rfl
  have p3 : Cert.Reference2Ideal.Read.val_main_v6 (F := Ideal) (m ((c : Thread nD τ).loc main_arg0)) (m ((c : Thread nD τ).loc main_arg1))
      (ix3 ⟨(t.val % 16 * 512 + y0.val) / 2048, by omega⟩ ⟨(t.val % 16 * 512 + y0.val) % 2048, by omega⟩ ⟨t.val / 16 * 512 + y1.val, by omega⟩)
      = prods m c (ix2 ⟨t.val % 16 * 512 + y0.val, by omega⟩ ⟨5632 + (t.val / 16 * 512 + y1.val), by omega⟩) :=
    (split_at _ _ _ _ _).2.trans (congrArg (prods m c) (congrArg₂ ix2 (Fin.ext hb.symm) rfl))
  rw [if_pos (Nat.zero_le _)] at p0
  have eo : ((View.whole main_v0).slice (win0_4.rect t)).emb (ix2 0 y1) = (ix2 0 (⟨t.val / 16 * 512 + y1.val, by omega⟩ : Fin 5632) : S1x5632.Idx) := by
    blk_ext [block_idx t]
  have ho : offs m c t (ix2 0 y1) = m ((c : Thread nD τ).loc main_arg3) (ix1 (⟨t.val / 16 * 512 + y1.val, by omega⟩ : Fin 5632)) :=
    (congrArg (shapeCast S1x5632 (m ((c : Thread nD τ).loc main_arg3)) shapeCasts_S5632_S1x5632) eo).trans (offset_row _ _)
  refine unit_congr (p0.trans rfl) p1 p2 p3 ?_ ?_ ?_ ho.symm
  all_goals blk_ext [iblk, V, block_idx t]

/-- Every execution ends with the result array at the reference's result of the arguments, and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v1) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 5).trans (final m c), h.2 c⟩)
    (θ_run_and (run_main m ρ) (unchanged m ρ))

end Cert.Kernel2Ideal.Gated

end
-- ==== Proof.FfnOut.lean ====
/- The residual product with its 5632 rows of weights: the result array is the reference's result of the same arguments. -/
module

public import proofs.«01_k».proof.Proof.Gen.Kernel3Ideal.Frame
public import proofs.«01_k».proof.Proof.Gen.Reference3Ideal
public import proofs.«01_k».proof.Proof.Gen.Reference3Ideal.Read
public import Idealize.ShloMosaic.Lib.Pointwise
public import Idealize.ShloMosaic.Lib.Pipeline.ValueKit

@[expose] public section

set_option maxRecDepth 16384

noncomputable section

namespace Cert.Kernel3Ideal.Product

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at a grid point: 16 row blocks under each column block. -/
theorem block_idx : ∀ t : Fin cfg0.N, win0_0.index t = ![t.val % 16, 0] ∧ win0_1.index t = ![0, 0, t.val / 16]
    ∧ win0_2.index t = ![t.val % 16, t.val / 16] ∧ win0_3.index t = ![t.val % 16, t.val / 16] ∧ t.val / 16 < 4 :=
  (by decide +kernel : ∀ t : Fin grid0.N, _)

/-- The blocks a grid point is given: rows of the left factor, columns of the weights, of the residual. -/
abbrev rows (c : Dev nD) (t : Fin cfg0.N) : Vec Ideal S512x5632 .bf16 := iblk m c 0 t
abbrev cols (c : Dev nD) (t : Fin cfg0.N) : Vec Ideal S1x5632x512 .f32 := iblk m c 1 t
abbrev held (c : Dev nD) (t : Fin cfg0.N) : Vec Ideal S512x512 .f32 := iblk m c 2 t

/-- The columns of weights of one column block, as the kernel keeps them. -/
theorem weights_at (w : Vec Ideal S1x5632x512 .f32) (k : Fin 5632) (j : Fin 512) :
    k0_pay1 (F := Ideal) w (ix2 k j) = w (ix3 0 k j) := by
  pointwise [k0_pay1]

/-- Through all the row blocks of a column block the kept weights are that column block's. -/
theorem kept (c : Dev nD) : ∀ (n : ℕ) (h : n < cfg0.N) (k : Fin 5632) (j : Fin 512),
    (outsAt0 m c n h).2 (ix2 k j) = cols m c ⟨n, h⟩ (ix3 0 k j) := by
  intro n
  induction n with
  | zero =>
    intro h k j
    rw [outsAt0_A m c ⟨0, h⟩ rfl]
    frame_out
    exact weights_at _ k j
  | succ n ih =>
    intro h k j
    by_cases h0 : (n + 1) % 16 = 0
    · rw [outsAt0_A m c ⟨n + 1, h⟩ h0]
      frame_out
      exact weights_at _ k j
    · rw [outsAt0_B m c ⟨n + 1, h⟩ h0]
      frame_out
      refine (ih (by omega) k j).trans ?_
      have e : n / 16 = (n + 1) / 16 := by omega
      have a := (block_idx ⟨n, by omega⟩).2.1
      have b := (block_idx ⟨n + 1, h⟩).2.1
      rw [← e] at b
      blk_ext [iblk, V, a, b]

/-- A row block of the product over the kept weights, added to the residual's block. -/
theorem product_at (x : Vec Ideal S512x5632 .bf16) (w : Vec Ideal S5632x512 .bf16) (r : Vec Ideal S512x512 .f32)
    (v : Vec Ideal S1x5632x512 .f32) (i : Fin 512) (j : Fin 512) (h : ∀ k : Fin 5632, w (ix2 k j) = v (ix3 0 k j)) :
    k0_pay2 (F := Ideal) x w r (ix2 i j) = r (ix2 i j) + ∑ k : Fin 5632, x (ix2 i k) * v (ix3 0 k j) := by
  pointwise [k0_pay2]
  simp only [h]

/-- What a grid point leaves in the output's block. -/
theorem block_at (c : Dev nD) (t : Fin cfg0.N) (i : Fin 512) (j : Fin 512) :
    (outsAt0 m c t.val t.isLt).1 (ix2 i j)
      = held m c t (ix2 i j)
        + ∑ k : Fin 5632, rows m c t (ix2 i k) * cols m c t (ix3 0 k j) := by
  by_cases h0 : t.val % 16 = 0
  · rw [outsAt0_A m c t h0]
    frame_out
    exact product_at _ _ _ (cols m c t) i j fun k => weights_at _ k j
  · rw [outsAt0_B m c t h0]
    frame_out
    refine product_at _ _ _ (cols m c t) i j fun k => (congrFun (Memref.IsWhole.read_unread _ _) _).trans ((kept m c _ _ k j).trans ?_)
    have e : (t.val - 1) / 16 = t.val / 16 := by omega
    have a := (block_idx ⟨t.val - 1, by omega⟩).2.1
    have b := (block_idx t).2.1
    rw [← e] at b
    blk_ext [iblk, V, a, b]

/-- The reference's result of the kernel's arguments. -/
abbrev RES (c : Dev nD) : FVec Ideal S8192x2048 .f32 :=
  Cert.Reference3Ideal.Read.val_main_v4 (F := Ideal) (m ((c : Thread nD τ).loc main_arg0)) (m ((c : Thread nD τ).loc main_arg1))
    (m ((c : Thread nD τ).loc main_arg2))

open Cert.Reference3Ideal.Read in
theorem result_at (x : FVec Ideal S8192x5632 .bf16) (w : FVec Ideal S4x5632x2048 .f32) (r : FVec Ideal S8192x2048 .f32)
    (i : Fin 8192) (j : Fin 2048) :
    val_main_v4 (F := Ideal) x w r (ix2 i j) = r (ix2 i j) + ∑ k : Fin 5632, x (ix2 i k) * w (ix3 0 k j) := by
  pointwise [val_main_v4, val_main_v3, val_main_v2, val_main_v1, val_main_v0]

theorem final (c : Dev nD) : (dats m 0 c).arrAt 3 cfg0.N = RES m c := by
  refine (dats m 0 c).arrAt_eq_of_covers 3 _ (by decide +kernel) fun t _ y => ?_
  blk_simp
  rw [after0_3]
  have hc : t.val / 16 < 4 := (block_idx t).2.2.2.2
  idx_vars y
  have e : ((View.whole main_v0).slice (win0_3.rect t)).emb (ix2 y0 y1)
      = (ix2 (⟨t.val % 16 * 512 + y0.val, by omega⟩ : Fin 8192) (⟨t.val / 16 * 512 + y1.val, by omega⟩ : Fin 2048) : S8192x2048.Idx) := by
    blk_ext [block_idx t]
  refine (block_at m c t y0 y1).trans ((congrArg (RES m c) e).trans ((result_at _ _ _ _ _).trans ?_)).symm
  refine congrArg₂ (· + ·) ?_ (Finset.sum_congr rfl fun k _ => congrArg₂ (· * ·) ?_ ?_)
  all_goals blk_ext [iblk, V, block_idx t]

/-- Every execution ends with the result array at the reference's result of the arguments, and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m c), h.2 c⟩)
    (θ_run_and (run_main m ρ) (unchanged m ρ))

end Cert.Kernel3Ideal.Product

end
-- ==== Proof.FoxProj.lean ====
/- The forgetting attention's projection: the result array is the reference's result of the same arguments. -/
module

public import proofs.«01_k».proof.Proof.Scale
public import proofs.«01_k».proof.Proof.Gen.Kernel4Ideal.Frame
public import proofs.«01_k».proof.Proof.Gen.Reference4Ideal
public import proofs.«01_k».proof.Proof.Gen.Reference4Ideal.Read
public import Idealize.ShloMosaic.Lib.WritesUnit
public import Idealize.ShloMosaic.Lib.Pipeline.ReadBack
public import Idealize.ShloMosaic.Lib.Pointwise
public import Idealize.ShloMosaic.Lib.Pipeline.ValueKit

@[expose] public section

set_option maxRecDepth 16384

noncomputable section

namespace Cert.Kernel4Ideal.Heads

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at a grid point: 16 row blocks under each column block. -/
theorem block_idx : ∀ t : Fin cfg0.N, win0_0.index t = ![t.val % 16, 0] ∧ win0_1.index t = ![0, 0, t.val / 16]
    ∧ win0_2.index t = ![0, 0] ∧ win0_3.index t = ![t.val % 16, t.val / 16] ∧ t.val / 16 < 8 :=
  (by decide +kernel : ∀ t : Fin grid0.N, _)

/-- The rounded constant the queries' gain is multiplied with is the one called `scale`. -/
theorem named_scale : Named.named (F := Ideal) (φ := .f32) κ "scale" 0x3E0293EE#32 = Cert.Scale.scale :=
  IdealRules.named_const.ideal_named_scalar _ _ _ _ rfl

/-- One head's 128 values over the root of their mean square. -/
def normed (f : Fin 128 → EReal) (k : Fin 128) : EReal :=
  f k * Ideal.rsqrt (Ideal.div (∑ x, f x * f x) (Ideal.ofBits .f32 0x43000000#32) + Ideal.ofBits .f32 0x358637BD#32)

/-- Head `h` of the eight a row of a column block holds. -/
def head (f : Fin 1024 → EReal) (h : Fin 8) (k : Fin 128) : EReal := f ⟨h.val * 128 + k.val, by omega⟩

/-! The eight heads a grid point writes, the queries' and the keys'. -/

theorem query0_at (v : FVec Ideal S512x1024 .f32) (g : FVec Ideal S1x128 .f32) (i : Fin 512) (k : Fin 128) :
    k0_pay7 (F := Ideal) v g (ix2 i k) = normed (head (fun l => v (ix2 i l)) 0) k * (g (ix2 0 k) * Cert.Scale.scale) := by
  rw [← named_scale]
  pointwise [k0_pay7]
  simp only [normed, head, Fin.val_zero, Nat.zero_mul, Nat.zero_add]

theorem query1_at (v : FVec Ideal S512x1024 .f32) (g : FVec Ideal S1x128 .f32) (i : Fin 512) (k : Fin 128) :
    k0_pay8 (F := Ideal) v g (ix2 i k) = normed (head (fun l => v (ix2 i l)) 1) k * (g (ix2 0 k) * Cert.Scale.scale) := by
  rw [← named_scale]
  pointwise [k0_pay8]
  rfl

theorem query2_at (v : FVec Ideal S512x1024 .f32) (g : FVec Ideal S1x128 .f32) (i : Fin 512) (k : Fin 128) :
    k0_pay11 (F := Ideal) g (k0_pay9 v) (k0_pay10 v) (FloatOps.ofBits FTy.f32 897988541#32) (ix2 i k) = normed (head (fun l => v (ix2 i l)) 2) k * (g (ix2 0 k) * Cert.Scale.scale) := by
  rw [← named_scale]
  pointwise [k0_pay11, k0_pay9, k0_pay10]
  rfl

theorem query3_at (v : FVec Ideal S512x1024 .f32) (g : FVec Ideal S1x128 .f32) (i : Fin 512) (k : Fin 128) :
    k0_pay12 (F := Ideal) v g (ix2 i k) = normed (head (fun l => v (ix2 i l)) 3) k * (g (ix2 0 k) * Cert.Scale.scale) := by
  rw [← named_scale]
  pointwise [k0_pay12]
  rfl

theorem query4_at (v : FVec Ideal S512x1024 .f32) (g : FVec Ideal S1x128 .f32) (i : Fin 512) (k : Fin 128) :
    k0_pay13 (F := Ideal) v g (ix2 i k) = normed (head (fun l => v (ix2 i l)) 4) k * (g (ix2 0 k) * Cert.Scale.scale) := by
  rw [← named_scale]
  pointwise [k0_pay13]
  rfl

theorem query5_at (v : FVec Ideal S512x1024 .f32) (g : FVec Ideal S1x128 .f32) (i : Fin 512) (k : Fin 128) :
    k0_pay14 (F := Ideal) v g (ix2 i k) = normed (head (fun l => v (ix2 i l)) 5) k * (g (ix2 0 k) * Cert.Scale.scale) := by
  rw [← named_scale]
  pointwise [k0_pay14]
  rfl

theorem query6_at (v : FVec Ideal S512x1024 .f32) (g : FVec Ideal S1x128 .f32) (i : Fin 512) (k : Fin 128) :
    k0_pay15 (F := Ideal) v g (ix2 i k) = normed (head (fun l => v (ix2 i l)) 6) k * (g (ix2 0 k) * Cert.Scale.scale) := by
  rw [← named_scale]
  pointwise [k0_pay15]
  rfl

theorem query7_at (v : FVec Ideal S512x1024 .f32) (g : FVec Ideal S1x128 .f32) (i : Fin 512) (k : Fin 128) :
    k0_pay3 (F := Ideal) g (k0_pay16 v) (k0_pay17 v) (FloatOps.ofBits FTy.f32 897988541#32) (ix2 i k) = normed (head (fun l => v (ix2 i l)) 7) k * (g (ix2 0 k) * Cert.Scale.scale) := by
  rw [← named_scale]
  pointwise [k0_pay3, k0_pay16, k0_pay17]
  rfl

theorem key0_at (v : FVec Ideal S512x1024 .f32) (g : FVec Ideal S1x128 .f32) (i : Fin 512) (k : Fin 128) :
    k0_pay18 (F := Ideal) v g (ix2 i k) = normed (head (fun l => v (ix2 i l)) 0) k * (g (ix2 0 k)) := by
  pointwise [k0_pay18]
  simp only [normed, head, Fin.val_zero, Nat.zero_mul, Nat.zero_add]

theorem key1_at (v : FVec Ideal S512x1024 .f32) (g : FVec Ideal S1x128 .f32) (i : Fin 512) (k : Fin 128) :
    k0_pay19 (F := Ideal) v g (ix2 i k) = normed (head (fun l => v (ix2 i l)) 1) k * (g (ix2 0 k)) := by
  pointwise [k0_pay19]
  rfl

theorem key2_at (v : FVec Ideal S512x1024 .f32) (g : FVec Ideal S1x128 .f32) (i : Fin 512) (k : Fin 128) :
    k0_pay22 (F := Ideal) g (k0_pay20 v) (k0_pay21 v) (FloatOps.ofBits FTy.f32 897988541#32) (ix2 i k) = normed (head (fun l => v (ix2 i l)) 2) k * (g (ix2 0 k)) := by
  pointwise [k0_pay22, k0_pay20, k0_pay21]
  rfl

theorem key3_at (v : FVec Ideal S512x1024 .f32) (g : FVec Ideal S1x128 .f32) (i : Fin 512) (k : Fin 128) :
    k0_pay23 (F := Ideal) v g (ix2 i k) = normed (head (fun l => v (ix2 i l)) 3) k * (g (ix2 0 k)) := by
  pointwise [k0_pay23]
  rfl

theorem key4_at (v : FVec Ideal S512x1024 .f32) (g : FVec Ideal S1x128 .f32) (i : Fin 512) (k : Fin 128) :
    k0_pay24 (F := Ideal) v g (ix2 i k) = normed (head (fun l => v (ix2 i l)) 4) k * (g (ix2 0 k)) := by
  pointwise [k0_pay24]
  rfl

theorem key5_at (v : FVec Ideal S512x1024 .f32) (g : FVec Ideal S1x128 .f32) (i : Fin 512) (k : Fin 128) :
    k0_pay25 (F := Ideal) v g (ix2 i k) = normed (head (fun l => v (ix2 i l)) 5) k * (g (ix2 0 k)) := by
  pointwise [k0_pay25]
  rfl

theorem key6_at (v : FVec Ideal S512x1024 .f32) (g : FVec Ideal S1x128 .f32) (i : Fin 512) (k : Fin 128) :
    k0_pay26 (F := Ideal) v g (ix2 i k) = normed (head (fun l => v (ix2 i l)) 6) k * (g (ix2 0 k)) := by
  pointwise [k0_pay26]
  rfl

theorem key7_at (v : FVec Ideal S512x1024 .f32) (g : FVec Ideal S1x128 .f32) (i : Fin 512) (k : Fin 128) :
    k0_pay4 (F := Ideal) g (k0_pay27 v) (k0_pay28 v) (FloatOps.ofBits FTy.f32 897988541#32) (ix2 i k) = normed (head (fun l => v (ix2 i l)) 7) k * (g (ix2 0 k)) := by
  pointwise [k0_pay4, k0_pay27, k0_pay28]
  rfl

section Block

/-- Outside the columns written last, the block is what the earlier writes leave. -/
theorem skip (o : ℕ) (inb : ∀ a, (![0, o] : Fin 2 → ℕ) a + (![512, 128] : Fin 2 → ℕ) a ≤ S512x1024.size a) (p : FVec Ideal S512x128 .bf16)
    (L : List (View.Piece (Elt Ideal) S512x1024 .bf16)) (i : Fin 512) (j : Fin 1024) (h : j.val < o) :
    View.canon (⟨Rect.unit (s := S512x1024) ![0, o] ![512, 128] inb, p⟩ :: L) (ix2 i j) = View.canon L (ix2 i j) := by
  exact View.canon_cons_of_not_mem _ _ (Rect.not_mem_set_of_axis _ _ 1 o 128 rfl rfl rfl (Or.inl h))

/-- In the columns written last, the block is what was written. -/
theorem take (o : ℕ) (inb : ∀ a, (![0, o] : Fin 2 → ℕ) a + (![512, 128] : Fin 2 → ℕ) a ≤ S512x1024.size a) (p : FVec Ideal S512x128 .bf16)
    (L : List (View.Piece (Elt Ideal) S512x1024 .bf16)) (i : Fin 512) (j : Fin 1024) (k : Fin 128) (h : j.val = o + k.val) :
    View.canon (⟨Rect.unit (s := S512x1024) ![0, o] ![512, 128] inb, p⟩ :: L) (ix2 i j) = p (ix2 i k) := by
  have e : ix2 i j = (Rect.unit (s := S512x1024) ![0, o] ![512, 128] inb).emb (ix2 i k) := by
    funext a
    refine Fin.ext ?_
    fin_cases a
    · show i.val = 0 + 1 * i.val; omega
    · show j.val = o + 1 * k.val; omega
  exact (congrArg (View.canon _) e).trans (View.canon_cons_emb _ _ _ _)

end Block

/-- The blocks a grid point is given: rows of the left factor, columns of the weights, the gains. -/
abbrev rows (c : Dev nD) (t : Fin cfg0.N) : Vec Ideal S512x2048 .bf16 := iblk m c 0 t
abbrev cols (c : Dev nD) (t : Fin cfg0.N) : Vec Ideal S1x2048x1024 .f32 := X0_1 m c t
abbrev gains (c : Dev nD) (t : Fin cfg0.N) : Vec Ideal S2x128 .f32 := iblk m c 2 t

/-- The columns of weights of one column block, as the kernel keeps them. -/
theorem weights_at (w : Vec Ideal S1x2048x1024 .f32) (k : Fin 2048) (j : Fin 1024) :
    k0_pay1 (F := Ideal) w (ix2 k j) = w (ix3 0 k j) := by
  pointwise [k0_pay1]

/-- The columns of weights of a grid point are its column block's. -/
theorem cols_at (c : Dev nD) (t : Fin cfg0.N) (k : Fin 2048) (j : Fin 1024) (l : Fin 8208) (h : l.val = t.val / 16 * 1024 + j.val) :
    cols m c t (ix3 0 k j) = (m ((c : Thread nD τ).loc main_arg1) : FVec Ideal S2x2048x8208 .f32) (ix3 0 k l) := by
  unfold cols X0_1 Pipeline.Window.fill
  rw [dif_pos (moved0_1 t _)]
  blk_ext [iblk, V, block_idx t]

theorem gain_row0 (g : Vec Ideal S2x128 .f32) (k : Fin 128) :
    View.ld (Val := Elt Ideal) (e' := .f32) g (Rect.unit (s := S2x128) ![0, 0] ![1, 128] inb_S2x128_S1x128_0_0) (ix2 0 k) = g (ix2 0 k) := by
  refine congrArg g (funext fun a => Fin.ext ?_)
  fin_cases a
  · rfl
  · show 0 + 1 * k.val = k.val; omega

theorem gain_row1 (g : Vec Ideal S2x128 .f32) (k : Fin 128) :
    View.ld (Val := Elt Ideal) (e' := .f32) g (Rect.unit (s := S2x128) ![1, 0] ![1, 128] inb_S2x128_S1x128_1_0) (ix2 0 k) = g (ix2 1 k) := by
  refine congrArg g (funext fun a => Fin.ext ?_)
  fin_cases a
  · rfl
  · show 0 + 1 * k.val = k.val; omega

theorem gain0_at (c : Dev nD) (t : Fin cfg0.N) (k : Fin 128) :
    View.ld (gains m c t) (Rect.unit (s := S2x128) ![0, 0] ![1, 128] inb_S2x128_S1x128_0_0) (ix2 0 k)
      = (m ((c : Thread nD τ).loc main_arg2) : FVec Ideal S2x128 .f32) (ix2 0 k) := by
  refine (gain_row0 (gains m c t) k).trans ?_
  blk_ext [iblk, V, block_idx t]

theorem gain1_at (c : Dev nD) (t : Fin cfg0.N) (k : Fin 128) :
    View.ld (gains m c t) (Rect.unit (s := S2x128) ![1, 0] ![1, 128] inb_S2x128_S1x128_1_0) (ix2 0 k)
      = (m ((c : Thread nD τ).loc main_arg2) : FVec Ideal S2x128 .f32) (ix2 1 k) := by
  refine (gain_row1 (gains m c t) k).trans ?_
  blk_ext [iblk, V, block_idx t]

/-- Through all the row blocks of a column block the kept weights are that column block's. -/
theorem kept (c : Dev nD) : ∀ (n : ℕ) (h : n < cfg0.N) (k : Fin 2048) (j : Fin 1024),
    (outsAt0 m c n h).2 (ix2 k j) = cols m c ⟨n, h⟩ (ix3 0 k j) := by
  have step : ∀ (n : ℕ) (h : n + 1 < cfg0.N), ¬ (n + 1) % 16 = 0 →
      (∀ (k : Fin 2048) (j : Fin 1024), (outsAt0 m c n (by omega)).2 (ix2 k j) = cols m c ⟨n, by omega⟩ (ix3 0 k j)) →
      ∀ (k : Fin 2048) (j : Fin 1024), (outsAt0 m c n (by omega)).2 (ix2 k j) = cols m c ⟨n + 1, h⟩ (ix3 0 k j) := by
    intro n h h0 ih k j
    have l : n / 16 < 8 := (block_idx ⟨n, by omega⟩).2.2.2.2
    rw [ih k j, cols_at m c ⟨n, by omega⟩ k j ⟨n / 16 * 1024 + j.val, by omega⟩ rfl]
    refine (cols_at m c ⟨n + 1, h⟩ k j _ ?_).symm
    show n / 16 * 1024 + j.val = (n + 1) / 16 * 1024 + j.val
    omega
  have fresh : ∀ (t : Fin cfg0.N), t.val % 16 = 0 → ∀ (k : Fin 2048) (j : Fin 1024),
      (outsAt0 m c t.val t.isLt).2 (ix2 k j) = cols m c t (ix3 0 k j) := by
    intro t h0 k j
    have l : t.val / 16 < 8 := (block_idx t).2.2.2.2
    by_cases h1 : t.val < 32
    · rw [outsAt0_A m c t h0 h1 (by omega) (by omega) (by omega)]
      frame_out
      exact weights_at _ k j
    by_cases h2 : t.val < 64
    · rw [outsAt0_C m c t h0 h1 (by omega) (by omega) (by omega)]
      frame_out
      exact weights_at _ k j
    by_cases h3 : t.val < 96
    · rw [outsAt0_E m c t h0 h1 (by omega) (by omega) (by omega)]
      frame_out
      exact weights_at _ k j
    · rw [outsAt0_G m c t h0 h1 (by omega) (by omega) (by omega)]
      frame_out
      exact weights_at _ k j
  intro n
  induction n with
  | zero => exact fun h k j => fresh ⟨0, h⟩ rfl k j
  | succ n ih =>
    intro h k j
    by_cases h0 : (n + 1) % 16 = 0
    · exact fresh ⟨n + 1, h⟩ h0 k j
    have l : (n + 1) / 16 < 8 := (block_idx ⟨n + 1, h⟩).2.2.2.2
    refine Eq.trans ?_ (step n h h0 (fun k j => ih (by omega) k j) k j)
    by_cases h1 : n + 1 < 32
    · rw [outsAt0_B m c ⟨n + 1, h⟩ h0 h1 (by dsimp only; omega) (by dsimp only; omega) (by dsimp only; omega)]
      frame_out
      rfl
    by_cases h2 : n + 1 < 64
    · rw [outsAt0_D m c ⟨n + 1, h⟩ h0 h1 (by dsimp only; omega) (by dsimp only; omega) (by dsimp only; omega)]
      frame_out
      rfl
    by_cases h3 : n + 1 < 96
    · rw [outsAt0_F m c ⟨n + 1, h⟩ h0 h1 (by dsimp only; omega) (by dsimp only; omega) (by dsimp only; omega)]
      frame_out
      rfl
    · rw [outsAt0_H m c ⟨n + 1, h⟩ h0 h1 (by dsimp only; omega) (by dsimp only; omega) (by dsimp only; omega)]
      frame_out
      rfl

/-- Eight heads written beside one another: head `h` of a row is the `h`-th written. -/
theorem heads_at (p0 p1 p2 p3 p4 p5 p6 p7 : FVec Ideal S512x128 .bf16) (f : Fin 8 → Fin 128 → EReal) (i : Fin 512)
    (h0 : ∀ k, p0 (ix2 i k) = f 0 k) (h1 : ∀ k, p1 (ix2 i k) = f 1 k) (h2 : ∀ k, p2 (ix2 i k) = f 2 k) (h3 : ∀ k, p3 (ix2 i k) = f 3 k) (h4 : ∀ k, p4 (ix2 i k) = f 4 k) (h5 : ∀ k, p5 (ix2 i k) = f 5 k) (h6 : ∀ k, p6 (ix2 i k) = f 6 k) (h7 : ∀ k, p7 (ix2 i k) = f 7 k)
    (h : Fin 8) (k : Fin 128) (j : Fin 1024) (hj : j.val = h.val * 128 + k.val) :
    View.canon (Val := Elt Ideal) (e := .bf16) [⟨Rect.unit (s := S512x1024) ![0, 896] ![512, 128] inb_S512x1024_S512x128_0_896, p7⟩, ⟨Rect.unit (s := S512x1024) ![0, 768] ![512, 128] inb_S512x1024_S512x128_0_768, p6⟩, ⟨Rect.unit (s := S512x1024) ![0, 640] ![512, 128] inb_S512x1024_S512x128_0_640, p5⟩, ⟨Rect.unit (s := S512x1024) ![0, 512] ![512, 128] inb_S512x1024_S512x128_0_512, p4⟩, ⟨Rect.unit (s := S512x1024) ![0, 384] ![512, 128] inb_S512x1024_S512x128_0_384, p3⟩, ⟨Rect.unit (s := S512x1024) ![0, 256] ![512, 128] inb_S512x1024_S512x128_0_256, p2⟩, ⟨Rect.unit (s := S512x1024) ![0, 128] ![512, 128] inb_S512x1024_S512x128_0_128, p1⟩, ⟨Rect.unit (s := S512x1024) ![0, 0] ![512, 128] inb_S512x1024_S512x128_0_0, p0⟩] (ix2 i j) = f h k := by
  fin_cases h
  · have l : j.val = 0 + k.val := hj.trans (by show 0 * 128 + k.val = _; omega)
    exact (skip 896 _ _ _ i j (by omega)).trans ((skip 768 _ _ _ i j (by omega)).trans ((skip 640 _ _ _ i j (by omega)).trans ((skip 512 _ _ _ i j (by omega)).trans ((skip 384 _ _ _ i j (by omega)).trans ((skip 256 _ _ _ i j (by omega)).trans ((skip 128 _ _ _ i j (by omega)).trans ((take 0 _ _ _ i j k l).trans (h0 k))))))))
  · have l : j.val = 128 + k.val := hj.trans (by show 1 * 128 + k.val = _; omega)
    exact (skip 896 _ _ _ i j (by omega)).trans ((skip 768 _ _ _ i j (by omega)).trans ((skip 640 _ _ _ i j (by omega)).trans ((skip 512 _ _ _ i j (by omega)).trans ((skip 384 _ _ _ i j (by omega)).trans ((skip 256 _ _ _ i j (by omega)).trans ((take 128 _ _ _ i j k l).trans (h1 k)))))))
  · have l : j.val = 256 + k.val := hj.trans (by show 2 * 128 + k.val = _; omega)
    exact (skip 896 _ _ _ i j (by omega)).trans ((skip 768 _ _ _ i j (by omega)).trans ((skip 640 _ _ _ i j (by omega)).trans ((skip 512 _ _ _ i j (by omega)).trans ((skip 384 _ _ _ i j (by omega)).trans ((take 256 _ _ _ i j k l).trans (h2 k))))))
  · have l : j.val = 384 + k.val := hj.trans (by show 3 * 128 + k.val = _; omega)
    exact (skip 896 _ _ _ i j (by omega)).trans ((skip 768 _ _ _ i j (by omega)).trans ((skip 640 _ _ _ i j (by omega)).trans ((skip 512 _ _ _ i j (by omega)).trans ((take 384 _ _ _ i j k l).trans (h3 k)))))
  · have l : j.val = 512 + k.val := hj.trans (by show 4 * 128 + k.val = _; omega)
    exact (skip 896 _ _ _ i j (by omega)).trans ((skip 768 _ _ _ i j (by omega)).trans ((skip 640 _ _ _ i j (by omega)).trans ((take 512 _ _ _ i j k l).trans (h4 k))))
  · have l : j.val = 640 + k.val := hj.trans (by show 5 * 128 + k.val = _; omega)
    exact (skip 896 _ _ _ i j (by omega)).trans ((skip 768 _ _ _ i j (by omega)).trans ((take 640 _ _ _ i j k l).trans (h5 k)))
  · have l : j.val = 768 + k.val := hj.trans (by show 6 * 128 + k.val = _; omega)
    exact (skip 896 _ _ _ i j (by omega)).trans ((take 768 _ _ _ i j k l).trans (h6 k))
  · have l : j.val = 896 + k.val := hj.trans (by show 7 * 128 + k.val = _; omega)
    exact (take 896 _ _ _ i j k l).trans (h7 k)

/-- A row block of the product with a column block of the weights. -/
def product (c : Dev nD) (t : Fin cfg0.N) (i : Fin 512) (j : Fin 1024) : EReal :=
  ∑ k : Fin 2048, rows m c t (ix2 i k) * cols m c t (ix3 0 k j)

theorem product_at (c : Dev nD) (t : Fin cfg0.N) (w : FVec Ideal S2048x1024 .bf16)
    (h : ∀ (k : Fin 2048) (j : Fin 1024), w (ix2 k j) = cols m c t (ix3 0 k j)) (i : Fin 512) (j : Fin 1024) :
    k0_pay2 (F := Ideal) (rows m c t) w (ix2 i j) = product m c t i j := by
  unfold product
  generalize rows m c t = x
  simp only [← h]
  pointwise [k0_pay2]

theorem value_at (x : FVec Ideal S512x2048 .bf16) (w : FVec Ideal S2048x1024 .bf16) (i : Fin 512) (j : Fin 1024) :
    k0_pay5 (F := Ideal) x w (ix2 i j) = k0_pay2 (F := Ideal) x w (ix2 i j) := by
  pointwise [k0_pay5]

theorem gate_at (x : FVec Ideal S512x2048 .bf16) (w : FVec Ideal S2048x1024 .bf16) (i : Fin 512) (j : Fin 1024) :
    k0_pay6 (F := Ideal) x w (ix2 i j) = Ideal.logistic (k0_pay2 (F := Ideal) x w (ix2 i j)) := by
  pointwise [k0_pay6]

/-- The gains as the whole program's argument holds them. -/
abbrev gain (c : Dev nD) : FVec Ideal S2x128 .f32 := m ((c : Thread nD τ).loc main_arg2)

/-- The weights kept from the point before are this point's. -/
theorem carried (c : Dev nD) (t : Fin cfg0.N) (h0 : ¬ t.val % 16 = 0) (k : Fin 2048) (j : Fin 1024) :
    (outsAt0 m c (t.val - 1) (Nat.lt_of_le_of_lt (Nat.sub_le _ _) t.isLt)).2 (ix2 k j) = cols m c t (ix3 0 k j) := by
  have l : t.val / 16 < 8 := (block_idx t).2.2.2.2
  rw [kept m c (t.val - 1) _ k j, cols_at m c t k j ⟨t.val / 16 * 1024 + j.val, by omega⟩ rfl]
  refine cols_at m c ⟨t.val - 1, _⟩ k j _ ?_
  show t.val / 16 * 1024 + j.val = (t.val - 1) / 16 * 1024 + j.val
  omega

/-- The eight query heads, each of its columns of the product. -/
theorem query_heads (c : Dev nD) (t : Fin cfg0.N) (v : FVec Ideal S512x1024 .f32) (g : FVec Ideal S1x128 .f32) (i : Fin 512)
    (hv : ∀ j, v (ix2 i j) = product m c t i j) (hg : ∀ k : Fin 128, g (ix2 0 k) = gain m c (ix2 0 k))
    (h : Fin 8) (k : Fin 128) (j : Fin 1024) (hj : j.val = h.val * 128 + k.val) :
    View.canon (Val := Elt Ideal) (e := .bf16) [⟨Rect.unit (s := S512x1024) ![0, 896] ![512, 128] inb_S512x1024_S512x128_0_896, k0_pay3 g (k0_pay16 v) (k0_pay17 v) (FloatOps.ofBits FTy.f32 897988541#32)⟩,
      ⟨Rect.unit (s := S512x1024) ![0, 768] ![512, 128] inb_S512x1024_S512x128_0_768, k0_pay15 v g⟩,
      ⟨Rect.unit (s := S512x1024) ![0, 640] ![512, 128] inb_S512x1024_S512x128_0_640, k0_pay14 v g⟩,
      ⟨Rect.unit (s := S512x1024) ![0, 512] ![512, 128] inb_S512x1024_S512x128_0_512, k0_pay13 v g⟩,
      ⟨Rect.unit (s := S512x1024) ![0, 384] ![512, 128] inb_S512x1024_S512x128_0_384, k0_pay12 v g⟩,
      ⟨Rect.unit (s := S512x1024) ![0, 256] ![512, 128] inb_S512x1024_S512x128_0_256, k0_pay11 g (k0_pay9 v) (k0_pay10 v) (FloatOps.ofBits FTy.f32 897988541#32)⟩,
      ⟨Rect.unit (s := S512x1024) ![0, 128] ![512, 128] inb_S512x1024_S512x128_0_128, k0_pay8 v g⟩,
      ⟨Rect.unit (s := S512x1024) ![0, 0] ![512, 128] inb_S512x1024_S512x128_0_0, k0_pay7 v g⟩] (ix2 i j)
      = normed (head (product m c t i) h) k * (gain m c (ix2 0 k) * Cert.Scale.scale) := by
  have e : (fun l => v (ix2 i l)) = product m c t i := funext hv
  refine heads_at _ _ _ _ _ _ _ _ (fun h k => normed (head (product m c t i) h) k * (gain m c (ix2 0 k) * Cert.Scale.scale)) i ?_ ?_ ?_ ?_ ?_ ?_ ?_ ?_ h k j hj
  · intro k; rw [query0_at, e, hg]
  · intro k; rw [query1_at, e, hg]
  · intro k; rw [query2_at, e, hg]
  · intro k; rw [query3_at, e, hg]
  · intro k; rw [query4_at, e, hg]
  · intro k; rw [query5_at, e, hg]
  · intro k; rw [query6_at, e, hg]
  · intro k; rw [query7_at, e, hg]

/-- The eight key heads, each of its columns of the product. -/
theorem key_heads (c : Dev nD) (t : Fin cfg0.N) (v : FVec Ideal S512x1024 .f32) (g : FVec Ideal S1x128 .f32) (i : Fin 512)
    (hv : ∀ j, v (ix2 i j) = product m c t i j) (hg : ∀ k : Fin 128, g (ix2 0 k) = gain m c (ix2 1 k))
    (h : Fin 8) (k : Fin 128) (j : Fin 1024) (hj : j.val = h.val * 128 + k.val) :
    View.canon (Val := Elt Ideal) (e := .bf16) [⟨Rect.unit (s := S512x1024) ![0, 896] ![512, 128] inb_S512x1024_S512x128_0_896, k0_pay4 g (k0_pay27 v) (k0_pay28 v) (FloatOps.ofBits FTy.f32 897988541#32)⟩,
      ⟨Rect.unit (s := S512x1024) ![0, 768] ![512, 128] inb_S512x1024_S512x128_0_768, k0_pay26 v g⟩,
      ⟨Rect.unit (s := S512x1024) ![0, 640] ![512, 128] inb_S512x1024_S512x128_0_640, k0_pay25 v g⟩,
      ⟨Rect.unit (s := S512x1024) ![0, 512] ![512, 128] inb_S512x1024_S512x128_0_512, k0_pay24 v g⟩,
      ⟨Rect.unit (s := S512x1024) ![0, 384] ![512, 128] inb_S512x1024_S512x128_0_384, k0_pay23 v g⟩,
      ⟨Rect.unit (s := S512x1024) ![0, 256] ![512, 128] inb_S512x1024_S512x128_0_256, k0_pay22 g (k0_pay20 v) (k0_pay21 v) (FloatOps.ofBits FTy.f32 897988541#32)⟩,
      ⟨Rect.unit (s := S512x1024) ![0, 128] ![512, 128] inb_S512x1024_S512x128_0_128, k0_pay19 v g⟩,
      ⟨Rect.unit (s := S512x1024) ![0, 0] ![512, 128] inb_S512x1024_S512x128_0_0, k0_pay18 v g⟩] (ix2 i j)
      = normed (head (product m c t i) h) k * gain m c (ix2 1 k) := by
  have e : (fun l => v (ix2 i l)) = product m c t i := funext hv
  refine heads_at _ _ _ _ _ _ _ _ (fun h k => normed (head (product m c t i) h) k * gain m c (ix2 1 k)) i ?_ ?_ ?_ ?_ ?_ ?_ ?_ ?_ h k j hj
  · intro k; rw [key0_at, e, hg]
  · intro k; rw [key1_at, e, hg]
  · intro k; rw [key2_at, e, hg]
  · intro k; rw [key3_at, e, hg]
  · intro k; rw [key4_at, e, hg]
  · intro k; rw [key5_at, e, hg]
  · intro k; rw [key6_at, e, hg]
  · intro k; rw [key7_at, e, hg]

/-- What a grid point leaves in the output's block, in the query columns. -/
theorem query_block (c : Dev nD) (t : Fin cfg0.N) (h1 : t.val < 32) (i : Fin 512) (h : Fin 8) (k : Fin 128) (j : Fin 1024) (hj : j.val = h.val * 128 + k.val) :
    (outsAt0 m c t.val t.isLt).1 (ix2 i j) = normed (head (product m c t i) h) k * (gain m c (ix2 0 k) * Cert.Scale.scale) := by
  have l : t.val / 16 < 8 := (block_idx t).2.2.2.2
  by_cases h0 : t.val % 16 = 0
  · rw [outsAt0_A m c t h0 (by omega) (by omega) (by omega) (by omega)]
    frame_out
    exact query_heads m c t _ _ i (product_at m c t _ (fun k j => weights_at _ k j) i) (gain0_at m c t) h k j hj
  · rw [outsAt0_B m c t h0 (by omega) (by omega) (by omega) (by omega)]
    frame_out
    exact query_heads m c t _ _ i (product_at m c t _ (fun k j => (congrFun (Memref.IsWhole.read_unread _ _) _).trans (carried m c t h0 k j)) i) (gain0_at m c t) h k j hj

/-- What a grid point leaves in the output's block, in the key columns. -/
theorem key_block (c : Dev nD) (t : Fin cfg0.N) (h1 : ¬ t.val < 32) (h2 : t.val < 64) (i : Fin 512) (h : Fin 8) (k : Fin 128) (j : Fin 1024) (hj : j.val = h.val * 128 + k.val) :
    (outsAt0 m c t.val t.isLt).1 (ix2 i j) = normed (head (product m c t i) h) k * gain m c (ix2 1 k) := by
  have l : t.val / 16 < 8 := (block_idx t).2.2.2.2
  by_cases h0 : t.val % 16 = 0
  · rw [outsAt0_C m c t h0 (by omega) (by omega) (by omega) (by omega)]
    frame_out
    exact key_heads m c t _ _ i (product_at m c t _ (fun k j => weights_at _ k j) i) (gain1_at m c t) h k j hj
  · rw [outsAt0_D m c t h0 (by omega) (by omega) (by omega) (by omega)]
    frame_out
    exact key_heads m c t _ _ i (product_at m c t _ (fun k j => (congrFun (Memref.IsWhole.read_unread _ _) _).trans (carried m c t h0 k j)) i) (gain1_at m c t) h k j hj

/-- What a grid point leaves in the output's block, in the value columns. -/
theorem value_block (c : Dev nD) (t : Fin cfg0.N) (h2 : ¬ t.val < 64) (h3 : t.val < 96) (i : Fin 512) (j : Fin 1024) :
    (outsAt0 m c t.val t.isLt).1 (ix2 i j) = product m c t i j := by
  have l : t.val / 16 < 8 := (block_idx t).2.2.2.2
  by_cases h0 : t.val % 16 = 0
  · rw [outsAt0_E m c t h0 (by omega) (by omega) (by omega) (by omega)]
    frame_out
    exact (value_at _ _ i j).trans ((product_at m c t _ (fun k j => weights_at _ k j) i j))
  · rw [outsAt0_F m c t h0 (by omega) (by omega) (by omega) (by omega)]
    frame_out
    exact (value_at _ _ i j).trans ((product_at m c t _ (fun k j => (congrFun (Memref.IsWhole.read_unread _ _) _).trans (carried m c t h0 k j)) i j))

/-- What a grid point leaves in the output's block, in the gate columns. -/
theorem gate_block (c : Dev nD) (t : Fin cfg0.N) (h3 : ¬ t.val < 96) (i : Fin 512) (j : Fin 1024) :
    (outsAt0 m c t.val t.isLt).1 (ix2 i j) = Ideal.logistic (product m c t i j) := by
  have l : t.val / 16 < 8 := (block_idx t).2.2.2.2
  by_cases h0 : t.val % 16 = 0
  · rw [outsAt0_G m c t h0 (by omega) (by omega) (by omega) (by omega)]
    frame_out
    exact (gate_at _ _ i j).trans (congrArg Ideal.logistic (product_at m c t _ (fun k j => weights_at _ k j) i j))
  · rw [outsAt0_H m c t h0 (by omega) (by omega) (by omega) (by omega)]
    frame_out
    exact (gate_at _ _ i j).trans (congrArg Ideal.logistic (product_at m c t _ (fun k j => (congrFun (Memref.IsWhole.read_unread _ _) _).trans (carried m c t h0 k j)) i j))

/-! The reference, one kind of column at a time. -/

section Result

open Cert.Reference4Ideal.Read

variable (x : FVec Ideal S8192x2048 .bf16) (w : FVec Ideal S2x2048x8208 .f32) (g : FVec Ideal S2x128 .f32)

/-- The product of the rows with the weights' first 8192 columns. -/
def whole (i j : Fin 8192) : EReal := ∑ k : Fin 2048, x (ix2 i k) * w (ix3 0 k ⟨j.val, by omega⟩)

theorem whole_at (i j : Fin 8192) : val_main_v4 (F := Ideal) x w (ix2 i j) = whole x w i j := by
  unfold whole
  pointwise [val_main_v4, val_main_v3, val_main_v2, val_main_v1, val_main_v0]

theorem query_head_at (i : Fin 8192) (h : Fin 16) (k : Fin 128) : val_main_v30 (F := Ideal) x w g (ix3 i h k)
    = normed (fun l => whole x w i ⟨h.val * 128 + l.val, by omega⟩) k * (g (ix2 0 k) * Cert.Scale.scale) := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_v5, val_main_cst, val_main_cst_0, val_main_cst_1, val_main_cst_2, val_main_cst_3]
  simp only [whole_at]
  exact (Cert.Scale.quotient _).trans (mul_assoc _ _ _)

theorem key_head_at (i : Fin 8192) (h : Fin 16) (k : Fin 128) : val_main_v46 (F := Ideal) x w g (ix3 i h k)
    = normed (fun l => whole x w i ⟨2048 + (h.val * 128 + l.val), by omega⟩) k * g (ix2 1 k) := by
  pointwise [val_main_v46, val_main_v45, val_main_v44, val_main_v43, val_main_v42, val_main_v41, val_main_v40, val_main_v39, val_main_v38, val_main_v37,
    val_main_v36, val_main_v35, val_main_v34, val_main_v33, val_main_v32, val_main_v31, val_main_v6, val_main_cst_4, val_main_cst_5, val_main_cst_6]
  simp only [whole_at]
  rfl

theorem parts_at (i j : Fin 8192) : val_main_v56 (F := Ideal) x w g (ix2 i j)
    = if h : j.val < 2048 then val_main_v30 (F := Ideal) x w g (ix3 i ⟨j.val / 128, by omega⟩ ⟨j.val % 128, by omega⟩)
      else if h : j.val - 2048 < 2048 then val_main_v46 (F := Ideal) x w g (ix3 i ⟨(j.val - 2048) / 128, by omega⟩ ⟨(j.val - 2048) % 128, by omega⟩)
      else if h : j.val - 2048 - 2048 < 2048 then val_main_v4 (F := Ideal) x w (ix2 i ⟨4096 + (j.val - 2048 - 2048), by omega⟩)
      else Ideal.logistic (val_main_v4 (F := Ideal) x w (ix2 i ⟨6144 + (j.val - 2048 - 2048 - 2048), by omega⟩)) := by
  pointwise [val_main_v56, val_main_v55, val_main_v54, val_main_v53, val_main_v52, val_main_v51, val_main_v50, val_main_v49, val_main_v48, val_main_v47,
    val_main_v8, val_main_v7, val_main_cst_7, val_main_cst_8]
  rfl

/-- A head of the reference's starts where its row's column block says. -/
theorem query_result (i j : Fin 8192) (o : ℕ) (k : Fin 128) (ho : o + 128 ≤ 2048) (hd : o % 128 = 0) (hj : j.val = o + k.val) :
    val_main_v56 (F := Ideal) x w g (ix2 i j)
      = normed (fun l => whole x w i ⟨o + l.val, by omega⟩) k * (g (ix2 0 k) * Cert.Scale.scale) := by
  rw [parts_at, dif_pos (by omega)]
  have e1 : (⟨j.val % 128, by omega⟩ : Fin 128) = k := Fin.ext (by show j.val % 128 = k.val; omega)
  rw [e1, query_head_at]
  refine congrArg (fun f => normed f k * _) (funext fun l => congrArg (whole x w i) (Fin.ext ?_))
  show j.val / 128 * 128 + l.val = o + l.val
  omega

theorem key_result (i j : Fin 8192) (o : ℕ) (k : Fin 128) (hl : 2048 ≤ o) (ho : o + 128 ≤ 4096) (hd : o % 128 = 0) (hj : j.val = o + k.val) :
    val_main_v56 (F := Ideal) x w g (ix2 i j)
      = normed (fun l => whole x w i ⟨o + l.val, by omega⟩) k * g (ix2 1 k) := by
  rw [parts_at, dif_neg (by omega), dif_pos (by omega)]
  have e1 : (⟨(j.val - 2048) % 128, by omega⟩ : Fin 128) = k := Fin.ext (by show (j.val - 2048) % 128 = k.val; omega)
  rw [e1, key_head_at]
  refine congrArg (fun f => normed f k * _) (funext fun l => congrArg (whole x w i) (Fin.ext ?_))
  show 2048 + ((j.val - 2048) / 128 * 128 + l.val) = o + l.val
  omega

theorem value_result (i j : Fin 8192) (hl : 4096 ≤ j.val) (ho : j.val < 6144) :
    val_main_v56 (F := Ideal) x w g (ix2 i j) = whole x w i j := by
  rw [parts_at, dif_neg (by omega), dif_neg (by omega), dif_pos (by omega), whole_at]
  refine congrArg (whole x w i) (Fin.ext ?_)
  show 4096 + (j.val - 2048 - 2048) = j.val
  omega

theorem gate_result (i j : Fin 8192) (hl : 6144 ≤ j.val) :
    val_main_v56 (F := Ideal) x w g (ix2 i j) = Ideal.logistic (whole x w i j) := by
  rw [parts_at, dif_neg (by omega), dif_neg (by omega), dif_neg (by omega), whole_at]
  refine congrArg (fun l => Ideal.logistic (whole x w i l)) (Fin.ext ?_)
  show 6144 + (j.val - 2048 - 2048 - 2048) = j.val
  omega

end Result

/-- A grid point's product is the whole product at the place of its block. -/
theorem product_whole (c : Dev nD) (t : Fin cfg0.N) (i : Fin 512) (j : Fin 1024) (I J : Fin 8192)
    (hI : I.val = t.val % 16 * 512 + i.val) (hJ : J.val = t.val / 16 * 1024 + j.val) :
    product m c t i j = whole (m ((c : Thread nD τ).loc main_arg0)) (m ((c : Thread nD τ).loc main_arg1)) I J := by
  unfold product whole
  refine Finset.sum_congr rfl fun k _ => congrArg₂ (· * ·) ?_ (cols_at m c t k j _ hJ)
  blk_ext [iblk, V, block_idx t, hI]

/-- The reference's result of the kernel's arguments. -/
abbrev RES (c : Dev nD) : FVec Ideal S8192x8192 .bf16 :=
  Cert.Reference4Ideal.Read.val_main_v56 (F := Ideal) (m ((c : Thread nD τ).loc main_arg0)) (m ((c : Thread nD τ).loc main_arg1))
    (m ((c : Thread nD τ).loc main_arg2))

/-- What a grid point leaves in the output's block is the reference's result at the block's place. -/
theorem block_result (c : Dev nD) (t : Fin cfg0.N) (i : Fin 512) (j : Fin 1024) (I J : Fin 8192)
    (hI : I.val = t.val % 16 * 512 + i.val) (hJ : J.val = t.val / 16 * 1024 + j.val) :
    (outsAt0 m c t.val t.isLt).1 (ix2 i j) = RES m c (ix2 I J) := by
  have l : t.val / 16 < 8 := (block_idx t).2.2.2.2
  have hj : j.val = (⟨j.val / 128, by omega⟩ : Fin 8).val * 128 + (⟨j.val % 128, by omega⟩ : Fin 128).val := by
    show j.val = j.val / 128 * 128 + j.val % 128
    omega
  have hf : ∀ (o : ℕ) (ho : o + 128 ≤ 8192), o = t.val / 16 * 1024 + j.val / 128 * 128 →
      head (product m c t i) ⟨j.val / 128, by omega⟩
        = fun l => whole (m ((c : Thread nD τ).loc main_arg0)) (m ((c : Thread nD τ).loc main_arg1)) I ⟨o + l.val, by omega⟩ := by
    intro o ho e
    refine funext fun l => product_whole m c t i _ I _ hI ?_
    show o + l.val = t.val / 16 * 1024 + (j.val / 128 * 128 + l.val)
    omega
  by_cases h1 : t.val < 32
  · rw [query_block m c t h1 i _ _ j hj, hf (t.val / 16 * 1024 + j.val / 128 * 128) (by omega) rfl]
    exact (query_result _ _ _ I J _ _ (by omega) (by omega) (by show J.val = t.val / 16 * 1024 + j.val / 128 * 128 + j.val % 128; omega)).symm
  by_cases h2 : t.val < 64
  · rw [key_block m c t h1 h2 i _ _ j hj, hf (t.val / 16 * 1024 + j.val / 128 * 128) (by omega) rfl]
    exact (key_result _ _ _ I J _ _ (by omega) (by omega) (by omega) (by show J.val = t.val / 16 * 1024 + j.val / 128 * 128 + j.val % 128; omega)).symm
  by_cases h3 : t.val < 96
  · rw [value_block m c t h2 h3 i j, product_whole m c t i j I J hI hJ]
    exact (value_result _ _ _ I J (by omega) (by omega)).symm
  · rw [gate_block m c t h3 i j, product_whole m c t i j I J hI hJ]
    exact (gate_result _ _ _ I J (by omega)).symm

theorem final (c : Dev nD) : (dats m 0 c).arrAt 3 cfg0.N = RES m c := by
  refine (dats m 0 c).arrAt_eq_of_covers 3 _ (by decide +kernel) fun t _ y => ?_
  blk_simp
  rw [after0_3]
  have hc : t.val / 16 < 8 := (block_idx t).2.2.2.2
  idx_vars y
  have e : ((View.whole main_v0).slice (win0_3.rect t)).emb (ix2 y0 y1)
      = (ix2 (⟨t.val % 16 * 512 + y0.val, by omega⟩ : Fin 8192) (⟨t.val / 16 * 1024 + y1.val, by omega⟩ : Fin 8192) : S8192x8192.Idx) := by
    blk_ext [block_idx t]
  exact (block_result m c t y0 y1 _ _ rfl rfl).trans (congrArg (RES m c) e).symm

/-- Every execution ends with the result array at the reference's result of the arguments, and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m c), h.2 c⟩)
    (θ_run_and (run_main m ρ) (unchanged m ρ))

end Cert.Kernel4Ideal.Heads

end
-- ==== Proof.DiffProj.lean ====
/- The differential layer's projection: the result array is the reference's result of the same arguments. -/
module

public import proofs.«01_k».proof.Proof.Scale
public import proofs.«01_k».proof.Proof.Gen.Kernel5Ideal.Frame
public import proofs.«01_k».proof.Proof.Gen.Reference5Ideal
public import proofs.«01_k».proof.Proof.Gen.Reference5Ideal.Read
public import Idealize.ShloMosaic.Lib.Pointwise
public import Idealize.ShloMosaic.Lib.Pipeline.ValueKit

@[expose] public section

set_option maxRecDepth 16384

noncomputable section

namespace Cert.Kernel5Ideal.Projection

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at a grid point: 16 row blocks under each column block. -/
theorem block_idx : ∀ t : Fin cfg0.N, win0_0.index t = ![t.val % 16, 0] ∧ win0_1.index t = ![0, 0, t.val / 16]
    ∧ win0_2.index t = ![t.val % 16, t.val / 16] ∧ t.val / 16 < 6 :=
  (by decide +kernel : ∀ t : Fin grid0.N, _)

/-- The first two column blocks are the queries'. -/
theorem is_query : ∀ t : Fin grid0.N, Scalar.cmpi .slt (BitVec.ofNat 32 (grid0.coords t 0).val) 2#32
    = if t.val / 16 < 2 then 1#1 else 0#1 := by decide +kernel

/-- The blocks a grid point is given: rows of the left factor, columns of the weights. -/
abbrev rows (c : Dev nD) (t : Fin cfg0.N) : Vec Ideal S512x2048 .bf16 := iblk m c 0 t
abbrev cols (c : Dev nD) (t : Fin cfg0.N) : Vec Ideal S1x2048x1024 .f32 := iblk m c 1 t

/-- The columns of weights of one column block, as the kernel keeps them. -/
theorem weights_at (w : Vec Ideal S1x2048x1024 .f32) (k : Fin 2048) (j : Fin 1024) :
    k0_pay1 (F := Ideal) w (ix2 k j) = w (ix3 0 k j) := by
  pointwise [k0_pay1]

/-- Through all the row blocks of a column block the kept weights are that column block's. -/
theorem kept (c : Dev nD) : ∀ (n : ℕ) (h : n < cfg0.N) (k : Fin 2048) (j : Fin 1024),
    (outsAt0 m c n h).2 (ix2 k j) = cols m c ⟨n, h⟩ (ix3 0 k j) := by
  intro n
  induction n with
  | zero =>
    intro h k j
    rw [outsAt0_A m c ⟨0, h⟩ rfl]
    frame_out
    exact weights_at _ k j
  | succ n ih =>
    intro h k j
    by_cases h0 : (n + 1) % 16 = 0
    · rw [outsAt0_A m c ⟨n + 1, h⟩ h0]
      frame_out
      exact weights_at _ k j
    · rw [outsAt0_B m c ⟨n + 1, h⟩ h0]
      frame_out
      refine (ih (by omega) k j).trans ?_
      have e : n / 16 = (n + 1) / 16 := by omega
      have a := (block_idx ⟨n, by omega⟩).2.1
      have b := (block_idx ⟨n + 1, h⟩).2.1
      rw [← e] at b
      blk_ext [iblk, V, a, b]

/-- A row block of the product over the kept weights, the queries' columns scaled. -/
theorem product_at (t : Fin grid0.N) (x : Vec Ideal S512x2048 .bf16) (w : Vec Ideal S2048x1024 .bf16)
    (v : Vec Ideal S1x2048x1024 .f32) (i : Fin 512) (j : Fin 1024) (h : ∀ k : Fin 2048, w (ix2 k j) = v (ix3 0 k j)) :
    k0_pay2 (F := Ideal) (grid0.coords t) x w (ix2 i j)
      = (∑ k : Fin 2048, x (ix2 i k) * v (ix3 0 k j)) * (if t.val / 16 < 2 then Cert.Scale.scale else 1) := by
  pointwise [k0_pay2]
  simp only [h]
  refine congrArg (HMul.hMul _) ?_
  rw [is_query t]
  by_cases hq : t.val / 16 < 2
  · rw [if_pos hq, if_pos hq]
    exact IdealRules.named_const.ideal_named_scalar _ _ _ _ rfl
  · rw [if_neg hq, if_neg hq]
    rfl

/-- What a grid point leaves in the output's block. -/
theorem block_at (c : Dev nD) (t : Fin cfg0.N) (i : Fin 512) (j : Fin 1024) :
    (outsAt0 m c t.val t.isLt).1 (ix2 i j)
      = (∑ k : Fin 2048, rows m c t (ix2 i k) * cols m c t (ix3 0 k j)) * (if t.val / 16 < 2 then Cert.Scale.scale else 1) := by
  by_cases h0 : t.val % 16 = 0
  · rw [outsAt0_A m c t h0]
    frame_out
    exact product_at t _ _ (cols m c t) i j fun k => weights_at _ k j
  · rw [outsAt0_B m c t h0]
    frame_out
    refine product_at t _ _ (cols m c t) i j fun k => (congrFun (Memref.IsWhole.read_unread _ _) _).trans ((kept m c _ _ k j).trans ?_)
    have e : (t.val - 1) / 16 = t.val / 16 := by omega
    have a := (block_idx ⟨t.val - 1, by omega⟩).2.1
    have b := (block_idx t).2.1
    rw [← e] at b
    blk_ext [iblk, V, a, b]

/-- The reference's result of the kernel's arguments. -/
abbrev RES (c : Dev nD) : FVec Ideal S8192x6144 .bf16 :=
  Cert.Reference5Ideal.Read.val_main_v14 (F := Ideal) (m ((c : Thread nD τ).loc main_arg0)) (m ((c : Thread nD τ).loc main_arg1))

open Cert.Reference5Ideal.Read in
theorem result_at (x : FVec Ideal S8192x2048 .bf16) (w : FVec Ideal S2x2048x6144 .f32) (i : Fin 8192) (j : Fin 6144) :
    val_main_v14 (F := Ideal) x w (ix2 i j)
      = (∑ k : Fin 2048, x (ix2 i k) * w (ix3 0 k j)) * (if j.val < 2048 then Cert.Scale.scale else 1) := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0]
  split
  · exact Cert.Scale.quotient _
  · rw [mul_one]
    split <;> refine Finset.sum_congr rfl fun k _ => congrArg (fun l => _ * w (ix3 0 k l)) (Fin.ext ?_) <;> simp only <;> omega

theorem final (c : Dev nD) : (dats m 0 c).arrAt 2 cfg0.N = RES m c := by
  refine (dats m 0 c).arrAt_eq_of_covers 2 _ (by decide +kernel) fun t _ y => ?_
  blk_simp
  rw [after0_2]
  have hc : t.val / 16 < 6 := (block_idx t).2.2.2
  idx_vars y
  have e : ((View.whole main_v0).slice (win0_2.rect t)).emb (ix2 y0 y1)
      = (ix2 (⟨t.val % 16 * 512 + y0.val, by omega⟩ : Fin 8192) (⟨t.val / 16 * 1024 + y1.val, by omega⟩ : Fin 6144) : S8192x6144.Idx) := by
    blk_ext [block_idx t]
  refine (block_at m c t y0 y1).trans ((congrArg (RES m c) e).trans ((result_at _ _ _ _).trans ?_)).symm
  refine congrArg₂ (· * ·) (Finset.sum_congr rfl fun k _ => congrArg₂ (· * ·) ?_ ?_) (if_congr ?_ rfl rfl)
  · blk_ext [iblk, V, block_idx t]
  · blk_ext [iblk, V, block_idx t]
  · show t.val / 16 * 1024 + y1.val < 2048 ↔ _
    omega

/-- Every execution ends with the result array at the reference's result of the arguments, and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c), h.2 c⟩)
    (θ_run_and (run_main m ρ) (unchanged m ρ))

end Cert.Kernel5Ideal.Projection

end
-- ==== Proof.DiffLoop.lean ====
/- The differential attention kernel's loop over query blocks: what one block of 256 query rows stores, as a function of the
   eight staged input blocks, and the invariant of the loop that stores the eight blocks one after the other. -/
module

public import proofs.«01_k».proof.Proof.Gen.Kernel6Ideal.Frame
public import proofs.«01_k».proof.Proof.Gen.Kernel6Ideal.Loops

@[expose] public section

set_option maxRecDepth 16384

noncomputable section

namespace Cert.Kernel6Ideal.Diff

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## Tiles of the staged blocks -/

theorem inb128 (n : ℕ) : ∀ a, (![0, 256 * (n % 8), 0] : Fin 3 → ℕ) a + S1x256x128.size a ≤ S1x2048x128.size a := fun a =>
  match a with
  | ⟨0, _⟩ => (by decide : (0 + 1 : ℕ) ≤ 1)
  | ⟨1, _⟩ => (by have := Nat.mod_lt n (show 0 < 8 by decide); omega : 256 * (n % 8) + 256 ≤ 2048)
  | ⟨2, _⟩ => (by decide : (0 + 128 : ℕ) ≤ 128)
theorem inb256 (n : ℕ) : ∀ a, (![0, 256 * (n % 8), 0] : Fin 3 → ℕ) a + S1x256x256.size a ≤ S1x2048x256.size a := fun a =>
  match a with
  | ⟨0, _⟩ => (by decide : (0 + 1 : ℕ) ≤ 1)
  | ⟨1, _⟩ => (by have := Nat.mod_lt n (show 0 < 8 by decide); omega : 256 * (n % 8) + 256 ≤ 2048)
  | ⟨2, _⟩ => (by decide : (0 + 256 : ℕ) ≤ 256)

/-- Rows `256 n` on of a block of queries or keys. -/
def tileK (x : Vec F S1x2048x128 .bf16) (n : ℕ) : Vec F S1x256x128 .bf16 :=
  View.ld x (Rect.unit (s := S1x2048x128) ![0, 256 * (n % 8), 0] S1x256x128.size (inb128 n))
/-- Rows `256 n` on of a block of values. -/
def tileV (x : Vec F S1x2048x256 .bf16) (n : ℕ) : Vec F S1x256x256 .bf16 :=
  View.ld x (Rect.unit (s := S1x2048x256) ![0, 256 * (n % 8), 0] S1x256x256.size (inb256 n))

theorem tileK_of (x : Vec F S1x2048x128 .bf16) (n : ℕ) (off : Fin 3 → ℕ) (h : ∀ a, off a + S1x256x128.size a ≤ S1x2048x128.size a)
    (e : off = ![0, 256 * (n % 8), 0]) :
    tileK x n = (View.ld x (Rect.unit (s := S1x2048x128) off S1x256x128.size h) : Vec F S1x256x128 .bf16) := by
  subst e; rfl
theorem tileV_of (x : Vec F S1x2048x256 .bf16) (n : ℕ) (off : Fin 3 → ℕ) (h : ∀ a, off a + S1x256x256.size a ≤ S1x2048x256.size a)
    (e : off = ![0, 256 * (n % 8), 0]) :
    tileV x n = (View.ld x (Rect.unit (s := S1x2048x256) off S1x256x256.size h) : Vec F S1x256x256 .bf16) := by
  subst e; rfl

theorem trips1 : k0_t1_loop.trips = 8 := by decide +kernel
theorem trips2 : ∀ k : Fin k0_t1_loop.trips, (k0_t2_loop k).trips = k.val - 1 := by decide +kernel
theorem trips4 : ∀ k : Fin k0_t1_loop.trips, (k0_t4_loop k).trips = k.val - 1 := by decide +kernel

theorem off1_at : ∀ k : Fin k0_t1_loop.trips, k0_off1 k = ![0, 256 * (k.val % 8), 0] := by decide +kernel
theorem off2_at : ∀ k : Fin k0_t1_loop.trips, k0_off2 k = ![0, 256 * ((k.val - 1) % 8), 0] := by decide +kernel
theorem off3_at : ∀ k : Fin k0_t1_loop.trips, k0_off3 k = ![0, 256 * ((k.val - 1) % 8), 0] := by decide +kernel
theorem off8_at : ∀ k : Fin k0_t1_loop.trips, k0_off8 k = ![0, 256 * (k.val % 8), 0] := by decide +kernel
theorem off4_at : ∀ (k : Fin k0_t1_loop.trips) (j : Fin (k0_t2_loop k).trips), k0_off4 k j = ![0, 256 * (j.val % 8), 0] := by decide +kernel
theorem off5_at : ∀ (k : Fin k0_t1_loop.trips) (j : Fin (k0_t2_loop k).trips), k0_off5 k j = ![0, 256 * (j.val % 8), 0] := by decide +kernel
theorem off9_at : ∀ (k : Fin k0_t1_loop.trips) (j : Fin (k0_t4_loop k).trips), k0_off9 k j = ![0, 256 * (j.val % 8), 0] := by decide +kernel
theorem off10_at : ∀ (k : Fin k0_t1_loop.trips) (j : Fin (k0_t4_loop k).trips), k0_off10 k j = ![0, 256 * (j.val % 8), 0] := by decide +kernel
theorem word_at : ∀ k : Fin k0_t1_loop.trips, BitVec.ofNat 32 k.val = Scf.iv 0#32 1#32 k := by decide +kernel

theorem tileK_rows (x : Vec F S1x2048x128 .bf16) (k : Fin k0_t1_loop.trips) : tileK x k.val
    = (View.ld x (Rect.unit (s := S1x2048x128) (k0_off1 k) S1x256x128.size (k0_off1_inb k)) : Vec F S1x256x128 .bf16) :=
  tileK_of x _ _ _ (off1_at k)
theorem tileK_before (x : Vec F S1x2048x128 .bf16) (k : Fin k0_t1_loop.trips) : tileK x (k.val - 1)
    = (View.ld x (Rect.unit (s := S1x2048x128) (k0_off2 k) S1x256x128.size (k0_off2_inb k)) : Vec F S1x256x128 .bf16) :=
  tileK_of x _ _ _ (off2_at k)
theorem tileV_before (x : Vec F S1x2048x256 .bf16) (k : Fin k0_t1_loop.trips) : tileV x (k.val - 1)
    = (View.ld x (Rect.unit (s := S1x2048x256) (k0_off3 k) S1x256x256.size (k0_off3_inb k)) : Vec F S1x256x256 .bf16) :=
  tileV_of x _ _ _ (off3_at k)
theorem tileV_rows (x : Vec F S1x2048x256 .bf16) (k : Fin k0_t1_loop.trips) : tileV x k.val
    = (View.ld x (Rect.unit (s := S1x2048x256) (k0_off8 k) S1x256x256.size (k0_off8_inb k)) : Vec F S1x256x256 .bf16) :=
  tileV_of x _ _ _ (off8_at k)
theorem tileK_key2 (x : Vec F S1x2048x128 .bf16) (k : Fin k0_t1_loop.trips) (j : Fin (k0_t2_loop k).trips) : tileK x j.val
    = (View.ld x (Rect.unit (s := S1x2048x128) (k0_off4 k j) S1x256x128.size (k0_off4_inb k j)) : Vec F S1x256x128 .bf16) :=
  tileK_of x _ _ _ (off4_at k j)
theorem tileV_key2 (x : Vec F S1x2048x256 .bf16) (k : Fin k0_t1_loop.trips) (j : Fin (k0_t2_loop k).trips) : tileV x j.val
    = (View.ld x (Rect.unit (s := S1x2048x256) (k0_off5 k j) S1x256x256.size (k0_off5_inb k j)) : Vec F S1x256x256 .bf16) :=
  tileV_of x _ _ _ (off5_at k j)
theorem tileK_key4 (x : Vec F S1x2048x128 .bf16) (k : Fin k0_t1_loop.trips) (j : Fin (k0_t4_loop k).trips) : tileK x j.val
    = (View.ld x (Rect.unit (s := S1x2048x128) (k0_off9 k j) S1x256x128.size (k0_off9_inb k j)) : Vec F S1x256x128 .bf16) :=
  tileK_of x _ _ _ (off9_at k j)
theorem tileV_key4 (x : Vec F S1x2048x256 .bf16) (k : Fin k0_t1_loop.trips) (j : Fin (k0_t4_loop k).trips) : tileV x j.val
    = (View.ld x (Rect.unit (s := S1x2048x256) (k0_off10 k j) S1x256x256.size (k0_off10_inb k j)) : Vec F S1x256x256 .bf16) :=
  tileV_of x _ _ _ (off10_at k j)

/-- The four bias tiles of a head: per map, the tile of one block of positions and the tile from a block to the one before. -/
def bias00 (x : Vec F S2x2x256x256 .f32) : Vec F S1x1x256x256 .f32 :=
  View.ld x (Rect.unit (s := S2x2x256x256) ![0, 0, 0, 0] S1x1x256x256.size inb_S2x2x256x256_S1x1x256x256_0_0_0_0)
def bias01 (x : Vec F S2x2x256x256 .f32) : Vec F S1x1x256x256 .f32 :=
  View.ld x (Rect.unit (s := S2x2x256x256) ![0, 1, 0, 0] S1x1x256x256.size inb_S2x2x256x256_S1x1x256x256_0_1_0_0)
def bias10 (x : Vec F S2x2x256x256 .f32) : Vec F S1x1x256x256 .f32 :=
  View.ld x (Rect.unit (s := S2x2x256x256) ![1, 0, 0, 0] S1x1x256x256.size inb_S2x2x256x256_S1x1x256x256_1_0_0_0)
def bias11 (x : Vec F S2x2x256x256 .f32) : Vec F S1x1x256x256 .f32 :=
  View.ld x (Rect.unit (s := S2x2x256x256) ![1, 1, 0, 0] S1x1x256x256.size inb_S2x2x256x256_S1x1x256x256_1_1_0_0)
/-- The lambda rows and the norm's gain, read whole. -/
def lamOf (x : Vec F S4x128 .f32) : Vec F S4x128 .f32 :=
  View.ld x (Rect.unit (s := S4x128) ![0, 0] S4x128.size inb_S4x128_S4x128_0_0)
def gainOf (x : Vec F S1x256 .f32) : Vec F S1x256 .f32 :=
  View.ld x (Rect.unit (s := S1x256) ![0, 0] S1x256.size inb_S1x256_S1x256_0_0)

/-! ## What one query block computes -/

/-- The carried triple: running maximum, running sum, running weighted values. -/
abbrev Carry (F : FTy → Type) := FVec F S256x1 .f32 × FVec F S256x1 .f32 × FVec F S256x256 .f32

/-- One key tile without a bias folded into the carried triple. -/
def stepTile (q : FVec F S256x128 .bf16) (k : Vec F S1x256x128 .bf16) (v : Vec F S1x256x256 .bf16) (a : Carry F) : Carry F :=
  (k0_pay15 q a.1 k, k0_pay18 q a.1 a.2.1 k, k0_pay19 q a.1 a.2.2 k v)

/-- The carried triple after `n` key tiles from the start. -/
def carry (q : FVec F S256x128 .bf16) (K : ℕ → Vec F S1x256x128 .bf16) (V : ℕ → Vec F S1x256x256 .bf16) (a : Carry F) : ℕ → Carry F
  | 0 => a
  | n + 1 => stepTile q (K n) (V n) (carry q K V a n)

/-- The carried triple after the tile before the query block, which comes first (and is taken out for the first block). -/
def first (w : BitVec 32) (q k : Vec F S1x256x128 .bf16) (b : Vec F S1x1x256x256 .f32) (v : Vec F S1x256x256 .bf16) : Carry F :=
  (k0_pay40 w q k b, k0_pay44 (k0_pay42 w q k b) (k0_pay43 w q k b),
    k0_pay45 (k0_pay36 v) k0_pay39 (k0_pay41 w q k b) (k0_pay42 w q k b))

/-- The first map's triple there is the same one, at the loop's own counter. -/
theorem first_eq (n : Fin k0_t1_loop.trips) (q k : Vec F S1x256x128 .bf16) (b : Vec F S1x1x256x256 .f32) (v : Vec F S1x256x256 .bf16) :
    first (BitVec.ofNat 32 n.val) q k b v
      = (k0_pay7 0#32 1#32 n q k b, k0_pay12 (k0_pay10 0#32 1#32 n q k b) (k0_pay11 0#32 1#32 n q k b),
        k0_pay13 (k0_pay3 v) k0_pay6 (k0_pay8 0#32 1#32 n q k b) (k0_pay9 0#32 1#32 n q k b)) := by
  rw [word_at n]
  unfold first
  refine Prod.ext rfl (Prod.ext ?_ ?_)
  · rfl
  · rfl

/-- The carried triple of one map before query block `n`'s own key tile. -/
def mapCarry (xq xk : Vec F S1x2048x128 .bf16) (xv : Vec F S1x2048x256 .bf16) (b : Vec F S1x1x256x256 .f32) (n : ℕ) : Carry F :=
  carry (k0_pay2 (tileK xq n)) (tileK xk) (tileV xv)
    (first (BitVec.ofNat 32 n) (tileK xq n) (tileK xk (n - 1)) b (tileV xv (n - 1))) (n - 1)

/-- The own key tile folded in and the values divided by the sum of weights. -/
def quot (q : FVec F S256x128 .bf16) (k : Vec F S1x256x128 .bf16) (b : Vec F S1x1x256x256 .f32) (v : Vec F S1x256x256 .bf16) (a : Carry F) :
    FVec F S256x256 .f32 :=
  k0_pay34 (k0_pay26 v) (k0_pay31 q a.1 a.2.1 k b) (k0_pay32 q a.1 a.2.2 k b) (k0_pay33 q a.1 k b)

/-- The second map's own tile folded in, the difference of the two maps, normed. -/
def finish (lam : Vec F S4x128 .f32) (o : FVec F S256x256 .f32) (q : FVec F S256x128 .bf16) (k : Vec F S1x256x128 .bf16)
    (b : Vec F S1x1x256x256 .f32) (v : Vec F S1x256x256 .bf16) (a : Carry F) (g : Vec F S1x256 .f32) : Vec F S1x256x256 .bf16 :=
  k0_pay1 lam o (k0_pay58 v) (k0_pay62 q a.1 k b) (k0_pay63 q a.1 a.2.1 k b) (k0_pay64 q a.1 a.2.2 k b) g

/-- What query block `n` stores. -/
def block (x0 x1 x2 x3 : Vec F S1x2048x128 .bf16) (x4 : Vec F S1x2048x256 .bf16) (x5 : Vec F S2x2x256x256 .f32) (lam : Vec F S4x128 .f32)
    (x7 : Vec F S1x256 .f32) (n : ℕ) : Vec F S1x256x256 .bf16 :=
  finish lam (quot (k0_pay2 (tileK x0 n)) (tileK x2 n) (bias00 x5) (tileV x4 n) (mapCarry x0 x2 x4 (bias01 x5) n))
    (k0_pay2 (tileK x1 n)) (tileK x3 n) (bias10 x5) (tileV x4 n) (mapCarry x1 x3 x4 (bias11 x5) n) (gainOf x7)

/-- The 256 rows of query block `k` in the output. -/
abbrev rowsOf (k : Fin k0_t1_loop.trips) : Rect S1x2048x256 :=
  Rect.unit (s := S1x2048x256) (k0_off8 k) S1x256x256.size (k0_off8_inb k)

/-- The first `n` blocks' stores, newest first. -/
def pieces (x0 x1 x2 x3 : Vec F S1x2048x128 .bf16) (x4 : Vec F S1x2048x256 .bf16) (x5 : Vec F S2x2x256x256 .f32) (lam : Vec F S4x128 .f32)
    (x7 : Vec F S1x256 .f32) : ℕ → List (View.Piece (Elt F) S1x2048x256 .bf16)
  | 0 => []
  | n + 1 =>
    if h : n < k0_t1_loop.trips then ⟨rowsOf ⟨n, h⟩, block x0 x1 x2 x3 x4 x5 lam x7 n⟩ :: pieces x0 x1 x2 x3 x4 x5 lam x7 n
    else pieces x0 x1 x2 x3 x4 x5 lam x7 n

theorem pieces_succ (x0 x1 x2 x3 : Vec F S1x2048x128 .bf16) (x4 : Vec F S1x2048x256 .bf16) (x5 : Vec F S2x2x256x256 .f32)
    (lam : Vec F S4x128 .f32) (x7 : Vec F S1x256 .f32) (k : Fin k0_t1_loop.trips) :
    pieces x0 x1 x2 x3 x4 x5 lam x7 (k.val + 1)
      = [⟨rowsOf k, block x0 x1 x2 x3 x4 x5 lam x7 k.val⟩] ++ pieces x0 x1 x2 x3 x4 x5 lam x7 k.val := by
  rw [pieces, dif_pos k.isLt]; rfl

/-! ## One trip of the loop over query blocks -/

section Trip

variable (c : Dev nD) (i : grid0.Coords)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x256 .bf16) (harg6 : arg6.IsWhole)
  (arg7 : Memref sig .tc .vmem S2x2x256x256 .f32) (harg7 : arg7.IsWhole)
  (arg8 : Memref sig .tc .vmem S4x128 .f32) (harg8 : arg8.IsWhole)
  (arg9 : Memref sig .tc .vmem S1x256 .f32) (harg9 : arg9.IsWhole)
  (arg10 : Memref sig .tc .vmem S1x2048x256 .bf16) (harg10 : arg10.IsWhole)

  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (X8 : BufTy.Contents (Elt F) arg8.view.ty) (X9 : BufTy.Contents (Elt F) arg9.view.ty) (lam : Vec F S4x128 .f32)

/-- A staging buffer held whole at contents `X`. -/
abbrev held {s : Shape} {e : EltTy} (arg : Memref sig .tc .vmem s e) (X : BufTy.Contents (Elt F) arg.view.ty) : sProp 𝕄 :=
  arg.view.loc (c : Thread nD τ) ↦[arg.view.set]{fullShare} X

/-- The nine staging buffers, the output's at `f`. -/
abbrev res (f : BufTy.Contents (Elt F) arg10.view.ty) : sProp 𝕄 :=
  iprop(held c arg2 X2 ∗ held c arg3 X3 ∗ held c arg4 X4 ∗ held c arg5 X5 ∗ held c arg6 X6 ∗ held c arg7 X7 ∗ held c arg8 X8
    ∗ held c arg9 X9 ∗ held c arg10 f)

/-- Input contents as the values read through the whole buffers. -/
abbrev val {s : Shape} {e : EltTy} (arg : Memref sig .tc .vmem s e) (X : BufTy.Contents (Elt F) arg.view.ty) : Vec F s e :=
  arg.view.read (Elt F) X

/-- One trip of the loop over key tiles of one map, in the payloads' names. -/
theorem tripR2_eq (k : Fin k0_t1_loop.trips) (w : BitVec 32) (v21 : FVec F S256x128 .bf16) (v32 : FVec F S256x256 .bf16) (v42 : FVec F S256x256 .f32) (v45 : FVec F S256x1 .f32) (v47 : FVec F S256x1 .f32)
    (v50 : FVec F S256x256 .f32) (v51 : FVec F S256x1 .f32) (v52 : FVec F S256 .f32)
    (j : Fin (k0_t2_loop k).trips) (a : Carry F) :
    tripR_k0_t2 (F := F) Variants.none c none i arg2 harg2 arg3 harg3 arg4 harg4 arg5 harg5 arg6 harg6 arg7 harg7 arg8 harg8 arg9 harg9 arg10 harg10 k w v21 v32 v42 v45 v47 v50 v51 v52
        X4 X6 j a
      = stepTile v21 (tileK (val arg4 X4) j.val) (tileV (val arg6 X6) j.val) a := by
  rw [tileK_key2 _ k j, tileV_key2 _ k j]
  unfold tripR_k0_t2 trip_k0_t2
  rfl

/-- The carried triple of that loop is `carry`. -/
theorem st2_eq (k : Fin k0_t1_loop.trips) (w : BitVec 32) (v21 : FVec F S256x128 .bf16) (v32 : FVec F S256x256 .bf16) (v42 : FVec F S256x256 .f32) (v45 : FVec F S256x1 .f32) (v47 : FVec F S256x1 .f32)
    (v50 : FVec F S256x256 .f32) (v51 : FVec F S256x1 .f32) (v52 : FVec F S256 .f32)
    (a : Carry F) : ∀ n, n ≤ (k0_t2_loop k).trips →
    st_k0_t2 (F := F) Variants.none c none i arg2 harg2 arg3 harg3 arg4 harg4 arg5 harg5 arg6 harg6 arg7 harg7 arg8 harg8 arg9 harg9 arg10 harg10 k w v21 v32 v42 v45 v47 v50 v51 v52
        X4 X6 a n
      = carry v21 (tileK (val arg4 X4)) (tileV (val arg6 X6)) a n
  | 0, _ => st_k0_t2_zero ..
  | n + 1, h => by
    rw [st_k0_t2_succ (F := F) (k := ⟨n, h⟩), tripR2_eq, st2_eq k w v21 v32 v42 v45 v47 v50 v51 v52 a n (Nat.le_of_lt h), carry]

/-- One trip of the loop over key tiles of one map, in the payloads' names. -/
theorem tripR4_eq (k : Fin k0_t1_loop.trips) (w : BitVec 32) (v101 : FVec F S256x128 .bf16) (v112 : FVec F S256x256 .bf16) (v122 : FVec F S256x256 .f32) (v125 : FVec F S256x1 .f32) (v127 : FVec F S256x1 .f32)
    (v130 : FVec F S256x256 .f32) (v131 : FVec F S256x1 .f32)
    (j : Fin (k0_t4_loop k).trips) (a : Carry F) :
    tripR_k0_t4 (F := F) Variants.none c none i arg2 harg2 arg3 harg3 arg4 harg4 arg5 harg5 arg6 harg6 arg7 harg7 arg8 harg8 arg9 harg9 arg10 harg10 k w v101 v112 v122 v125 v127 v130 v131
        X5 X6 j a
      = stepTile v101 (tileK (val arg5 X5) j.val) (tileV (val arg6 X6) j.val) a := by
  rw [tileK_key4 _ k j, tileV_key4 _ k j]
  unfold tripR_k0_t4 trip_k0_t4
  rfl

/-- The carried triple of that loop is `carry`. -/
theorem st4_eq (k : Fin k0_t1_loop.trips) (w : BitVec 32) (v101 : FVec F S256x128 .bf16) (v112 : FVec F S256x256 .bf16) (v122 : FVec F S256x256 .f32) (v125 : FVec F S256x1 .f32) (v127 : FVec F S256x1 .f32)
    (v130 : FVec F S256x256 .f32) (v131 : FVec F S256x1 .f32)
    (a : Carry F) : ∀ n, n ≤ (k0_t4_loop k).trips →
    st_k0_t4 (F := F) Variants.none c none i arg2 harg2 arg3 harg3 arg4 harg4 arg5 harg5 arg6 harg6 arg7 harg7 arg8 harg8 arg9 harg9 arg10 harg10 k w v101 v112 v122 v125 v127 v130 v131
        X5 X6 a n
      = carry v101 (tileK (val arg5 X5)) (tileV (val arg6 X6)) a n
  | 0, _ => st_k0_t4_zero ..
  | n + 1, h => by
    rw [st_k0_t4_succ (F := F) (k := ⟨n, h⟩), tripR4_eq, st4_eq k w v101 v112 v122 v125 v127 v130 v131 a n (Nat.le_of_lt h), carry]

/-- The remainder loops run no trips. -/
theorem t3_trips (k : Fin k0_t1_loop.trips) : (k0_t3_loop k).trips = 0 := Nat.le_zero.1 (k0_t3_abs k).2.1
theorem t5_trips (k : Fin k0_t1_loop.trips) : (k0_t5_loop k).trips = 0 := Nat.le_zero.1 (k0_t5_abs k).2.1

/-- The first map's carried triple before its own tile. -/
abbrev mid0 (k : Fin k0_t1_loop.trips) (v21 : FVec F S256x128 .bf16) (v32 : FVec F S256x256 .bf16) (v42 : FVec F S256x256 .f32) (v45 : FVec F S256x1 .f32) (v47 : FVec F S256x1 .f32)
    (v50 : FVec F S256x256 .f32) (v51 : FVec F S256x1 .f32) (v52 : FVec F S256 .f32) : Carry F :=
  carry v21 (tileK (val arg4 X4)) (tileV (val arg6 X6)) (v45, k0_pay12 v51 v52, k0_pay13 v32 v42 v47 v50) (k.val - 1)
/-- The second map's carried triple before its own tile. -/
abbrev mid1 (k : Fin k0_t1_loop.trips) (v101 : FVec F S256x128 .bf16) (v112 : FVec F S256x256 .bf16) (v122 : FVec F S256x256 .f32) (v125 : FVec F S256x1 .f32) (v127 : FVec F S256x1 .f32)
    (v130 : FVec F S256x256 .f32) (v131 : FVec F S256x1 .f32) : Carry F :=
  carry v101 (tileK (val arg5 X5)) (tileV (val arg6 X6)) (v125, k0_pay44 v130 v131, k0_pay45 v112 v122 v127 v130) (k.val - 1)

set_option maxHeartbeats 4000000 in
/-- The first part of a trip reads the first map's queries and the tile before the query block. -/
theorem part1 (k : Fin k0_t1_loop.trips)  (E : Set ℕ) (f : BufTy.Contents (Elt F) arg10.view.ty) :
    res c arg2 arg3 arg4 arg5 arg6 arg7 arg8 arg9 arg10 X2 X3 X4 X5 X6 X7 X8 X9 f
      ⊢ wp frame (wpE (defs₀ (F := F)) Variants.none (c : Thread nD τ) none) E
          (k0_part1 (F := F) i arg2 harg2 arg3 harg3 arg4 harg4 arg5 harg5 arg6 harg6 arg7 harg7 arg8 harg8 arg9 harg9 arg10 harg10 0#32 1#32 k)
          (fun r => iprop(⌜r = ⟨BitVec.ofNat 32 k.val, Scalar.muli (BitVec.ofNat 32 k.val) 256#32, k0_pay2 (tileK (val arg2 X2) k.val),
              k0_pay3 (tileV (val arg6 X6) (k.val - 1)), k0_pay6,
              k0_pay7 0#32 1#32 k (tileK (val arg2 X2) k.val) (tileK (val arg4 X4) (k.val - 1)) (bias01 (val arg7 X7)),
              k0_pay8 0#32 1#32 k (tileK (val arg2 X2) k.val) (tileK (val arg4 X4) (k.val - 1)) (bias01 (val arg7 X7)),
              k0_pay9 0#32 1#32 k (tileK (val arg2 X2) k.val) (tileK (val arg4 X4) (k.val - 1)) (bias01 (val arg7 X7)),
              k0_pay10 0#32 1#32 k (tileK (val arg2 X2) k.val) (tileK (val arg4 X4) (k.val - 1)) (bias01 (val arg7 X7)),
              k0_pay11 0#32 1#32 k (tileK (val arg2 X2) k.val) (tileK (val arg4 X4) (k.val - 1)) (bias01 (val arg7 X7))⟩⌝ ∗ res c arg2 arg3 arg4 arg5 arg6 arg7 arg8 arg9 arg10 X2 X3 X4 X5 X6 X7 X8 X9 f)) := by
  simp only [k0_part1_eq_skeleton]; unfold k0_part1_skel
  iintro ⟨H2, H3, H4, H5, H6, H7, H8, H9, H10⟩
  sl_exec
  sl_step
  isplitr
  · ipureintro
    rw [word_at k, tileK_rows, tileK_before, tileV_before]
    sl_unfold_run_names
    rfl
  · sl_close

set_option maxHeartbeats 4000000 in
/-- The second part runs the first map's key tiles and starts on its own tile. -/
theorem part2 (k : Fin k0_t1_loop.trips) (w : BitVec 32) (v21 : FVec F S256x128 .bf16) (v32 : FVec F S256x256 .bf16) (v42 : FVec F S256x256 .f32) (v45 : FVec F S256x1 .f32) (v47 : FVec F S256x1 .f32)
    (v50 : FVec F S256x256 .f32) (v51 : FVec F S256x1 .f32) (v52 : FVec F S256 .f32) (E : Set ℕ) (f : BufTy.Contents (Elt F) arg10.view.ty) :
    res c arg2 arg3 arg4 arg5 arg6 arg7 arg8 arg9 arg10 X2 X3 X4 X5 X6 X7 X8 X9 f
      ⊢ wp frame (wpE (defs₀ (F := F)) Variants.none (c : Thread nD τ) none) E
          (k0_part2 (F := F) i arg2 harg2 arg3 harg3 arg4 harg4 arg5 harg5 arg6 harg6 arg7 harg7 arg8 harg8 arg9 harg9 arg10 harg10 k w v21 v32 v42 v45 v47 v50 v51 v52)
          (fun r => iprop(⌜r = ⟨k0_pay26 (tileV (val arg6 X6) k.val),
              k0_pay31 v21 (mid0 arg4 arg6 X4 X6 k v21 v32 v42 v45 v47 v50 v51 v52).1 (mid0 arg4 arg6 X4 X6 k v21 v32 v42 v45 v47 v50 v51 v52).2.1
                (tileK (val arg4 X4) k.val) (bias00 (val arg7 X7)),
              k0_pay32 v21 (mid0 arg4 arg6 X4 X6 k v21 v32 v42 v45 v47 v50 v51 v52).1 (mid0 arg4 arg6 X4 X6 k v21 v32 v42 v45 v47 v50 v51 v52).2.2
                (tileK (val arg4 X4) k.val) (bias00 (val arg7 X7)),
              k0_pay33 v21 (mid0 arg4 arg6 X4 X6 k v21 v32 v42 v45 v47 v50 v51 v52).1 (tileK (val arg4 X4) k.val) (bias00 (val arg7 X7))⟩⌝ ∗ res c arg2 arg3 arg4 arg5 arg6 arg7 arg8 arg9 arg10 X2 X3 X4 X5 X6 X7 X8 X9 f)) := by
  simp only [k0_part2_eq_skeleton]; unfold k0_part2_skel
  iintro ⟨H2, H3, H4, H5, H6, H7, H8, H9, H10⟩
  sl_exec
  sl_step
  isplitr
  · ipureintro
    have h3 : Scf.trips (k0_t3_loop k).lb (k0_t3_loop k).ub (k0_t3_loop k).st = 0 := t3_trips k
    unfold mid0
    rw [← trips2 k, ← st2_eq (F := F) c i arg2 harg2 arg3 harg3 arg4 harg4 arg5 harg5 arg6 harg6 arg7 harg7 arg8 harg8 arg9 harg9 arg10 harg10 X4 X6 k w v21 v32 v42 v45 v47 v50 v51 v52 _ _ le_rfl, tileK_rows, tileV_rows]
    sl_unfold_run_names
    simp only [h3, st_k0_t3_zero]
    rfl
  · sl_close

set_option maxHeartbeats 4000000 in
/-- The third part closes the first map and reads the second map's queries and the tile before the query block. -/
theorem part3 (k : Fin k0_t1_loop.trips) (w v18 : BitVec 32) (v76 : FVec F S256x256 .bf16) (v91 : FVec F S256x1 .f32) (v93 : FVec F S256x256 .f32) (v94 : FVec F S256x256 .bf16) (E : Set ℕ) (f : BufTy.Contents (Elt F) arg10.view.ty) :
    res c arg2 arg3 arg4 arg5 arg6 arg7 arg8 arg9 arg10 X2 X3 X4 X5 X6 X7 X8 X9 f
      ⊢ wp frame (wpE (defs₀ (F := F)) Variants.none (c : Thread nD τ) none) E
          (k0_part3 (F := F) i arg2 harg2 arg3 harg3 arg4 harg4 arg5 harg5 arg6 harg6 arg7 harg7 arg8 harg8 arg9 harg9 arg10 harg10 k w v18 v76 v91 v93 v94)
          (fun r => iprop(⌜r = ⟨k0_pay34 v76 v91 v93 v94, k0_pay2 (tileK (val arg3 X3) k.val), k0_pay36 (tileV (val arg6 X6) (k.val - 1)), k0_pay39,
              k0_pay40 w (tileK (val arg3 X3) k.val) (tileK (val arg5 X5) (k.val - 1)) (bias11 (val arg7 X7)),
              k0_pay41 w (tileK (val arg3 X3) k.val) (tileK (val arg5 X5) (k.val - 1)) (bias11 (val arg7 X7)),
              k0_pay42 w (tileK (val arg3 X3) k.val) (tileK (val arg5 X5) (k.val - 1)) (bias11 (val arg7 X7)),
              k0_pay43 w (tileK (val arg3 X3) k.val) (tileK (val arg5 X5) (k.val - 1)) (bias11 (val arg7 X7))⟩⌝ ∗ res c arg2 arg3 arg4 arg5 arg6 arg7 arg8 arg9 arg10 X2 X3 X4 X5 X6 X7 X8 X9 f)) := by
  simp only [k0_part3_eq_skeleton]; unfold k0_part3_skel
  iintro ⟨H2, H3, H4, H5, H6, H7, H8, H9, H10⟩
  sl_exec
  sl_step
  isplitr
  · ipureintro
    rw [tileK_rows, tileK_before, tileV_before]
    sl_unfold_run_names
    rfl
  · sl_close

set_option maxHeartbeats 4000000 in
/-- The fourth part runs the second map's key tiles and starts on its own tile. -/
theorem part4 (k : Fin k0_t1_loop.trips) (w : BitVec 32) (v101 : FVec F S256x128 .bf16) (v112 : FVec F S256x256 .bf16) (v122 : FVec F S256x256 .f32) (v125 : FVec F S256x1 .f32) (v127 : FVec F S256x1 .f32)
    (v130 : FVec F S256x256 .f32) (v131 : FVec F S256x1 .f32) (E : Set ℕ) (f : BufTy.Contents (Elt F) arg10.view.ty) :
    res c arg2 arg3 arg4 arg5 arg6 arg7 arg8 arg9 arg10 X2 X3 X4 X5 X6 X7 X8 X9 f
      ⊢ wp frame (wpE (defs₀ (F := F)) Variants.none (c : Thread nD τ) none) E
          (k0_part4 (F := F) i arg2 harg2 arg3 harg3 arg4 harg4 arg5 harg5 arg6 harg6 arg7 harg7 arg8 harg8 arg9 harg9 arg10 harg10 k w v101 v112 v122 v125 v127 v130 v131)
          (fun r => iprop(⌜r = ⟨k0_pay58 (tileV (val arg6 X6) k.val),
              k0_pay62 v101 (mid1 arg5 arg6 X5 X6 k v101 v112 v122 v125 v127 v130 v131).1 (tileK (val arg5 X5) k.val) (bias10 (val arg7 X7)),
              k0_pay63 v101 (mid1 arg5 arg6 X5 X6 k v101 v112 v122 v125 v127 v130 v131).1 (mid1 arg5 arg6 X5 X6 k v101 v112 v122 v125 v127 v130 v131).2.1
                (tileK (val arg5 X5) k.val) (bias10 (val arg7 X7)),
              k0_pay64 v101 (mid1 arg5 arg6 X5 X6 k v101 v112 v122 v125 v127 v130 v131).1 (mid1 arg5 arg6 X5 X6 k v101 v112 v122 v125 v127 v130 v131).2.2
                (tileK (val arg5 X5) k.val) (bias10 (val arg7 X7))⟩⌝ ∗ res c arg2 arg3 arg4 arg5 arg6 arg7 arg8 arg9 arg10 X2 X3 X4 X5 X6 X7 X8 X9 f)) := by
  simp only [k0_part4_eq_skeleton]; unfold k0_part4_skel
  iintro ⟨H2, H3, H4, H5, H6, H7, H8, H9, H10⟩
  sl_exec
  sl_step
  isplitr
  · ipureintro
    have h5 : Scf.trips (k0_t5_loop k).lb (k0_t5_loop k).ub (k0_t5_loop k).st = 0 := t5_trips k
    unfold mid1
    rw [← trips4 k, ← st4_eq (F := F) c i arg2 harg2 arg3 harg3 arg4 harg4 arg5 harg5 arg6 harg6 arg7 harg7 arg8 harg8 arg9 harg9 arg10 harg10 X5 X6 k w v101 v112 v122 v125 v127 v130 v131 _ _ le_rfl, tileK_rows, tileV_rows]
    sl_unfold_run_names
    simp only [h5, st_k0_t5_zero]
    rfl
  · sl_close

set_option maxHeartbeats 4000000 in
/-- One trip: the block it stores is found by running its parts. -/
@[irreducible] def trip (k : Fin k0_t1_loop.trips) :
    { w : Vec F S1x256x256 .bf16 // ∀ (E : Set ℕ) (f : BufTy.Contents (Elt F) arg10.view.ty),
      res c arg2 arg3 arg4 arg5 arg6 arg7 arg8 arg9 arg10 X2 X3 X4 X5 X6 X7 X8 X9 f
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 lam k ())
          (fun _ => res c arg2 arg3 arg4 arg5 arg6 arg7 arg8 arg9 arg10 X2 X3 X4 X5 X6 X7 X8 X9 (arg10.view.writes (Elt F) f [⟨rowsOf k, w⟩])) } := by
  refine ⟨?_, fun E f => ?run⟩
  case run =>
    unfold k0_t1_body
    iintro ⟨H2, H3, H4, H5, H6, H7, H8, H9, H10⟩
    iapply (Idealize.ShloMosaic.exec_cut frame (wpE (defs₀ (F := F)) Variants.none (c : Thread nD τ) none) E (part1 (F := F) c i arg2 harg2 arg3 harg3 arg4 harg4 arg5 harg5 arg6 harg6 arg7 harg7 arg8 harg8 arg9 harg9 arg10 harg10 X2 X3 X4 X5 X6 X7 X8 X9 k E f)) $$ [H2 H3 H4 H5 H6 H7 H8 H9 H10]
    · sl_close
    iintro %r1 ⟨%hr1, H2, H3, H4, H5, H6, H7, H8, H9, H10⟩
    subst hr1
    iapply (Idealize.ShloMosaic.exec_cut frame (wpE (defs₀ (F := F)) Variants.none (c : Thread nD τ) none) E (part2 (F := F) c i arg2 harg2 arg3 harg3 arg4 harg4 arg5 harg5 arg6 harg6 arg7 harg7 arg8 harg8 arg9 harg9 arg10 harg10 X2 X3 X4 X5 X6 X7 X8 X9 k _ _ _ _ _ _ _ _ _ E f)) $$ [H2 H3 H4 H5 H6 H7 H8 H9 H10]
    · sl_close
    iintro %r2 ⟨%hr2, H2, H3, H4, H5, H6, H7, H8, H9, H10⟩
    subst hr2
    iapply (Idealize.ShloMosaic.exec_cut frame (wpE (defs₀ (F := F)) Variants.none (c : Thread nD τ) none) E (part3 (F := F) c i arg2 harg2 arg3 harg3 arg4 harg4 arg5 harg5 arg6 harg6 arg7 harg7 arg8 harg8 arg9 harg9 arg10 harg10 X2 X3 X4 X5 X6 X7 X8 X9 k _ _ _ _ _ _ E f)) $$ [H2 H3 H4 H5 H6 H7 H8 H9 H10]
    · sl_close
    iintro %r3 ⟨%hr3, H2, H3, H4, H5, H6, H7, H8, H9, H10⟩
    subst hr3
    iapply (Idealize.ShloMosaic.exec_cut frame (wpE (defs₀ (F := F)) Variants.none (c : Thread nD τ) none) E (part4 (F := F) c i arg2 harg2 arg3 harg3 arg4 harg4 arg5 harg5 arg6 harg6 arg7 harg7 arg8 harg8 arg9 harg9 arg10 harg10 X2 X3 X4 X5 X6 X7 X8 X9 k _ _ _ _ _ _ _ _ E f)) $$ [H2 H3 H4 H5 H6 H7 H8 H9 H10]
    · sl_close
    iintro %r4 ⟨%hr4, H2, H3, H4, H5, H6, H7, H8, H9, H10⟩
    subst hr4
    sl_exec
    sl_step
    sl_close

/-- What the trip stores is the query block's value. -/
theorem trip_eq (k : Fin k0_t1_loop.trips) :
    (trip (F := F) c i arg2 harg2 arg3 harg3 arg4 harg4 arg5 harg5 arg6 harg6 arg7 harg7 arg8 harg8 arg9 harg9 arg10 harg10 X2 X3 X4 X5 X6 X7 X8 X9 lam k).1
      = block (val arg2 X2) (val arg3 X3) (val arg4 X4) (val arg5 X5) (val arg6 X6) (val arg7 X7) lam (val arg9 X9) k.val := by
  unfold trip
  sl_unfold_run_names
  unfold block finish quot
  refine congrArg (fun o => k0_pay1 lam o _ _ _ _ _) ?_
  unfold mapCarry
  rw [first_eq k]

set_option warn.classDefReducibility false in
/-- The loop over query blocks by its invariant: before trip `k` the output holds the first `k` blocks' stores. -/
@[sl_loop] def loopInv (E : Set ℕ) (f : BufTy.Contents (Elt F) arg10.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 lam where
  inv k _ := res c arg2 arg3 arg4 arg5 arg6 arg7 arg8 arg9 arg10 X2 X3 X4 X5 X6 X7 X8 X9
    (arg10.view.writes (Elt F) f (pieces (val arg2 X2) (val arg3 X3) (val arg4 X4) (val arg5 X5) (val arg6 X6) (val arg7 X7) lam (val arg9 X9) k))
  step k _ := by
    iintro H
    iapply (wp_wand_r Idealize.ShloMosaic.frame (wpE (defs₀ (F := F)) Variants.none (c : Thread nD τ) none) E)
    isplitl [H]
    · iapply (trip (F := F) c i arg2 harg2 arg3 harg3 arg4 harg4 arg5 harg5 arg6 harg6 arg7 harg7 arg8 harg8 arg9 harg9 arg10 harg10 X2 X3 X4 X5 X6 X7 X8 X9 lam k).2 E _
      iexact H
    · iintro %_ H
      rw [pieces_succ, View.writes_append, trip_eq]
      iexact H

end Trip

end Cert.Kernel6Ideal.Diff

end
-- ==== Proof.DiffFrame.lean ====
/- The differential attention kernel's launch: what the body leaves in the output's staging buffer at each grid point, and the run of
   the whole program — the argument arrays end unchanged, every counter ends at zero, and the output array is written
   block by block. -/
module

public import proofs.«01_k».proof.Proof.DiffLoop
public import proofs.«01_k».proof.Proof.Gen.Kernel6Ideal.Points
public import proofs.«01_k».proof.Proof.Gen.Kernel6Ideal.Launch
public import Idealize.ShloMosaic.Lib.Pipeline.FrameBody
public import Idealize.ShloMosaic.Lib.Claim

@[expose] public section

set_option maxRecDepth 16384

noncomputable section

namespace Cert.Kernel6Ideal.Diff

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The output block after the body: the eight query blocks' stores. -/
def outBlock (x0 x1 x2 x3 : Vec F S1x2048x128 .bf16) (x4 : Vec F S1x2048x256 .bf16) (x5 : Vec F S2x2x256x256 .f32) (x6 : Vec F S4x128 .f32)
    (x7 : Vec F S1x256 .f32) : Vec F S1x2048x256 .bf16 :=
  View.canon (pieces x0 x1 x2 x3 x4 x5 (lamOf x6) x7 8)

theorem trips_eq : k0_t1_loop.trips = 8 := by decide +kernel

/-- Row `y 1` lies in the rows of query block `y 1 / 256`. -/
theorem mem_rowsOf (y : S1x2048x256.Idx) (k : Fin k0_t1_loop.trips) :
    y ∈ (rowsOf k).set ↔ 256 * k.val ≤ (y 1).val ∧ (y 1).val < 256 * k.val + 256 := by
  rw [Rect.mem_set_unit, k0_off8_eq]
  constructor
  · intro h; exact h 1
  · intro h a
    match a with
    | ⟨0, _⟩ => exact ⟨Nat.zero_le _, by have := (y 0).isLt; simpa using this⟩
    | ⟨1, _⟩ => exact h
    | ⟨2, _⟩ => exact ⟨Nat.zero_le _, by have := (y 2).isLt; simpa using this⟩

theorem pieces_mem (x0 x1 x2 x3 : Vec F S1x2048x128 .bf16) (x4 : Vec F S1x2048x256 .bf16) (x5 : Vec F S2x2x256x256 .f32) (lam : Vec F S4x128 .f32)
    (x7 : Vec F S1x256 .f32) (k : Fin k0_t1_loop.trips) :
    ∀ n, k.val < n → (⟨rowsOf k, block x0 x1 x2 x3 x4 x5 lam x7 k.val⟩ : View.Piece (Elt F) S1x2048x256 .bf16) ∈ pieces x0 x1 x2 x3 x4 x5 lam x7 n
  | 0, h => absurd h (Nat.not_lt_zero _)
  | n + 1, h => by
    rw [pieces]
    split
    · next hn =>
      rcases Nat.lt_succ_iff_lt_or_eq.1 h with h' | h'
      · exact List.mem_cons_of_mem _ (pieces_mem x0 x1 x2 x3 x4 x5 lam x7 k n h')
      · subst h'; exact List.mem_cons_self
    · next hn => exact pieces_mem x0 x1 x2 x3 x4 x5 lam x7 k n (lt_of_lt_of_le k.isLt (Nat.not_lt.1 hn))

/-- The eight stores cover the block. -/
theorem cover (x0 x1 x2 x3 : Vec F S1x2048x128 .bf16) (x4 : Vec F S1x2048x256 .bf16) (x5 : Vec F S2x2x256x256 .f32) (lam : Vec F S4x128 .f32)
    (x7 : Vec F S1x256 .f32) (y : S1x2048x256.Idx) :
    ∃ pc ∈ pieces x0 x1 x2 x3 x4 x5 lam x7 8, y ∈ pc.1.set := by
  have hy : (y 1).val < 2048 := (y 1).isLt
  have hk : (y 1).val / 256 < k0_t1_loop.trips := by rw [trips_eq]; omega
  refine ⟨_, pieces_mem x0 x1 x2 x3 x4 x5 lam x7 ⟨_, hk⟩ 8 (by show (y 1).val / 256 < 8; omega), ?_⟩
  rw [mem_rowsOf]
  show 256 * ((y 1).val / 256) ≤ _ ∧ _ < 256 * ((y 1).val / 256) + 256
  omega

set_option maxHeartbeats 1000000 in
/-- The kernel body on whole staging buffers: the inputs stay as they were, the output's buffer ends at `outBlock`. -/
theorem sound_kernel (c : Dev nD) (E : Set ℕ) (i : grid0.Coords)
    (arg2 : Memref sig .tc .vmem S1x2048x128 .bf16) (harg2 : arg2.IsWhole)
    (arg3 : Memref sig .tc .vmem S1x2048x128 .bf16) (harg3 : arg3.IsWhole)
    (arg4 : Memref sig .tc .vmem S1x2048x128 .bf16) (harg4 : arg4.IsWhole)
    (arg5 : Memref sig .tc .vmem S1x2048x128 .bf16) (harg5 : arg5.IsWhole)
    (arg6 : Memref sig .tc .vmem S1x2048x256 .bf16) (harg6 : arg6.IsWhole)
    (arg7 : Memref sig .tc .vmem S2x2x256x256 .f32) (harg7 : arg7.IsWhole)
    (arg8 : Memref sig .tc .vmem S4x128 .f32) (harg8 : arg8.IsWhole)
    (arg9 : Memref sig .tc .vmem S1x256 .f32) (harg9 : arg9.IsWhole)
    (arg10 : Memref sig .tc .vmem S1x2048x256 .bf16) (harg10 : arg10.IsWhole)
   (x0 x1 x2 x3 : Vec F S1x2048x128 .bf16) (x4 : Vec F S1x2048x256 .bf16) (x5 : Vec F S2x2x256x256 .f32) (x6 : Vec F S4x128 .f32)
    (x7 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (outBlock x0 x1 x2 x3 x4 x5 x6 x7)) -∗ K ⟨⟩))
      ⊢ wp frame (wpE (defs₀ (F := F)) Variants.none c none) E
          (cc0_diff_attn i arg2 harg2 arg3 harg3 arg4 harg4 arg5 harg5 arg6 harg6 arg7 harg7 arg8 harg8 arg9 harg9 arg10 harg10) K := by
  simp only [cc0_diff_attn_eq_skeleton]; unfold cc0_diff_attn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [show Scf.trips k0_t1_loop.lb k0_t1_loop.ub k0_t1_loop.st = 8 from trips_eq]
  exact View.read_writes_eq_canon _ _ _ (cover _ _ _ _ _ _ _ _)

variable (m : (ℓ : Loc nD τ sig) → Buf (Elt F) ℓ) (ρ : Dev nD → PrngReg)

/-! ## The launch's proof data -/

/-- The proof data of the one call on core `c`: the arrays as launched; after the body each input's buffer at its block
    and the output's at `outBlock` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t
    = outBlock (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body at a grid point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution terminates; at every end the arrays are what the launch's data say and every counter is zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_frame : θ_run defs (onTc (τ := τ) (main (F := F))) (s₀ m ρ) (Pipeline.FramePost cfgs (dats m) 0 (V m)) :=
  (θ_run defs _ _).mono (fun _ h => h.1) (run_quiescent m ρ)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_frame m ρ)) ((θ_run defs _ _).mono (fun _ h => h.2) (run_quiescent m ρ))

end Cert.Kernel6Ideal.Diff

end
-- ==== Proof.Order.lean ====
/- The three numbers of a softmax do not depend on the order in which the columns come. The attention kernel with a position
   bias takes the block before the query's own block first, then the blocks from the start, then the query's own block; this
   module states that order and that it meets every column up to the end of the query's block exactly once. -/
module

public import proofs.«01_k».proof.Proof.Softmax

@[expose] public section

noncomputable section

namespace Cert.Softmax

open Idealize.ShloMosaic

/-- The column taken at place `p` for the query rows of block `k`. -/
def turn (k p : ℕ) : ℕ :=
  if k = 0 then p else if p < 256 then 256 * (k - 1) + p else if p < 256 * k then p - 256 else p

theorem turn_zero (p : ℕ) : turn 0 p = p := if_pos rfl
theorem turn_first {k p : ℕ} (hk : k ≠ 0) (hp : p < 256) : turn k p = 256 * (k - 1) + p := by
  rw [turn, if_neg hk, if_pos hp]
theorem turn_far {k p : ℕ} (hk : k ≠ 0) (h1 : 256 ≤ p) (h2 : p < 256 * k) : turn k p = p - 256 := by
  rw [turn, if_neg hk, if_neg (by omega), if_pos h2]
theorem turn_last {k p : ℕ} (h : 256 * k ≤ p) : turn k p = p := by
  unfold turn; split_ifs <;> omega

/-- Every column up to the end of block `k` is met. -/
theorem turn_image (k : ℕ) : (Finset.range (256 * k + 256)).image (turn k) = Finset.range (256 * k + 256) := by
  ext c
  simp only [Finset.mem_image, Finset.mem_range]
  constructor
  · rintro ⟨p, hp, rfl⟩
    unfold turn; split_ifs <;> omega
  · intro hc
    by_cases hk : k = 0
    · exact ⟨c, hc, by rw [hk, turn_zero]⟩
    · by_cases h1 : 256 * k ≤ c
      · exact ⟨c, hc, turn_last h1⟩
      · by_cases h2 : 256 * (k - 1) ≤ c
        · exact ⟨c - 256 * (k - 1), by omega, by rw [turn_first hk (by omega)]; omega⟩
        · exact ⟨c + 256, by omega, by rw [turn_far hk (by omega) (by omega)]; omega⟩

theorem turn_inj (k : ℕ) : Set.InjOn (turn k) (Finset.range (256 * k + 256) : Finset ℕ) :=
  Finset.injOn_of_card_image_eq (by rw [turn_image])

theorem turn_sum (k : ℕ) (f : ℕ → EReal) :
    ∑ p ∈ Finset.range (256 * k + 256), f (turn k p) = ∑ c ∈ Finset.range (256 * k + 256), f c := by
  conv_rhs => rw [← turn_image k]
  exact (Finset.sum_image (turn_inj k)).symm

theorem top_turn (s : ℕ → EReal) (k : ℕ) : top (fun p => s (turn k p)) (256 * k + 256) = top s (256 * k + 256) := by
  conv_rhs => rw [top, ← turn_image k, Finset.sup_image]
  rfl

theorem mass_turn (s : ℕ → EReal) (k : ℕ) : mass (fun p => s (turn k p)) (256 * k + 256) = mass s (256 * k + 256) := by
  rw [mass, mass, top_turn]
  exact turn_sum k fun c => Ideal.exp2 (s c - top s (256 * k + 256))

theorem mix_turn (s v : ℕ → EReal) (k : ℕ) :
    mix (fun p => s (turn k p)) (fun p => v (turn k p)) (256 * k + 256) = mix s v (256 * k + 256) := by
  rw [mix, mix, top_turn]
  exact turn_sum k fun c => Ideal.exp2 (s c - top s (256 * k + 256)) * v c

end Cert.Softmax

end
-- ==== Proof.DiffBlock.lean ====
/- The differential attention kernel's query block on the extended reals: per map, the carried triple is a running softmax's
   three numbers over the columns in the order in which the kernel takes them, and what the block stores is the normed
   difference of the two maps' quotients. -/
module

public import proofs.«01_k».proof.Proof.DiffLoop
public import proofs.«01_k».proof.Proof.Order
public import Idealize.ShloMosaic.Lib.Pointwise
public import Idealize.ShloMosaic.Lib.Pipeline.ValueKit

@[expose] public section

set_option maxRecDepth 16384

noncomputable section

namespace Cert.Kernel6Ideal.Diff

open Cert.Kernel6Ideal Cert.Kernel6Ideal.Gen
open Idealize.ShloMosaic Idealize.ShloMosaic.TcCoe
open Cert.Softmax

/-! ## Scores, biases and values of one head, by row and column number -/

/-- Lane `d` of row `r` of a block of queries or keys; zero past the last row. -/
def laneK (x : Vec Ideal S1x2048x128 .bf16) (r : ℕ) (d : Fin 128) : EReal :=
  if h : r < 2048 then x (ix3 0 ⟨r, h⟩ d) else 0
/-- Lane `d` of row `r` of a block of values. -/
def laneV (x : Vec Ideal S1x2048x256 .bf16) (r : ℕ) (d : Fin 256) : EReal :=
  if h : r < 2048 then x (ix3 0 ⟨r, h⟩ d) else 0

/-- The score of query row `r` against key row `c` of one map. -/
def score (xq xk : Vec Ideal S1x2048x128 .bf16) (r c : ℕ) : EReal :=
  ∑ d : Fin 128, laneK xq r d * laneK xk c d

/-- The score with its position bias: a tile of biases within a block of 256 positions, another from a block to the one
    before, none further back; later blocks are taken out. -/
def biased (near before : Fin 256 → Fin 256 → EReal) (xq xk : Vec Ideal S1x2048x128 .bf16) (r c : ℕ) : EReal :=
  if r / 256 < c / 256 then ⊥
  else if c / 256 = r / 256 then score xq xk r c + near ⟨r % 256, Nat.mod_lt _ (by norm_num)⟩ ⟨c % 256, Nat.mod_lt _ (by norm_num)⟩
  else if c / 256 + 1 = r / 256 then score xq xk r c + before ⟨r % 256, Nat.mod_lt _ (by norm_num)⟩ ⟨c % 256, Nat.mod_lt _ (by norm_num)⟩
  else score xq xk r c

theorem tileK_at (x : Vec Ideal S1x2048x128 .bf16) (n : ℕ) (hn : n < 8) (r : Fin 256) (d : Fin 128) :
    tileK x n (ix3 0 r d) = laneK x (256 * n + r.val) d := by
  have h : 256 * n + r.val < 2048 := by have := r.isLt; omega
  rw [laneK, dif_pos h]
  show x _ = _
  refine congrArg x (funext fun a => Fin.ext ?_)
  rw [Rect.idx_unit_val]
  fin_cases a <;> simp [ix3, Nat.mod_eq_of_lt hn]

theorem tileV_at (x : Vec Ideal S1x2048x256 .bf16) (n : ℕ) (hn : n < 8) (r : Fin 256) (d : Fin 256) :
    tileV x n (ix3 0 r d) = laneV x (256 * n + r.val) d := by
  have h : 256 * n + r.val < 2048 := by have := r.isLt; omega
  rw [laneV, dif_pos h]
  show x _ = _
  refine congrArg x (funext fun a => Fin.ext ?_)
  rw [Rect.idx_unit_val]
  fin_cases a <;> simp [ix3, Nat.mod_eq_of_lt hn]

/-! ## One tile's payloads at an index -/

/-- The score of row `r` of a query tile against row `c` of a key tile. -/
def tileScore (q : FVec Ideal S256x128 .bf16) (k : Vec Ideal S1x256x128 .bf16) (r c : Fin 256) : EReal :=
  ∑ d : Fin 128, q (ix2 r d) * k (ix3 0 c d)

theorem pay2_at (q : Vec Ideal S1x256x128 .bf16) (r : Fin 256) (d : Fin 128) :
    k0_pay2 (F := Ideal) q (ix2 r d) = q (ix3 0 r d) := by
  pointwise [k0_pay2]
theorem pay36_at (v : Vec Ideal S1x256x256 .bf16) (c : Fin 256) (d : Fin 256) :
    k0_pay36 (F := Ideal) v (ix2 c d) = v (ix3 0 c d) := by
  pointwise [k0_pay36]

theorem pay14_at (q : FVec Ideal S256x128 .bf16) (k : Vec Ideal S1x256x128 .bf16) (r c : Fin 256) :
    k0_pay14 (F := Ideal) q k (ix2 r c) = tileScore q k r c := by
  pointwise [k0_pay14, tileScore]

theorem pay15_at (q : FVec Ideal S256x128 .bf16) (k : Vec Ideal S1x256x128 .bf16) (m : FVec Ideal S256x1 .f32) (r : Fin 256) :
    k0_pay15 (F := Ideal) q m k (ix2 r 0)
      = max (m (ix2 r 0)) (Finset.univ.fold max ⊥ (fun c : Fin 256 => tileScore q k r c)) := by
  pointwise [k0_pay15, pay14_at]
  rw [word_bot]

theorem pay18_at (q : FVec Ideal S256x128 .bf16) (k : Vec Ideal S1x256x128 .bf16) (m l : FVec Ideal S256x1 .f32) (r : Fin 256) :
    k0_pay18 (F := Ideal) q m l k (ix2 r 0)
      = Ideal.exp2 (m (ix2 r 0) - k0_pay15 (F := Ideal) q m k (ix2 r 0)) * l (ix2 r 0)
        + ∑ c : Fin 256, Ideal.exp2 (tileScore q k r c - k0_pay15 (F := Ideal) q m k (ix2 r 0)) := by
  pointwise [k0_pay18, k0_pay16, k0_pay17, pay14_at]
  rfl

theorem pay19_at (q : FVec Ideal S256x128 .bf16) (k : Vec Ideal S1x256x128 .bf16) (v : Vec Ideal S1x256x256 .bf16)
    (m : FVec Ideal S256x1 .f32) (a : FVec Ideal S256x256 .f32) (r d : Fin 256) :
    k0_pay19 (F := Ideal) q m a k v (ix2 r d)
      = Ideal.exp2 (m (ix2 r 0) - k0_pay15 (F := Ideal) q m k (ix2 r 0)) * a (ix2 r d)
        + ∑ c : Fin 256, Ideal.exp2 (tileScore q k r c - k0_pay15 (F := Ideal) q m k (ix2 r 0)) * v (ix3 0 c d) := by
  pointwise [k0_pay19, k0_pay16, k0_pay17, pay14_at]
  rfl

/-- The score of the tile before the query block with its bias, taken out for the first block. -/
theorem pay37_at (n : ℕ) (hn : n < 8) (q k : Vec Ideal S1x256x128 .bf16) (b : Vec Ideal S1x1x256x256 .f32) (r c : Fin 256) :
    k0_pay37 (F := Ideal) (BitVec.ofNat 32 n) q k b (ix2 r c)
      = if n = 0 then ⊥ else tileScore (k0_pay2 q) k r c + b (ix4 0 0 r c) := by
  have h : Scalar.cmpi .eq (BitVec.ofNat 32 n) 0#32 = if n = 0 then 1#1 else 0#1 := by
    interval_cases n <;> decide
  pointwise [k0_pay37, k0_pay35, k0_pay2, tileScore]
  rw [h, IdealRules.named_const.ideal_named_scalar _ _ _ _ rfl]
  by_cases h0 : n = 0
  · rw [if_pos h0, if_pos h0]
    exact EReal.add_bot _
  · rw [if_neg h0, if_neg h0]
    exact add_zero _

theorem pay40_at (w : BitVec 32) (q k : Vec Ideal S1x256x128 .bf16) (b : Vec Ideal S1x1x256x256 .f32) (r : Fin 256) :
    k0_pay40 (F := Ideal) w q k b (ix2 r 0)
      = Finset.univ.fold max ⊥ (fun c : Fin 256 => k0_pay37 (F := Ideal) w q k b (ix2 r c)) := by
  pointwise [k0_pay40, k0_pay38]
  rw [word_bot, IdealRules.named_const.ideal_named_scalar _ _ _ _ rfl]
  exact max_eq_right bot_le

theorem first2_at (w : BitVec 32) (q k : Vec Ideal S1x256x128 .bf16) (b : Vec Ideal S1x1x256x256 .f32) (r : Fin 256) :
    k0_pay44 (F := Ideal) (k0_pay42 w q k b) (k0_pay43 w q k b) (ix2 r 0)
      = ∑ c : Fin 256, Ideal.exp2 (k0_pay37 (F := Ideal) w q k b (ix2 r c) - k0_pay40 (F := Ideal) w q k b (ix2 r 0)) := by
  pointwise [k0_pay44, k0_pay42, k0_pay43, k0_pay41]
  rw [mul_zero, zero_add]
  rfl

theorem first3_at (w : BitVec 32) (q k : Vec Ideal S1x256x128 .bf16) (b : Vec Ideal S1x1x256x256 .f32) (v : Vec Ideal S1x256x256 .bf16)
    (r d : Fin 256) :
    k0_pay45 (F := Ideal) (k0_pay36 v) k0_pay39 (k0_pay41 w q k b) (k0_pay42 w q k b) (ix2 r d)
      = ∑ c : Fin 256, Ideal.exp2 (k0_pay37 (F := Ideal) w q k b (ix2 r c) - k0_pay40 (F := Ideal) w q k b (ix2 r 0)) * v (ix3 0 c d) := by
  pointwise [k0_pay45, k0_pay42, k0_pay39, k0_pay36]
  rw [mul_zero, zero_add]
  rfl

theorem pay27_at (q : FVec Ideal S256x128 .bf16) (k : Vec Ideal S1x256x128 .bf16) (b : Vec Ideal S1x1x256x256 .f32) (r c : Fin 256) :
    k0_pay27 (F := Ideal) q k b (ix2 r c) = tileScore q k r c + b (ix4 0 0 r c) := by
  pointwise [k0_pay27, tileScore]

theorem pay28_at (q : FVec Ideal S256x128 .bf16) (k : Vec Ideal S1x256x128 .bf16) (b : Vec Ideal S1x1x256x256 .f32)
    (m : FVec Ideal S256x1 .f32) (r : Fin 256) :
    k0_pay28 (F := Ideal) q m k b (ix2 r 0)
      = max (m (ix2 r 0)) (Finset.univ.fold max ⊥ (fun c : Fin 256 => tileScore q k r c + b (ix4 0 0 r c))) := by
  pointwise [k0_pay28, pay27_at]
  rw [word_bot]

theorem quot_at (q : FVec Ideal S256x128 .bf16) (k : Vec Ideal S1x256x128 .bf16) (b : Vec Ideal S1x1x256x256 .f32)
    (v : Vec Ideal S1x256x256 .bf16) (a : Carry Ideal) (r d : Fin 256) :
    quot q k b v a (ix2 r d)
      = Ideal.div
          (Ideal.exp2 (a.1 (ix2 r 0) - k0_pay28 (F := Ideal) q a.1 k b (ix2 r 0)) * a.2.2 (ix2 r d)
            + ∑ c : Fin 256, Ideal.exp2 (tileScore q k r c + b (ix4 0 0 r c) - k0_pay28 (F := Ideal) q a.1 k b (ix2 r 0)) * v (ix3 0 c d))
          (Ideal.exp2 (a.1 (ix2 r 0) - k0_pay28 (F := Ideal) q a.1 k b (ix2 r 0)) * a.2.1 (ix2 r 0)
            + ∑ c : Fin 256, Ideal.exp2 (tileScore q k r c + b (ix4 0 0 r c) - k0_pay28 (F := Ideal) q a.1 k b (ix2 r 0))) := by
  unfold quot
  pointwise [k0_pay34, k0_pay26, k0_pay31, k0_pay32, k0_pay33, k0_pay29, k0_pay30, pay27_at]
  rfl

/-- The last payload over any quotient of the second map. -/
def normed (lam : Vec Ideal S4x128 .f32) (o0 o1 g : Fin 256 → EReal) (d : Fin 256) : EReal :=
  let w : EReal := Ideal.exp (∑ e : Fin 128, lam (ix2 0 e) * lam (ix2 1 e)) - Ideal.exp (∑ e : Fin 128, lam (ix2 2 e) * lam (ix2 3 e))
    + Ideal.ofBits .f32 0x3EB60549#32
  (o0 d - w * o1 d) * Ideal.rsqrt (Ideal.div (∑ e, (o0 e - w * o1 e) * (o0 e - w * o1 e)) (Ideal.ofBits .f32 0x43800000#32)
    + Ideal.ofBits .f32 0x3727C5AC#32) * g d * Ideal.ofBits .f32 0x3F24FD5C#32

theorem pay1_at (lam : Vec Ideal S4x128 .f32) (o : FVec Ideal S256x256 .f32) (v : FVec Ideal S256x256 .bf16) (p : FVec Ideal S256x256 .f32)
    (l : FVec Ideal S256x1 .f32) (a : FVec Ideal S256x256 .f32) (g : Vec Ideal S1x256 .f32) (r d : Fin 256) :
    k0_pay1 (F := Ideal) lam o v p l a g (ix3 0 r d)
      = normed lam (fun d => o (ix2 r d)) (fun d => Ideal.div (a (ix2 r d) + ∑ c : Fin 256, p (ix2 r c) * v (ix2 c d)) (l (ix2 r 0)))
          (fun d => g (ix2 0 d)) d := by
  pointwise [k0_pay1, normed]

theorem pay34_at (v : FVec Ideal S256x256 .bf16) (l : FVec Ideal S256x1 .f32) (a : FVec Ideal S256x256 .f32) (p : FVec Ideal S256x256 .bf16)
    (r d : Fin 256) :
    k0_pay34 (F := Ideal) v l a p (ix2 r d)
      = Ideal.div (a (ix2 r d) + ∑ c : Fin 256, p (ix2 r c) * v (ix2 c d)) (l (ix2 r 0)) := by
  pointwise [k0_pay34]

/-- What a block stores is the normed difference of the two maps' quotients. -/
theorem finish_at (lam : Vec Ideal S4x128 .f32) (o : FVec Ideal S256x256 .f32) (q : FVec Ideal S256x128 .bf16)
    (k : Vec Ideal S1x256x128 .bf16) (b : Vec Ideal S1x1x256x256 .f32) (v : Vec Ideal S1x256x256 .bf16) (a : Carry Ideal)
    (g : Vec Ideal S1x256 .f32) (r d : Fin 256) :
    finish lam o q k b v a g (ix3 0 r d)
      = normed lam (fun d => o (ix2 r d)) (fun d => quot q k b v a (ix2 r d)) (fun d => g (ix2 0 d)) d := by
  unfold finish
  refine (pay1_at _ _ _ _ _ _ _ r d).trans ?_
  refine congrArg (fun o1 => normed lam (fun d => o (ix2 r d)) o1 (fun d => g (ix2 0 d)) d) (funext fun d => ?_)
  exact (pay34_at (k0_pay26 v) (k0_pay31 q a.1 a.2.1 k b) (k0_pay32 q a.1 a.2.2 k b) (k0_pay33 q a.1 k b) r d).symm

/-! ## One map of a query block -/

section Map

variable (xq xk : Vec Ideal S1x2048x128 .bf16) (xv : Vec Ideal S1x2048x256 .bf16) (near before : Vec Ideal S1x1x256x256 .f32)

/-- The biased scores of row `r` of query block `n`. -/
abbrev row (n : ℕ) (r : Fin 256) : ℕ → EReal :=
  biased (fun r c => near (ix4 0 0 r c)) (fun r c => before (ix4 0 0 r c)) xq xk (256 * n + r.val)

theorem row_at (n j : ℕ) (r c : Fin 256) :
    row xq xk near before n r (256 * j + c.val)
      = if n < j then ⊥
        else if j = n then score xq xk (256 * n + r.val) (256 * j + c.val) + near (ix4 0 0 r c)
        else if j + 1 = n then score xq xk (256 * n + r.val) (256 * j + c.val) + before (ix4 0 0 r c)
        else score xq xk (256 * n + r.val) (256 * j + c.val) := by
  have hr : (256 * n + r.val) / 256 = n := by have := r.isLt; omega
  have hc : (256 * j + c.val) / 256 = j := by have := c.isLt; omega
  have er : (⟨(256 * n + r.val) % 256, Nat.mod_lt _ (by norm_num)⟩ : Fin 256) = r := Fin.ext (by have := r.isLt; show _ % 256 = _; omega)
  have ec : (⟨(256 * j + c.val) % 256, Nat.mod_lt _ (by norm_num)⟩ : Fin 256) = c := Fin.ext (by have := c.isLt; show _ % 256 = _; omega)
  unfold row biased
  rw [er, ec, hr, hc]

theorem tileScore_at (n j : ℕ) (hn : n < 8) (hj : j < 8) (r c : Fin 256) :
    tileScore (k0_pay2 (tileK xq n)) (tileK xk j) r c = score xq xk (256 * n + r.val) (256 * j + c.val) :=
  Finset.sum_congr rfl fun d _ => congrArg₂ (· * ·) ((pay2_at _ r d).trans (tileK_at xq n hn r d)) (tileK_at xk j hj c d)

/-- The three numbers of the first `256 n` places in the kernel's order are what the carried triple holds. -/
theorem mapCarry_at (n : ℕ) (hn : n < 8) (r d : Fin 256) :
    (mapCarry xq xk xv before n).1 (ix2 r 0) = top (fun p => row xq xk near before n r (turn n p)) (256 * n)
    ∧ (mapCarry xq xk xv before n).2.1 (ix2 r 0) = mass (fun p => row xq xk near before n r (turn n p)) (256 * n)
    ∧ (mapCarry xq xk xv before n).2.2 (ix2 r d)
        = mix (fun p => row xq xk near before n r (turn n p)) (fun p => laneV xv (turn n p) d) (256 * n) := by
  unfold mapCarry
  rcases Nat.eq_zero_or_pos n with rfl | hpos
  · have hm : k0_pay40 (F := Ideal) (BitVec.ofNat 32 0) (tileK xq 0) (tileK xk (0 - 1)) before (ix2 r 0) = ⊥ := by
      rw [pay40_at]
      simp only [pay37_at 0 hn, if_true]
      rw [fold_max]
      exact Finset.sup_bot _
    refine ⟨hm, ?_, ?_⟩
    · refine (first2_at _ _ _ _ r).trans ?_
      simp only [pay37_at 0 hn, if_true]
      simp [mass]
    · refine (first3_at _ _ _ _ _ r d).trans ?_
      simp only [pay37_at 0 hn, if_true]
      simp [mix]
  · have hne : n ≠ 0 := by omega
    set s : ℕ → EReal := fun p => row xq xk near before n r (turn n p) with hs
    set v : ℕ → EReal := fun p => laneV xv (turn n p) d with hv
    have main : ∀ j, j ≤ n - 1 →
        (carry (k0_pay2 (tileK xq n)) (tileK xk) (tileV xv)
          (first (BitVec.ofNat 32 n) (tileK xq n) (tileK xk (n - 1)) before (tileV xv (n - 1))) j).1 (ix2 r 0) = top s (256 * j + 256)
        ∧ (carry (k0_pay2 (tileK xq n)) (tileK xk) (tileV xv)
          (first (BitVec.ofNat 32 n) (tileK xq n) (tileK xk (n - 1)) before (tileV xv (n - 1))) j).2.1 (ix2 r 0) = mass s (256 * j + 256)
        ∧ (carry (k0_pay2 (tileK xq n)) (tileK xk) (tileV xv)
          (first (BitVec.ofNat 32 n) (tileK xq n) (tileK xk (n - 1)) before (tileV xv (n - 1))) j).2.2 (ix2 r d) = mix s v (256 * j + 256) := by
      intro j
      induction j with
      | zero =>
        intro _
        have hp : ∀ c : Fin 256, k0_pay37 (F := Ideal) (BitVec.ofNat 32 n) (tileK xq n) (tileK xk (n - 1)) before (ix2 r c) = s c.val := fun c => by
          rw [pay37_at n hn, if_neg hne, tileScore_at xq xk n (n - 1) hn (by omega), hs]
          show _ = row xq xk near before n r (turn n c.val)
          rw [turn_first hne c.isLt, row_at, if_neg (by omega), if_neg (by omega), if_pos (by omega)]
        have hval : ∀ c : Fin 256, tileV xv (n - 1) (ix3 0 c d) = v c.val := fun c => by
          rw [tileV_at xv (n - 1) (by omega), hv]
          show _ = laneV xv (turn n c.val) d
          rw [turn_first hne c.isLt]
        have hm : k0_pay40 (F := Ideal) (BitVec.ofNat 32 n) (tileK xq n) (tileK xk (n - 1)) before (ix2 r 0) = top s 256 := by
          rw [pay40_at, top_range]
          simp only [hp]
        refine ⟨hm, ?_, ?_⟩
        · refine (first2_at _ _ _ _ r).trans ?_
          simp only [hp, hm]
          rw [mass, Finset.sum_range]
        · refine (first3_at _ _ _ _ _ r d).trans ?_
          simp only [hp, hm, hval]
          rw [mix, Finset.sum_range]
      | succ j ih =>
        intro hj
        obtain ⟨h1, h2, h3⟩ := ih (by omega)
        have hp : ∀ c : Fin 256, tileScore (k0_pay2 (tileK xq n)) (tileK xk j) r c = s (256 * j + 256 + c.val) := fun c => by
          have := c.isLt
          rw [tileScore_at xq xk n j hn (by omega), hs]
          show _ = row xq xk near before n r (turn n (256 * j + 256 + c.val))
          rw [turn_far hne (by omega) (by omega), show 256 * j + 256 + c.val - 256 = 256 * j + c.val by omega, row_at, if_neg (by omega),
            if_neg (by omega), if_neg (by omega)]
        have hval : ∀ c : Fin 256, tileV xv j (ix3 0 c d) = v (256 * j + 256 + c.val) := fun c => by
          have := c.isLt
          rw [tileV_at xv j (by omega), hv]
          show _ = laneV xv (turn n (256 * j + 256 + c.val)) d
          rw [turn_far hne (by omega) (by omega), show 256 * j + 256 + c.val - 256 = 256 * j + c.val by omega]
        rw [carry, show 256 * (j + 1) + 256 = 256 * j + 256 + 256 by ring]
        generalize carry (k0_pay2 (tileK xq n)) (tileK xk) (tileV xv)
          (first (BitVec.ofNat 32 n) (tileK xq n) (tileK xk (n - 1)) before (tileV xv (n - 1))) j = a at h1 h2 h3 ⊢
        unfold stepTile
        dsimp only
        have e1 := pay15_at (k0_pay2 (tileK xq n)) (tileK xk j) a.1 r
        simp only [hp, h1] at e1
        rw [← top_add s (256 * j + 256) 256] at e1
        refine ⟨e1, ?_, ?_⟩
        · rw [pay18_at, e1, h1, h2, mass_add s (256 * j + 256) 256]
          simp only [hp]
        · rw [pay19_at, e1, h1, h3, mix_add s v (256 * j + 256) 256]
          simp only [hp, hval]
    have e : 256 * n = 256 * (n - 1) + 256 := by omega
    rw [e]
    exact main (n - 1) le_rfl

/-- A map's quotient at a row is the softmax of the row's biased scores over the values. -/
theorem map_at (n : ℕ) (hn : n < 8) (r d : Fin 256) :
    quot (k0_pay2 (tileK xq n)) (tileK xk n) near (tileV xv n) (mapCarry xq xk xv before n) (ix2 r d)
      = Ideal.div (mix (row xq xk near before n r) (fun c => laneV xv c d) 2048) (mass (row xq xk near before n r) 2048) := by
  obtain ⟨h1, h2, h3⟩ := mapCarry_at xq xk xv near before n hn r d
  have htail : ∀ c, 256 * n + 256 ≤ c → row xq xk near before n r c = ⊥ := fun c hc => by
    have h := r.isLt
    rw [row, biased, if_pos (by omega)]
  rw [mix_tail _ _ (show 256 * n + 256 ≤ 2048 by omega) htail, mass_tail _ (show 256 * n + 256 ≤ 2048 by omega) htail,
    ← mix_turn, ← mass_turn, mix_add, mass_add, quot_at]
  set s : ℕ → EReal := fun p => row xq xk near before n r (turn n p) with hs
  have hp : ∀ c : Fin 256, tileScore (k0_pay2 (tileK xq n)) (tileK xk n) r c + near (ix4 0 0 r c) = s (256 * n + c.val) := fun c => by
    rw [tileScore_at xq xk n n hn hn, hs]
    show _ = row xq xk near before n r (turn n (256 * n + c.val))
    rw [turn_last (by omega), row_at, if_neg (by omega), if_pos rfl]
  have hval : ∀ c : Fin 256, tileV xv n (ix3 0 c d) = laneV xv (turn n (256 * n + c.val)) d := fun c => by
    rw [tileV_at xv n hn, turn_last (by omega)]
  have hm : k0_pay28 (F := Ideal) (k0_pay2 (tileK xq n)) (mapCarry xq xk xv before n).1 (tileK xk n) near (ix2 r 0) = top s (256 * n + 256) := by
    rw [pay28_at]
    simp only [hp, h1]
    rw [top_add]
  rw [hm, h1, h2, h3]
  simp only [hp, hval]
  rfl

end Map

/-- What query block `n` stores at row `r`. -/
theorem block_at (x0 x1 x2 x3 : Vec Ideal S1x2048x128 .bf16) (x4 : Vec Ideal S1x2048x256 .bf16) (x5 : Vec Ideal S2x2x256x256 .f32)
    (lam : Vec Ideal S4x128 .f32) (x7 : Vec Ideal S1x256 .f32) (n : ℕ) (hn : n < 8) (r d : Fin 256) :
    block (F := Ideal) x0 x1 x2 x3 x4 x5 lam x7 n (ix3 0 r d)
      = normed lam
          (fun d => Ideal.div (mix (row x0 x2 (bias00 x5) (bias01 x5) n r) (fun c => laneV x4 c d) 2048) (mass (row x0 x2 (bias00 x5) (bias01 x5) n r) 2048))
          (fun d => Ideal.div (mix (row x1 x3 (bias10 x5) (bias11 x5) n r) (fun c => laneV x4 c d) 2048) (mass (row x1 x3 (bias10 x5) (bias11 x5) n r) 2048))
          (fun d => gainOf x7 (ix2 0 d)) d := by
  unfold block
  refine (finish_at _ _ _ _ _ _ _ _ r d).trans ?_
  exact congrArg₂ (fun o0 o1 => normed lam o0 o1 (fun d => gainOf x7 (ix2 0 d)) d) (funext fun d => map_at x0 x2 x4 (bias00 x5) (bias01 x5) n hn r d)
    (funext fun d => map_at x1 x3 x4 (bias10 x5) (bias11 x5) n hn r d)

end Cert.Kernel6Ideal.Diff

end
-- ==== Proof.DiffBias.lean ====
/- The reference's position bias and dot products in differential attention, read at an index. -/
module

public import proofs.«01_k».proof.Proof.DiffBlock
public import proofs.«01_k».proof.Proof.Gen.Reference6Ideal
public import proofs.«01_k».proof.Proof.Gen.Reference6Ideal.Read

@[expose] public section

set_option maxRecDepth 16384

noncomputable section

namespace Cert.DiffRef

open Cert.Reference6Ideal Cert.Reference6Ideal.Read
open Idealize.ShloMosaic Idealize.ShloMosaic.TcCoe
open Cert.Softmax

variable (P : FVec Ideal S4x2048x6144 .bf16) (T : FVec Ideal S16x2x256x256 .f32) (L : FVec Ideal S4x128 .f32) (G : FVec Ideal S256 .f32)

/-- The bias is laid out by blocks of 256 rows and 256 columns. -/
theorem split_at (h : Fin 8) (j : Fin 2) (n k : Fin 8) (r c : Fin 256) :
    val_main_v46 (F := Ideal) T (ix4 h j ⟨n.val * 256 + r.val, by omega⟩ ⟨k.val * 256 + c.val, by omega⟩)
      = val_main_v45 (F := Ideal) T (ix6 h j n r k c) := by
  unfold val_main_v46
  generalize val_main_v45 (F := Ideal) T = y
  pointwise []

theorem back_zero : ∀ n k : Fin 8, IntOp.cmpi .eq (IntOp.subi (BitVec.ofNat 32 n.val) (BitVec.ofNat 32 k.val)) 0#32
    = if k.val = n.val then 1#1 else 0#1 := by decide +kernel
theorem back_one : ∀ n k : Fin 8, IntOp.cmpi .eq (IntOp.subi (BitVec.ofNat 32 n.val) (BitVec.ofNat 32 k.val)) 1#32
    = if k.val + 1 = n.val then 1#1 else 0#1 := by decide +kernel
theorem back_more : ∀ n k : Fin 8, IntOp.cmpi .sgt (IntOp.subi (BitVec.ofNat 32 n.val) (BitVec.ofNat 32 k.val)) 1#32
    = if k.val + 1 < n.val then 1#1 else 0#1 := by decide +kernel

/-- Past the block before, the bias is nothing; on later blocks it is minus infinity. -/
theorem far_at (n k : Fin 8) : val_main_v43 (F := Ideal) (ix4 n 0 k 0) = if k.val + 1 < n.val then 0 else ⊥ := by
  have e : val_main_v43 (F := Ideal) (ix4 n 0 k 0)
      = Scalar.select (IntOp.cmpi .sgt (IntOp.subi (BitVec.ofNat 32 n.val) (BitVec.ofNat 32 k.val)) 1#32) (Ideal.ofBits .f32 0x00000000#32)
          (Ideal.ofBits .f32 0xFF800000#32) := by
    pointwise [val_main_v43, val_main_v42, val_main_call0_v0, val_main_call0_v1, val_main_v36, val_main_v35, val_main_v34, val_main_v33,
      val_main_v32, val_main_v31, val_main_v30, val_main_v41, val_main_c_3, val_main_cst_4, val_main_cst_5]
  rw [e, back_more, word_bot]
  split_ifs
  · exact Ideal.ofBits_zero .f32
  · rfl

/-- The bias of row `r` of block `n` against column `c` of block `k`. -/
def bias (h : Fin 8) (j : Fin 2) (n k : ℕ) (r c : Fin 256) : EReal :=
  if k = n then T (ix4 ⟨h.val * 2 + j.val, by omega⟩ 0 r c)
  else if k + 1 = n then T (ix4 ⟨h.val * 2 + j.val, by omega⟩ 1 r c)
  else if k + 1 < n then 0 else ⊥

theorem sel_at (h : Fin 8) (j : Fin 2) (n k : Fin 8) (r c : Fin 256) :
    val_main_v45 (F := Ideal) T (ix6 h j n r k c) = bias T h j n.val k.val r c := by
  have e : val_main_v45 (F := Ideal) T (ix6 h j n r k c)
      = Scalar.select (IntOp.cmpi .eq (IntOp.subi (BitVec.ofNat 32 n.val) (BitVec.ofNat 32 k.val)) 0#32)
          (T (ix4 ⟨h.val * 2 + j.val, by omega⟩ 0 r c))
          (Scalar.select (IntOp.cmpi .eq (IntOp.subi (BitVec.ofNat 32 n.val) (BitVec.ofNat 32 k.val)) 1#32)
            (T (ix4 ⟨h.val * 2 + j.val, by omega⟩ 1 r c)) (val_main_v43 (F := Ideal) (ix4 n 0 k 0))) := by
    pointwise [val_main_v45, val_main_call2_v0, val_main_call2_v1, val_main_v44, val_main_call1_v0, val_main_call1_v1, val_main_call1_v2,
      val_main_call1_v3, val_main_v40, val_main_v38, val_main_v36, val_main_v35, val_main_v34, val_main_v33, val_main_v32, val_main_v31,
      val_main_v30, val_main_v37, val_main_v39, val_main_c, val_main_c_2, val_main_v29, val_main_v28, val_main_v27, val_main_v26,
      val_main_v25, val_main_v24, val_main_v23]
    rfl
  rw [e, back_zero, back_one, far_at]
  unfold bias
  split_ifs <;> rfl

theorem bias_at (h : Fin 8) (j : Fin 2) (r c : Fin 2048) :
    val_main_v46 (F := Ideal) T (ix4 h j r c)
      = bias T h j (r.val / 256) (c.val / 256) ⟨r.val % 256, Nat.mod_lt _ (by norm_num)⟩ ⟨c.val % 256, Nat.mod_lt _ (by norm_num)⟩ := by
  have hr : r.val / 256 < 8 := by have := r.isLt; omega
  have hc : c.val / 256 < 8 := by have := c.isLt; omega
  refine Eq.trans (congrArg₂ (fun r c => val_main_v46 (F := Ideal) T (ix4 h j r c)) (Fin.ext ?_) (Fin.ext ?_))
    ((split_at T h j ⟨r.val / 256, hr⟩ ⟨c.val / 256, hc⟩ ⟨r.val % 256, Nat.mod_lt _ (by norm_num)⟩ ⟨c.val % 256, Nat.mod_lt _ (by norm_num)⟩).trans
      (sel_at T h j ⟨r.val / 256, hr⟩ ⟨c.val / 256, hc⟩ _ _))
  · show r.val = r.val / 256 * 256 + r.val % 256; omega
  · show c.val = c.val / 256 * 256 + c.val % 256; omega

theorem dot_at (b : Fin 4) (h : Fin 8) (j : Fin 2) (r c : Fin 2048) :
    val_main_v47 (F := Ideal) P (ix5 b h j r c)
      = ∑ d : Fin 128, P (ix3 b r ⟨h.val * 256 + j.val * 128 + d.val, by omega⟩)
          * P (ix3 b c ⟨2048 + (h.val * 256 + j.val * 128 + d.val), by omega⟩) := by
  pointwise [val_main_v47, val_main_v4, val_main_v5, val_main_v1, val_main_v2, val_main_v0]

end Cert.DiffRef

end
-- ==== Proof.DiffRef.lean ====
/- The reference's differential attention read at an index: the normed difference of two maps' softmaxes over the head's
   columns of the argument arrays. -/
module

public import proofs.«01_k».proof.Proof.DiffBias
public import proofs.«01_k».proof.Proof.Gen.Reference6Ideal
public import proofs.«01_k».proof.Proof.Gen.Reference6Ideal.Read

@[expose] public section

set_option maxRecDepth 16384

noncomputable section

namespace Cert.DiffRef

open Cert.Reference6Ideal Cert.Reference6Ideal.Read
open Idealize.ShloMosaic Idealize.ShloMosaic.TcCoe
open Cert.Softmax

variable (P : FVec Ideal S4x2048x6144 .bf16) (T : FVec Ideal S16x2x256x256 .f32) (L : FVec Ideal S4x128 .f32) (G : FVec Ideal S256 .f32)

theorem logit_at (b : Fin 4) (h : Fin 8) (j : Fin 2) (r c : Fin 2048) :
    val_main_v50 (F := Ideal) P T (ix5 b h j r c) = val_main_v47 (F := Ideal) P (ix5 b h j r c) + val_main_v46 (F := Ideal) T (ix4 h j r c) := by
  unfold val_main_v50 val_main_v49 val_main_v48
  generalize val_main_v47 (F := Ideal) P = y
  generalize val_main_v46 (F := Ideal) T = z
  pointwise []

theorem max_at (b : Fin 4) (h : Fin 8) (j : Fin 2) (r : Fin 2048) :
    val_main_v51 (F := Ideal) P T (ix4 b h j r) = Finset.univ.fold max ⊥ (fun c => val_main_v50 (F := Ideal) P T (ix5 b h j r c)) := by
  unfold val_main_v51 val_main_cst_6
  generalize val_main_v50 (F := Ideal) P T = y
  pointwise []
  rw [word_bot]

theorem weight_at (b : Fin 4) (h : Fin 8) (j : Fin 2) (r c : Fin 2048) :
    val_main_v56 (F := Ideal) P T (ix5 b h j r c)
      = Ideal.exp2 (val_main_v50 (F := Ideal) P T (ix5 b h j r c) - val_main_v51 (F := Ideal) P T (ix4 b h j r)) := by
  unfold val_main_v56 val_main_v55 val_main_v54 val_main_v53 val_main_v52 val_main_cst_7
  generalize val_main_v51 (F := Ideal) P T = t
  generalize val_main_v50 (F := Ideal) P T = y
  pointwise []
  rw [word_two, two_pow]

theorem quot_at (b : Fin 4) (h : Fin 8) (j : Fin 2) (r : Fin 2048) (d : Fin 256) :
    val_main_v61 (F := Ideal) P T (ix5 b h j r d)
      = Ideal.div (∑ c : Fin 2048, val_main_v56 (F := Ideal) P T (ix5 b h j r c) * P (ix3 b c ⟨4096 + (h.val * 256 + d.val), by omega⟩))
          (∑ c : Fin 2048, val_main_v56 (F := Ideal) P T (ix5 b h j r c)) := by
  unfold val_main_v61 val_main_v60 val_main_v59 val_main_v58 val_main_v57 val_main_cst_8
  generalize val_main_v56 (F := Ideal) P T = y
  pointwise [val_main_v6, val_main_v3, val_main_v0]

open Cert.Kernel6Ideal.Diff (normed laneK laneV score biased)

/-- What a head's second map is weighed by. -/
def weigh : EReal :=
  Ideal.exp (∑ e : Fin 128, L (ix2 0 e) * L (ix2 1 e)) - Ideal.exp (∑ e : Fin 128, L (ix2 2 e) * L (ix2 3 e)) + Ideal.ofBits .f32 0x3EB60549#32

theorem weigh_at : val_main_v22 (F := Ideal) L ix0 = weigh L := by
  pointwise [val_main_v22, val_main_v21, val_main_v20, val_main_v19, val_main_v18, val_main_v17, val_main_v16, val_main_v15, val_main_v14,
    val_main_v13, val_main_v12, val_main_v11, val_main_v10, val_main_v9, val_main_v8, val_main_v7, val_main_cst, val_main_cst_0, val_main_cst_1, weigh]

theorem first_at (b : Fin 4) (h : Fin 8) (r : Fin 2048) (d : Fin 256) :
    val_main_v63 (F := Ideal) P T (ix4 b h r d) = val_main_v61 (F := Ideal) P T (ix5 b h 0 r d) := by
  unfold val_main_v63 val_main_v62
  generalize val_main_v61 (F := Ideal) P T = o
  pointwise []

theorem second_at (b : Fin 4) (h : Fin 8) (r : Fin 2048) (d : Fin 256) :
    val_main_v65 (F := Ideal) P T (ix4 b h r d) = val_main_v61 (F := Ideal) P T (ix5 b h 1 r d) := by
  unfold val_main_v65 val_main_v64
  generalize val_main_v61 (F := Ideal) P T = o
  pointwise []

theorem diff_at (b : Fin 4) (h : Fin 8) (r : Fin 2048) (d : Fin 256) :
    val_main_v69 (F := Ideal) P T L (ix4 b r h d)
      = val_main_v61 (F := Ideal) P T (ix5 b h 0 r d) - weigh L * val_main_v61 (F := Ideal) P T (ix5 b h 1 r d) := by
  have e : idx_main_v69 (ix4 b r h d) = (ix4 b h r d : S4x8x2048x256.Idx) := funext fun a => by fin_cases a <;> rfl
  have e0 : idx_main_v66 (ix4 b h r d) = ix0 := funext fun a => a.elim0
  rw [val_main_v69_apply, e, val_main_v68_apply, val_main_v67_apply, val_main_v66_apply, e0, weigh_at, first_at, second_at]
  generalize val_main_v61 (F := Ideal) P T = o
  rfl

theorem square_at (b : Fin 4) (h : Fin 8) (r : Fin 2048) :
    val_main_v71 (F := Ideal) P T L (ix3 b r h)
      = ∑ e : Fin 256, val_main_v69 (F := Ideal) P T L (ix4 b r h e) * val_main_v69 (F := Ideal) P T L (ix4 b r h e) := by
  have e1 : ∀ k : Fin 256, idx_main_v71 (ix3 b r h) k = (ix4 b r h k : S4x2048x8x256.Idx) := fun k => funext fun a => by fin_cases a <;> rfl
  have e2 : (val_main_cst_9 (F := Ideal)) (Shape.Idx.first Cert.Reference6Ideal.Gen.h_S_) = (0 : EReal) := Ideal.ofBits_zero .f32
  have e3 : ∀ k : Fin 256, val_main_v70 (F := Ideal) P T L (idx_main_v71 (ix3 b r h) k)
      = val_main_v69 (F := Ideal) P T L (ix4 b r h k) * val_main_v69 (F := Ideal) P T L (ix4 b r h k) := fun k => by
    rw [e1, val_main_v70_apply]
    generalize val_main_v69 (F := Ideal) P T L = o
    rfl
  rw [val_main_v71_apply, e2, zero_add]
  exact Finset.sum_congr rfl fun k _ => e3 k

theorem root_at (b : Fin 4) (h : Fin 8) (r : Fin 2048) :
    val_main_v77 (F := Ideal) P T L (ix4 b r h 0)
      = Ideal.rsqrt (Ideal.div (val_main_v71 (F := Ideal) P T L (ix3 b r h)) (Ideal.ofBits .f32 0x43800000#32) + Ideal.ofBits .f32 0x3727C5AC#32) := by
  have e : idx_main_v72 (ix4 b r h 0) = (ix3 b r h : S4x2048x8.Idx) := funext fun a => by fin_cases a <;> rfl
  rw [val_main_v77_apply, val_main_v76_apply, val_main_v75_apply, val_main_cst_11_apply, val_main_v74_apply, val_main_v73_apply,
    val_main_cst_10_apply, val_main_v72_apply, e]
  generalize val_main_v71 (F := Ideal) P T L (ix3 b r h) = z
  rfl

theorem norm_at (b : Fin 4) (h : Fin 8) (r : Fin 2048) :
    val_main_v77 (F := Ideal) P T L (ix4 b r h 0)
      = Ideal.rsqrt (Ideal.div (∑ e : Fin 256, val_main_v69 (F := Ideal) P T L (ix4 b r h e) * val_main_v69 (F := Ideal) P T L (ix4 b r h e))
          (Ideal.ofBits .f32 0x43800000#32) + Ideal.ofBits .f32 0x3727C5AC#32) := by
  rw [root_at, square_at]

theorem gained_at (b : Fin 4) (h : Fin 8) (r : Fin 2048) (d : Fin 256) :
    val_main_v86 (F := Ideal) P T L G (ix3 b r ⟨h.val * 256 + d.val, by omega⟩)
      = val_main_v69 (F := Ideal) P T L (ix4 b r h d) * val_main_v77 (F := Ideal) P T L (ix4 b r h 0) * G (ix1 d) * Ideal.ofBits .f32 0x3F24FD5C#32 := by
  have e : idx_main_v85 (ix3 b r (⟨h.val * 256 + d.val, by omega⟩ : Fin 2048)) = (ix4 b r h d : S4x2048x8x256.Idx) := by
    have hb := b.isLt
    have hr := r.isLt
    have hh := h.isLt
    have hd := d.isLt
    refine funext fun a => Fin.ext ?_
    match a with
    | ⟨0, _⟩ => show ((b.val * 2048 + r.val) * 2048 + (h.val * 256 + d.val)) / 4194304 = b.val; omega
    | ⟨1, _⟩ => show ((b.val * 2048 + r.val) * 2048 + (h.val * 256 + d.val)) / 2048 % 2048 = r.val; omega
    | ⟨2, _⟩ => show ((b.val * 2048 + r.val) * 2048 + (h.val * 256 + d.val)) / 256 % 8 = h.val; omega
    | ⟨3, _⟩ => show ((b.val * 2048 + r.val) * 2048 + (h.val * 256 + d.val)) % 256 = d.val; omega
  have e1 : idx_main_v78 (ix4 b r h d) = (ix4 b r h 0 : S4x2048x8x1.Idx) := funext fun a => by fin_cases a <;> rfl
  have e2 : idx_main_v80 (idx_main_v81 (ix4 b r h d)) = (ix1 d : S256.Idx) := funext fun a => by fin_cases a; rfl
  rw [val_main_v86_apply, val_main_v85_apply, e, val_main_v84_apply, val_main_v83_apply, val_main_cst_12_apply, val_main_v82_apply,
    val_main_v81_apply, val_main_v80_apply, e2, val_main_v79_apply, val_main_v78_apply, e1]
  generalize val_main_v69 (F := Ideal) P T L = o
  generalize val_main_v77 (F := Ideal) P T L = w
  rfl

theorem result_at (b : Fin 4) (h : Fin 8) (r : Fin 2048) (d : Fin 256) :
    val_main_v86 (F := Ideal) P T L G (ix3 b r ⟨h.val * 256 + d.val, by omega⟩)
      = normed L (fun d => val_main_v61 (F := Ideal) P T (ix5 b h 0 r d)) (fun d => val_main_v61 (F := Ideal) P T (ix5 b h 1 r d)) (fun d => G (ix1 d)) d := by
  rw [gained_at, norm_at]
  simp only [diff_at]
  generalize val_main_v61 (F := Ideal) P T = o
  rfl

/-! ## The same, over the blocks of one head -/

/-- A map's quotient at row `r`, over any blocks that hold that map's queries and keys and the head's values. -/
theorem map_of_blocks (b : Fin 4) (h : Fin 8) (j : Fin 2) (xq xk : Vec Ideal Cert.Kernel6Ideal.S1x2048x128 .bf16)
    (xv : Vec Ideal Cert.Kernel6Ideal.S1x2048x256 .bf16) (near before : Vec Ideal Cert.Kernel6Ideal.S1x1x256x256 .f32)
    (hq : ∀ (r : Fin 2048) (d : Fin 128), xq (ix3 0 r d) = P (ix3 b r ⟨h.val * 256 + j.val * 128 + d.val, by omega⟩))
    (hk : ∀ (r : Fin 2048) (d : Fin 128), xk (ix3 0 r d) = P (ix3 b r ⟨2048 + (h.val * 256 + j.val * 128 + d.val), by omega⟩))
    (hv : ∀ (r : Fin 2048) (d : Fin 256), xv (ix3 0 r d) = P (ix3 b r ⟨4096 + (h.val * 256 + d.val), by omega⟩))
    (hn : ∀ r c : Fin 256, near (ix4 0 0 r c) = T (ix4 ⟨h.val * 2 + j.val, by omega⟩ 0 r c))
    (hb : ∀ r c : Fin 256, before (ix4 0 0 r c) = T (ix4 ⟨h.val * 2 + j.val, by omega⟩ 1 r c))
    (r : Fin 2048) (d : Fin 256) :
    val_main_v61 (F := Ideal) P T (ix5 b h j r d)
      = Ideal.div (mix (biased (fun r c => near (ix4 0 0 r c)) (fun r c => before (ix4 0 0 r c)) xq xk r.val) (fun c => laneV xv c d) 2048)
          (mass (biased (fun r c => near (ix4 0 0 r c)) (fun r c => before (ix4 0 0 r c)) xq xk r.val) 2048) := by
  have lane_of : ∀ (x : Vec Ideal Cert.Kernel6Ideal.S1x2048x128 .bf16) (r : Fin 2048) (d : Fin 128), laneK x r.val d = x (ix3 0 r d) :=
    fun x r d => by rw [laneK, dif_pos r.isLt]
  have value_of : ∀ (x : Vec Ideal Cert.Kernel6Ideal.S1x2048x256 .bf16) (r : Fin 2048) (d : Fin 256), laneV x r.val d = x (ix3 0 r d) :=
    fun x r d => by rw [laneV, dif_pos r.isLt]
  have hs : ∀ c : Fin 2048, biased (fun r c => near (ix4 0 0 r c)) (fun r c => before (ix4 0 0 r c)) xq xk r.val c.val
      = val_main_v50 (F := Ideal) P T (ix5 b h j r c) := fun c => by
    rw [logit_at, bias_at, dot_at]
    unfold biased bias score
    simp only [lane_of, hq, hk, hn, hb]
    generalize (∑ d : Fin 128, P (ix3 b r ⟨h.val * 256 + j.val * 128 + d.val, _⟩)
          * P (ix3 b c ⟨2048 + (h.val * 256 + j.val * 128 + d.val), _⟩)) = x
    by_cases h1 : r.val / 256 < c.val / 256
    · rw [if_pos h1, if_neg (by omega), if_neg (by omega), if_neg (by omega)]
      exact (EReal.add_bot x).symm
    · rw [if_neg h1]
      by_cases h2 : c.val / 256 = r.val / 256
      · rw [if_pos h2, if_pos h2]
      · rw [if_neg h2, if_neg h2]
        by_cases h3 : c.val / 256 + 1 = r.val / 256
        · rw [if_pos h3, if_pos h3]
        · rw [if_neg h3, if_neg h3, if_pos (by omega)]
          exact (add_zero x).symm
  have ht : val_main_v51 (F := Ideal) P T (ix4 b h j r) = top (biased (fun r c => near (ix4 0 0 r c)) (fun r c => before (ix4 0 0 r c)) xq xk r.val) 2048 := by
    rw [max_at, top_range]; simp only [hs]
  rw [quot_at, mix, mass, Finset.sum_range (n := 2048), Finset.sum_range (n := 2048)]
  simp only [weight_at, ht, hs, value_of, hv]

end Cert.DiffRef

end
-- ==== Proof.DiffValue.lean ====
/- The differential attention kernel's result array is the reference's result of the same arguments. -/
module

public import proofs.«01_k».proof.Proof.DiffFrame
public import proofs.«01_k».proof.Proof.DiffRef
public import Idealize.ShloMosaic.Lib.Pipeline.ValueKit
public import Idealize.ShloMosaic.Lib.Claim

@[expose] public section

set_option maxRecDepth 16384

noncomputable section

namespace Cert.Kernel6Ideal.Diff

open Cert.Kernel6Ideal Cert.Kernel6Ideal.Gen
open Idealize.ShloMosaic Idealize.ShloMosaic.TcCoe Idealize.SL.Sem
open Idealize.ShloMosaic.Pipeline (Dat)
open Cert.Softmax

variable (m : (ℓ : Loc nD τ sig) → Buf (Elt Ideal) ℓ)

theorem block_idx : ∀ t : Fin cfg0.N, win0_0.index t = ![t.val % 4, 0, t.val / 4 * 2] ∧ win0_1.index t = ![t.val % 4, 0, t.val / 4 * 2 + 1]
    ∧ win0_2.index t = ![t.val % 4, 0, 16 + t.val / 4 * 2] ∧ win0_3.index t = ![t.val % 4, 0, 16 + (t.val / 4 * 2 + 1)]
    ∧ win0_4.index t = ![t.val % 4, 0, 16 + t.val / 4] ∧ win0_5.index t = ![t.val / 4, 0, 0, 0]
    ∧ win0_6.index t = ![0, 0] ∧ win0_7.index t = ![0, 0]
    ∧ win0_8.index t = ![t.val % 4, 0, t.val / 4] ∧ t.val / 4 < 8 :=
  (by decide +kernel : ∀ t : Fin grid0.N, _)

/-- What the kernel stores at row `r`: the normed difference of the two maps' softmaxes. -/
abbrev ROW (x0 x1 x2 x3 : Vec Ideal S1x2048x128 .bf16) (x4 : Vec Ideal S1x2048x256 .bf16) (x5 : Vec Ideal S2x2x256x256 .f32)
    (lam : Vec Ideal S4x128 .f32) (x7 : Vec Ideal S1x256 .f32) (r : ℕ) (d : Fin 256) : EReal :=
  normed lam
    (fun d => Ideal.div
      (mix (biased (fun r c => bias00 x5 (ix4 0 0 r c)) (fun r c => bias01 x5 (ix4 0 0 r c)) x0 x2 r) (fun c => laneV x4 c d) 2048)
      (mass (biased (fun r c => bias00 x5 (ix4 0 0 r c)) (fun r c => bias01 x5 (ix4 0 0 r c)) x0 x2 r) 2048))
    (fun d => Ideal.div
      (mix (biased (fun r c => bias10 x5 (ix4 0 0 r c)) (fun r c => bias11 x5 (ix4 0 0 r c)) x1 x3 r) (fun c => laneV x4 c d) 2048)
      (mass (biased (fun r c => bias10 x5 (ix4 0 0 r c)) (fun r c => bias11 x5 (ix4 0 0 r c)) x1 x3 r) 2048))
    (fun d => gainOf x7 (ix2 0 d)) d

/-- A row of the output block is the row of the query block that holds it. -/
theorem outBlock_at (x0 x1 x2 x3 : Vec Ideal S1x2048x128 .bf16) (x4 : Vec Ideal S1x2048x256 .bf16) (x5 : Vec Ideal S2x2x256x256 .f32)
    (x6 : Vec Ideal S4x128 .f32) (x7 : Vec Ideal S1x256 .f32) (r : Fin 2048) (d : Fin 256) :
    outBlock (F := Ideal) x0 x1 x2 x3 x4 x5 x6 x7 (ix3 0 r d) = ROW x0 x1 x2 x3 x4 x5 (lamOf x6) x7 r.val d := by
  have key : ∀ n, n ≤ 8 → r.val < 256 * n → View.canon (pieces (F := Ideal) x0 x1 x2 x3 x4 x5 (lamOf x6) x7 n) (ix3 0 r d)
      = ROW x0 x1 x2 x3 x4 x5 (lamOf x6) x7 r.val d := by
    intro n
    induction n with
    | zero => intro _ h; omega
    | succ n ih =>
      intro hn hr
      have hk : n < k0_t1_loop.trips := by rw [trips1]; omega
      rw [pieces, dif_pos hk]
      by_cases h : r.val < 256 * n
      · rw [View.canon_cons_of_not_mem _ _ (by rw [mem_rowsOf]; show ¬(256 * n ≤ r.val ∧ r.val < 256 * n + 256); omega)]
        exact ih (by omega) h
      · have hq : r.val - 256 * n < 256 := by omega
        have e : (ix3 0 r d : S1x2048x256.Idx) = (rowsOf ⟨n, hk⟩).idx (ix3 0 (⟨r.val - 256 * n, hq⟩ : Fin 256) d : S1x256x256.Idx) := by
          refine funext fun a => Fin.ext ?_
          rw [Rect.idx_unit_val]
          refine Eq.trans ?_ (congrArg (· + _) (congrFun (k0_off8_eq ⟨n, hk⟩) a)).symm
          fin_cases a <;> simp [ix3]
          omega
        rw [e]
        refine (View.canon_cons_emb _ _ _ _).trans ?_
        refine (block_at x0 x1 x2 x3 x4 x5 (lamOf x6) x7 n (by omega) ⟨r.val - 256 * n, hq⟩ d).trans ?_
        unfold row ROW
        dsimp only
        rw [show 256 * n + (r.val - 256 * n) = r.val by omega]
  exact key 8 le_rfl (by have := r.isLt; omega)

theorem bias00_at (x : Vec Ideal S2x2x256x256 .f32) (r c : Fin 256) : bias00 x (ix4 0 0 r c) = x (ix4 0 0 r c) := by
  show x _ = _
  refine congrArg x (funext fun a => Fin.ext ?_)
  rw [Rect.idx_unit_val]
  fin_cases a <;> simp [ix4]
theorem bias01_at (x : Vec Ideal S2x2x256x256 .f32) (r c : Fin 256) : bias01 x (ix4 0 0 r c) = x (ix4 0 1 r c) := by
  show x _ = _
  refine congrArg x (funext fun a => Fin.ext ?_)
  rw [Rect.idx_unit_val]
  fin_cases a <;> simp [ix4]
theorem bias10_at (x : Vec Ideal S2x2x256x256 .f32) (r c : Fin 256) : bias10 x (ix4 0 0 r c) = x (ix4 1 0 r c) := by
  show x _ = _
  refine congrArg x (funext fun a => Fin.ext ?_)
  rw [Rect.idx_unit_val]
  fin_cases a <;> simp [ix4]
theorem bias11_at (x : Vec Ideal S2x2x256x256 .f32) (r c : Fin 256) : bias11 x (ix4 0 0 r c) = x (ix4 1 1 r c) := by
  show x _ = _
  refine congrArg x (funext fun a => Fin.ext ?_)
  rw [Rect.idx_unit_val]
  fin_cases a <;> simp [ix4]
theorem lamOf_at (x : Vec Ideal S4x128 .f32) (a : Fin 4) (e : Fin 128) : lamOf x (ix2 a e) = x (ix2 a e) := by
  show x _ = _
  refine congrArg x (funext fun a => Fin.ext ?_)
  rw [Rect.idx_unit_val]
  fin_cases a <;> simp [ix2]
theorem gainOf_at (x : Vec Ideal S1x256 .f32) (e : Fin 256) : gainOf x (ix2 0 e) = x (ix2 0 e) := by
  show x _ = _
  refine congrArg x (funext fun a => Fin.ext ?_)
  rw [Rect.idx_unit_val]
  fin_cases a <;> simp [ix2]

/-- The difference reads the four rows it is weighed by at their entries alone. -/
theorem normed_congr {l l' : Vec Ideal S4x128 .f32} (hl : ∀ (a : Fin 4) (e : Fin 128), l (ix2 a e) = l' (ix2 a e)) {o0 o0' o1 o1' g g' : Fin 256 → EReal}
    (h0 : ∀ d, o0 d = o0' d) (h1 : ∀ d, o1 d = o1' d) (hg : ∀ d, g d = g' d) (d : Fin 256) : normed l o0 o1 g d = normed l' o0' o1' g' d := by
  unfold normed
  simp only [hl, h0, h1, hg]

/-- The reference's result of the kernel's arguments. -/
abbrev RES (c : Dev nD) : FVec Ideal S4x2048x2048 .bf16 :=
  Cert.Reference6Ideal.Read.val_main_v86 (F := Ideal) (m ((c : Thread nD τ).loc main_arg0)) (m ((c : Thread nD τ).loc main_arg1))
    (m ((c : Thread nD τ).loc main_arg2)) (m ((c : Thread nD τ).loc main_arg3))

theorem final (c : Dev nD) : (dats m 0 c).arrAt 8 cfg0.N = RES m c := by
  refine (dats m 0 c).arrAt_eq_of_covers 8 _ (by decide +kernel) fun t _ y => ?_
  blk_simp
  rw [after_8]
  have hh : t.val / 4 < 8 := (block_idx t).2.2.2.2.2.2.2.2.2
  have hb : t.val % 4 < 4 := Nat.mod_lt _ (by norm_num)
  idx_vars y
  obtain rfl : y0 = 0 := Subsingleton.elim _ _
  have e : ((View.whole main_v1).slice (win0_8.rect t)).emb (ix3 0 y1 y2)
      = (ix3 (⟨t.val % 4, hb⟩ : Fin 4) y1 (⟨t.val / 4 * 256 + y2.val, by omega⟩ : Fin 2048) : S4x2048x2048.Idx) := by
    blk_ext [block_idx t]
  refine (outBlock_at _ _ _ _ _ _ _ _ y1 y2).trans ((congrArg (RES m c) e).trans ?_).symm
  refine (Cert.DiffRef.result_at _ _ _ _ ⟨t.val % 4, hb⟩ ⟨t.val / 4, hh⟩ y1 y2).trans ?_
  refine normed_congr (fun a e => (Eq.trans (lamOf_at _ a e) ?_).symm)
    (fun d => Cert.DiffRef.map_of_blocks _ _ ⟨t.val % 4, hb⟩ ⟨t.val / 4, hh⟩ 0 (iblk m c 0 t) (iblk m c 2 t) (iblk m c 4 t) _ _ ?_ ?_ ?_ ?_ ?_ y1 d)
    (fun d => Cert.DiffRef.map_of_blocks _ _ ⟨t.val % 4, hb⟩ ⟨t.val / 4, hh⟩ 1 (iblk m c 1 t) (iblk m c 3 t) (iblk m c 4 t) _ _ ?_ ?_ ?_ ?_ ?_ y1 d)
    (fun d => (Eq.trans (gainOf_at _ d) ?_).symm) y2
  · blk_ext [iblk, V, block_idx t]
  · intro r d; blk_ext [iblk, V, block_idx t]
  · intro r d; blk_ext [iblk, V, block_idx t]
  · intro r d; blk_ext [iblk, V, block_idx t]
  · intro r c; refine (bias00_at _ r c).trans ?_; blk_ext [iblk, V, block_idx t]
  · intro r c; refine (bias01_at _ r c).trans ?_; blk_ext [iblk, V, block_idx t]
  · intro r d; blk_ext [iblk, V, block_idx t]
  · intro r d; blk_ext [iblk, V, block_idx t]
  · intro r d; blk_ext [iblk, V, block_idx t]
  · intro r c; refine (bias10_at _ r c).trans ?_; blk_ext [iblk, V, block_idx t]
  · intro r c; refine (bias11_at _ r c).trans ?_; blk_ext [iblk, V, block_idx t]
  · blk_point [iblk, V, block_idx t]

/-- Every execution ends with the result array at the reference's result of the arguments, and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v1) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 8).trans (final m c), h.2.1 c⟩)
    (θ_run_and (run_frame m ρ) (frame m ρ))

end Cert.Kernel6Ideal.Diff

end
-- ==== Proof.AttnOut.lean ====
/- The residual product with its 2048 rows of weights: the result array is the reference's result of the same arguments. -/
module

public import proofs.«01_k».proof.Proof.Gen.Kernel7Ideal.Frame
public import proofs.«01_k».proof.Proof.Gen.Reference7Ideal
public import proofs.«01_k».proof.Proof.Gen.Reference7Ideal.Read
public import Idealize.ShloMosaic.Lib.Pointwise
public import Idealize.ShloMosaic.Lib.Pipeline.ValueKit

@[expose] public section

set_option maxRecDepth 16384

noncomputable section

namespace Cert.Kernel7Ideal.Product

open Cert.Kernel7Ideal Cert.Kernel7Ideal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at a grid point: 16 row blocks under each column block. -/
theorem block_idx : ∀ t : Fin cfg0.N, win0_0.index t = ![t.val % 16, 0] ∧ win0_1.index t = ![0, 0, t.val / 16]
    ∧ win0_2.index t = ![t.val % 16, t.val / 16] ∧ win0_3.index t = ![t.val % 16, t.val / 16] ∧ t.val / 16 < 2 :=
  (by decide +kernel : ∀ t : Fin grid0.N, _)

/-- The blocks a grid point is given: rows of the left factor, columns of the weights, of the residual. -/
abbrev rows (c : Dev nD) (t : Fin cfg0.N) : Vec Ideal S512x2048 .bf16 := iblk m c 0 t
abbrev cols (c : Dev nD) (t : Fin cfg0.N) : Vec Ideal S1x2048x1024 .f32 := iblk m c 1 t
abbrev held (c : Dev nD) (t : Fin cfg0.N) : Vec Ideal S512x1024 .f32 := iblk m c 2 t

/-- The columns of weights of one column block, as the kernel keeps them. -/
theorem weights_at (w : Vec Ideal S1x2048x1024 .f32) (k : Fin 2048) (j : Fin 1024) :
    k0_pay1 (F := Ideal) w (ix2 k j) = w (ix3 0 k j) := by
  pointwise [k0_pay1]

/-- Through all the row blocks of a column block the kept weights are that column block's. -/
theorem kept (c : Dev nD) : ∀ (n : ℕ) (h : n < cfg0.N) (k : Fin 2048) (j : Fin 1024),
    (outsAt0 m c n h).2 (ix2 k j) = cols m c ⟨n, h⟩ (ix3 0 k j) := by
  intro n
  induction n with
  | zero =>
    intro h k j
    rw [outsAt0_A m c ⟨0, h⟩ rfl]
    frame_out
    exact weights_at _ k j
  | succ n ih =>
    intro h k j
    by_cases h0 : (n + 1) % 16 = 0
    · rw [outsAt0_A m c ⟨n + 1, h⟩ h0]
      frame_out
      exact weights_at _ k j
    · rw [outsAt0_B m c ⟨n + 1, h⟩ h0]
      frame_out
      refine (ih (by omega) k j).trans ?_
      have e : n / 16 = (n + 1) / 16 := by omega
      have a := (block_idx ⟨n, by omega⟩).2.1
      have b := (block_idx ⟨n + 1, h⟩).2.1
      rw [← e] at b
      blk_ext [iblk, V, a, b]

/-- A row block of the product over the kept weights, added to the residual's block. -/
theorem product_at (x : Vec Ideal S512x2048 .bf16) (w : Vec Ideal S2048x1024 .bf16) (r : Vec Ideal S512x1024 .f32)
    (v : Vec Ideal S1x2048x1024 .f32) (i : Fin 512) (j : Fin 1024) (h : ∀ k : Fin 2048, w (ix2 k j) = v (ix3 0 k j)) :
    k0_pay2 (F := Ideal) x w r (ix2 i j) = r (ix2 i j) + ∑ k : Fin 2048, x (ix2 i k) * v (ix3 0 k j) := by
  pointwise [k0_pay2]
  simp only [h]

/-- What a grid point leaves in the output's block. -/
theorem block_at (c : Dev nD) (t : Fin cfg0.N) (i : Fin 512) (j : Fin 1024) :
    (outsAt0 m c t.val t.isLt).1 (ix2 i j)
      = held m c t (ix2 i j)
        + ∑ k : Fin 2048, rows m c t (ix2 i k) * cols m c t (ix3 0 k j) := by
  by_cases h0 : t.val % 16 = 0
  · rw [outsAt0_A m c t h0]
    frame_out
    exact product_at _ _ _ (cols m c t) i j fun k => weights_at _ k j
  · rw [outsAt0_B m c t h0]
    frame_out
    refine product_at _ _ _ (cols m c t) i j fun k => (congrFun (Memref.IsWhole.read_unread _ _) _).trans ((kept m c _ _ k j).trans ?_)
    have e : (t.val - 1) / 16 = t.val / 16 := by omega
    have a := (block_idx ⟨t.val - 1, by omega⟩).2.1
    have b := (block_idx t).2.1
    rw [← e] at b
    blk_ext [iblk, V, a, b]

/-- The reference's result of the kernel's arguments. -/
abbrev RES (c : Dev nD) : FVec Ideal S8192x2048 .f32 :=
  Cert.Reference7Ideal.Read.val_main_v4 (F := Ideal) (m ((c : Thread nD τ).loc main_arg0)) (m ((c : Thread nD τ).loc main_arg1))
    (m ((c : Thread nD τ).loc main_arg2))

open Cert.Reference7Ideal.Read in
theorem result_at (x : FVec Ideal S8192x2048 .bf16) (w : FVec Ideal S2x2048x2048 .f32) (r : FVec Ideal S8192x2048 .f32)
    (i : Fin 8192) (j : Fin 2048) :
    val_main_v4 (F := Ideal) x w r (ix2 i j) = r (ix2 i j) + ∑ k : Fin 2048, x (ix2 i k) * w (ix3 0 k j) := by
  pointwise [val_main_v4, val_main_v3, val_main_v2, val_main_v1, val_main_v0]

theorem final (c : Dev nD) : (dats m 0 c).arrAt 3 cfg0.N = RES m c := by
  refine (dats m 0 c).arrAt_eq_of_covers 3 _ (by decide +kernel) fun t _ y => ?_
  blk_simp
  rw [after0_3]
  have hc : t.val / 16 < 2 := (block_idx t).2.2.2.2
  idx_vars y
  have e : ((View.whole main_v0).slice (win0_3.rect t)).emb (ix2 y0 y1)
      = (ix2 (⟨t.val % 16 * 512 + y0.val, by omega⟩ : Fin 8192) (⟨t.val / 16 * 1024 + y1.val, by omega⟩ : Fin 2048) : S8192x2048.Idx) := by
    blk_ext [block_idx t]
  refine (block_at m c t y0 y1).trans ((congrArg (RES m c) e).trans ((result_at _ _ _ _ _).trans ?_)).symm
  refine congrArg₂ (· + ·) ?_ (Finset.sum_congr rfl fun k _ => congrArg₂ (· * ·) ?_ ?_)
  all_goals blk_ext [iblk, V, block_idx t]

/-- Every execution ends with the result array at the reference's result of the arguments, and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m c), h.2 c⟩)
    (θ_run_and (run_main m ρ) (unchanged m ρ))

end Cert.Kernel7Ideal.Product

end
-- ==== Proof.Rms.lean ====
/- The root-mean-square normalisation: the result array is the reference's result of the same arguments. -/
module

public import proofs.«01_k».proof.Proof.Gen.Kernel8Ideal.Frame
public import proofs.«01_k».proof.Proof.Gen.Reference8Ideal
public import proofs.«01_k».proof.Proof.Gen.Reference8Ideal.Read
public import Idealize.ShloMosaic.Lib.Claim
public import Idealize.ShloMosaic.Lib.Pointwise
public import Idealize.ShloMosaic.Lib.Pipeline.ValueKit

@[expose] public section

set_option maxRecDepth 16384

noncomputable section

namespace Cert.Kernel8Ideal.Norm

open Cert.Kernel8Ideal Cert.Kernel8Ideal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at a grid point: 16 row blocks, the gain whole. -/
theorem block_idx : ∀ t : Fin cfg0.N, win0_0.index t = ![t.val, 0] ∧ win0_1.index t = ![0, 0] ∧ win0_2.index t = ![t.val, 0] ∧ t.val < 16 :=
  (by decide +kernel : ∀ t : Fin grid0.N, _)

/-- One row of values over the root of their mean square. -/
def normed (f : Fin 2048 → EReal) (k : Fin 2048) : EReal :=
  f k * Ideal.rsqrt (Ideal.div (∑ x, f x * f x) (Ideal.ofBits .f32 0x45000000#32) + Ideal.ofBits .f32 0x358637BD#32)

/-- The rows a grid point is given, and the gain. -/
abbrev rows (c : Dev nD) (t : Fin cfg0.N) : Vec Ideal S512x2048 .f32 := iblk m c 0 t
abbrev gain (c : Dev nD) (t : Fin cfg0.N) : Vec Ideal S1x2048 .f32 := iblk m c 1 t

theorem payload_at (x : Vec Ideal S512x2048 .f32) (g : Vec Ideal S1x2048 .f32) (i : Fin 512) (j : Fin 2048) :
    k0_pay1 (F := Ideal) x g (ix2 i j) = normed (fun l => x (ix2 i l)) j * g (ix2 0 j) := by
  pointwise [k0_pay1]
  rfl

open Cert.Reference8Ideal.Read in
theorem result_at (x : FVec Ideal S8192x2048 .f32) (g : FVec Ideal S2048 .f32) (i : Fin 8192) (j : Fin 2048) :
    val_main_v13 (F := Ideal) x g (ix2 i j) = normed (fun l => x (ix2 i l)) j * g (ix1 j) := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem gain_at (c : Dev nD) (t : Fin cfg0.N) (j : Fin 2048) :
    gain m c t (ix2 0 j) = (m ((c : Thread nD τ).loc main_arg1) : FVec Ideal S2048 .f32) (ix1 j) := by
  blk_point [iblk, V, block_idx t]

/-- The reference's result of the kernel's arguments. -/
abbrev RES (c : Dev nD) : FVec Ideal S8192x2048 .bf16 :=
  Cert.Reference8Ideal.Read.val_main_v13 (F := Ideal) (m ((c : Thread nD τ).loc main_arg0)) (m ((c : Thread nD τ).loc main_arg1))

theorem final (c : Dev nD) : (dats m 0 c).arrAt 2 cfg0.N = RES m c := by
  refine (dats m 0 c).arrAt_eq_of_covers 2 _ (by decide +kernel) fun t _ y => ?_
  blk_simp
  rw [after0_2]
  frame_out
  have hc : t.val < 16 := (block_idx t).2.2.2
  idx_vars y
  have e : ((View.whole main_v1).slice (win0_2.rect t)).emb (ix2 y0 y1)
      = (ix2 (⟨t.val * 512 + y0.val, by omega⟩ : Fin 8192) y1 : S8192x2048.Idx) := by
    blk_ext [block_idx t]
  refine (payload_at (rows m c t) (gain m c t) y0 y1).trans ?_
  refine ((congrArg (RES m c) e).trans ((result_at _ _ _ _).trans ?_)).symm
  refine congrArg₂ (· * ·) (congrArg (normed · y1) (funext fun l => ?_)) (gain_at m c t y1).symm
  blk_ext [iblk, V, block_idx t]

/-- Every execution ends with the result array at the reference's result of the arguments, and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v1) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c), h.2 c⟩)
    (θ_run_and (run_main m ρ) (unchanged m ρ))

end Cert.Kernel8Ideal.Norm

end
-- ==== Proof.BiasTiles.lean ====
/- The table of position biases: the result array is the reference's result of the same argument. -/
module

public import proofs.«01_k».proof.Proof.Gen.Kernel9Ideal.Frame
public import proofs.«01_k».proof.Proof.Gen.Reference9Ideal
public import proofs.«01_k».proof.Proof.Gen.Reference9Ideal.Read
public import proofs.«01_k».proof.Proof.Softmax
public import Idealize.ShloMosaic.Lib.Claim
public import Idealize.ShloMosaic.Lib.Pointwise
public import Idealize.ShloMosaic.Lib.WholeRead
public import Idealize.ShloMosaic.Lib.Pipeline.ValueKit

@[expose] public section

set_option maxRecDepth 16384

noncomputable section

namespace Cert.Kernel9Ideal.Tiles

open Cert.Kernel9Ideal Cert.Kernel9Ideal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at a grid point: the table whole, the two tiles of one map. -/
theorem block_idx : ∀ t : Fin cfg0.N, win0_0.index t = ![0, 0] ∧ win0_1.index t = ![t.val, 0, 0, 0] ∧ t.val < 16 :=
  (by decide +kernel : ∀ t : Fin grid0.N, _)

/-! ## Choosing an entry -/

/-- The entries tried one after the other: the last one whose number is the word is kept. -/
def pick (w : BitVec 32) (f : ℕ → EReal) : ℕ → EReal
  | 0 => Ideal.ofBits .f32 0x00000000#32
  | n + 1 => Scalar.select (IntOp.cmpi .eq w (BitVec.ofNat 32 n)) (f n) (pick w f n)

theorem eq_word (w v : BitVec 32) (a b : EReal) : Scalar.select (IntOp.cmpi .eq w v) a b = if w = v then a else b := by
  by_cases h : w = v
  · rw [if_pos h]
    exact if_pos (by simp [IntOp.cmpi, h])
  · rw [if_neg h]
    have hb : (w == v) = false := beq_eq_false_iff_ne.mpr h
    exact if_neg (by simp [IntOp.cmpi, hb])

/-- Trying the first entries one after the other adds up the entries whose number is the word: there is at most one. -/
theorem pick_sum (w : BitVec 32) (f : ℕ → EReal) : ∀ n : ℕ, n ≤ 32 →
    pick w f n = ∑ k ∈ Finset.range n, if w = BitVec.ofNat 32 k then f k else 0 := by
  intro n
  induction n with
  | zero => intro _; exact Ideal.ofBits_zero .f32
  | succ n ih =>
    intro h
    rw [Finset.sum_range_succ, ← ih (by omega)]
    refine (eq_word _ _ _ _).trans ?_
    by_cases e : w = BitVec.ofNat 32 n
    · rw [if_pos e, if_pos e, ih (by omega), Finset.sum_eq_zero, zero_add]
      intro k hk
      have hk := Finset.mem_range.mp hk
      refine if_neg fun e' => ?_
      have := congrArg BitVec.toNat (e.symm.trans e')
      rw [BitVec.toNat_ofNat, BitVec.toNat_ofNat, Nat.mod_eq_of_lt (by omega), Nat.mod_eq_of_lt (by omega)] at this
      omega
    · rw [if_neg e, if_neg e, add_zero]

/-! ## Reading the table -/

theorem point_at (off : Fin 2 → ℕ) (inb : ∀ a, off a + S1x1.size a ≤ S32x16.size a) (h1 : 0 < (Rect.unit (s := S32x16) off S1x1.size inb).shape.numel)
    (n : Fin 32) (j : Fin 16) (e : off = ![n.val, j.val]) :
    (Rect.unit (s := S32x16) off S1x1.size inb).toLoadRect.idx (Shape.Idx.first h1) = ix2 n j := by
  subst e
  funext a
  refine Fin.ext ?_
  fin_cases a <;> rfl

theorem load_at (M : Memref sig .tc .smem S32x16 .f32) (hM : M.IsWhole) (x : Vec Ideal S32x16 .f32) (off : Fin 2 → ℕ)
    (inb : ∀ a, off a + S1x1.size a ≤ S32x16.size a) (h1 : 0 < (Rect.unit (s := S32x16) off S1x1.size inb).shape.numel)
    (n : Fin 32) (j : Fin 16) (e : off = ![n.val, j.val]) :
    View.readAt (Elt Ideal) M.view (Rect.unit (s := S32x16) off S1x1.size inb).toLoadRect (hM.unread x) (Shape.Idx.first h1) = x (ix2 n j) :=
  (hM.readAt_unread x _ _).trans (congrArg x (point_at off inb h1 n j e))

theorem off1 : ∀ t : Fin cfg0.N, k0_off1 (grid0.coords t) = ![0, t.val] := (by decide +kernel : ∀ t : Fin grid0.N, _)
theorem off2 : ∀ t : Fin cfg0.N, k0_off2 (grid0.coords t) = ![1, t.val] := (by decide +kernel : ∀ t : Fin grid0.N, _)
theorem off3 : ∀ t : Fin cfg0.N, k0_off3 (grid0.coords t) = ![2, t.val] := (by decide +kernel : ∀ t : Fin grid0.N, _)
theorem off4 : ∀ t : Fin cfg0.N, k0_off4 (grid0.coords t) = ![3, t.val] := (by decide +kernel : ∀ t : Fin grid0.N, _)
theorem off5 : ∀ t : Fin cfg0.N, k0_off5 (grid0.coords t) = ![4, t.val] := (by decide +kernel : ∀ t : Fin grid0.N, _)
theorem off6 : ∀ t : Fin cfg0.N, k0_off6 (grid0.coords t) = ![5, t.val] := (by decide +kernel : ∀ t : Fin grid0.N, _)
theorem off7 : ∀ t : Fin cfg0.N, k0_off7 (grid0.coords t) = ![6, t.val] := (by decide +kernel : ∀ t : Fin grid0.N, _)
theorem off8 : ∀ t : Fin cfg0.N, k0_off8 (grid0.coords t) = ![7, t.val] := (by decide +kernel : ∀ t : Fin grid0.N, _)
theorem off9 : ∀ t : Fin cfg0.N, k0_off9 (grid0.coords t) = ![8, t.val] := (by decide +kernel : ∀ t : Fin grid0.N, _)
theorem off10 : ∀ t : Fin cfg0.N, k0_off10 (grid0.coords t) = ![9, t.val] := (by decide +kernel : ∀ t : Fin grid0.N, _)
theorem off11 : ∀ t : Fin cfg0.N, k0_off11 (grid0.coords t) = ![10, t.val] := (by decide +kernel : ∀ t : Fin grid0.N, _)
theorem off12 : ∀ t : Fin cfg0.N, k0_off12 (grid0.coords t) = ![11, t.val] := (by decide +kernel : ∀ t : Fin grid0.N, _)
theorem off13 : ∀ t : Fin cfg0.N, k0_off13 (grid0.coords t) = ![12, t.val] := (by decide +kernel : ∀ t : Fin grid0.N, _)
theorem off14 : ∀ t : Fin cfg0.N, k0_off14 (grid0.coords t) = ![13, t.val] := (by decide +kernel : ∀ t : Fin grid0.N, _)
theorem off15 : ∀ t : Fin cfg0.N, k0_off15 (grid0.coords t) = ![14, t.val] := (by decide +kernel : ∀ t : Fin grid0.N, _)
theorem off16 : ∀ t : Fin cfg0.N, k0_off16 (grid0.coords t) = ![15, t.val] := (by decide +kernel : ∀ t : Fin grid0.N, _)
theorem off17 : ∀ t : Fin cfg0.N, k0_off17 (grid0.coords t) = ![16, t.val] := (by decide +kernel : ∀ t : Fin grid0.N, _)
theorem off18 : ∀ t : Fin cfg0.N, k0_off18 (grid0.coords t) = ![17, t.val] := (by decide +kernel : ∀ t : Fin grid0.N, _)
theorem off19 : ∀ t : Fin cfg0.N, k0_off19 (grid0.coords t) = ![18, t.val] := (by decide +kernel : ∀ t : Fin grid0.N, _)
theorem off20 : ∀ t : Fin cfg0.N, k0_off20 (grid0.coords t) = ![19, t.val] := (by decide +kernel : ∀ t : Fin grid0.N, _)
theorem off21 : ∀ t : Fin cfg0.N, k0_off21 (grid0.coords t) = ![20, t.val] := (by decide +kernel : ∀ t : Fin grid0.N, _)
theorem off22 : ∀ t : Fin cfg0.N, k0_off22 (grid0.coords t) = ![21, t.val] := (by decide +kernel : ∀ t : Fin grid0.N, _)
theorem off23 : ∀ t : Fin cfg0.N, k0_off23 (grid0.coords t) = ![22, t.val] := (by decide +kernel : ∀ t : Fin grid0.N, _)
theorem off24 : ∀ t : Fin cfg0.N, k0_off24 (grid0.coords t) = ![23, t.val] := (by decide +kernel : ∀ t : Fin grid0.N, _)
theorem off25 : ∀ t : Fin cfg0.N, k0_off25 (grid0.coords t) = ![24, t.val] := (by decide +kernel : ∀ t : Fin grid0.N, _)
theorem off26 : ∀ t : Fin cfg0.N, k0_off26 (grid0.coords t) = ![25, t.val] := (by decide +kernel : ∀ t : Fin grid0.N, _)
theorem off27 : ∀ t : Fin cfg0.N, k0_off27 (grid0.coords t) = ![26, t.val] := (by decide +kernel : ∀ t : Fin grid0.N, _)
theorem off28 : ∀ t : Fin cfg0.N, k0_off28 (grid0.coords t) = ![27, t.val] := (by decide +kernel : ∀ t : Fin grid0.N, _)
theorem off29 : ∀ t : Fin cfg0.N, k0_off29 (grid0.coords t) = ![28, t.val] := (by decide +kernel : ∀ t : Fin grid0.N, _)
theorem off30 : ∀ t : Fin cfg0.N, k0_off30 (grid0.coords t) = ![29, t.val] := (by decide +kernel : ∀ t : Fin grid0.N, _)
theorem off31 : ∀ t : Fin cfg0.N, k0_off31 (grid0.coords t) = ![30, t.val] := (by decide +kernel : ∀ t : Fin grid0.N, _)
theorem off32 : ∀ t : Fin cfg0.N, k0_off32 (grid0.coords t) = ![31, t.val] := (by decide +kernel : ∀ t : Fin grid0.N, _)

section Reads

variable (c : Dev nD) (t : Fin cfg0.N) (j : Fin 16) (hj : t.val = j.val) (M : Memref sig .tc .smem S32x16 .f32) (hM : M.IsWhole) (x : Vec Ideal S32x16 .f32)
include hj

theorem r_at : kernelRun0_A.sl.r (F := Ideal) c (grid0.coords t) M hM x = x (ix2 0 j) :=
  load_at M hM x _ _ _ 0 j ((off1 t).trans (by rw [hj]; rfl))
theorem r_1_at : kernelRun0_A.sl.r_1 (F := Ideal) c (grid0.coords t) M hM x = x (ix2 1 j) :=
  load_at M hM x _ _ _ 1 j ((off2 t).trans (by rw [hj]; rfl))
theorem r_2_at : kernelRun0_A.sl.r_2 (F := Ideal) c (grid0.coords t) M hM x = x (ix2 2 j) :=
  load_at M hM x _ _ _ 2 j ((off3 t).trans (by rw [hj]; rfl))
theorem r_5_at : kernelRun0_A.sl.r_5 (F := Ideal) c (grid0.coords t) M hM x = x (ix2 3 j) :=
  load_at M hM x _ _ _ 3 j ((off4 t).trans (by rw [hj]; rfl))
theorem r_6_at : kernelRun0_A.sl.r_6 (F := Ideal) c (grid0.coords t) M hM x = x (ix2 4 j) :=
  load_at M hM x _ _ _ 4 j ((off5 t).trans (by rw [hj]; rfl))
theorem r_7_at : kernelRun0_A.sl.r_7 (F := Ideal) c (grid0.coords t) M hM x = x (ix2 5 j) :=
  load_at M hM x _ _ _ 5 j ((off6 t).trans (by rw [hj]; rfl))
theorem r_8_at : kernelRun0_A.sl.r_8 (F := Ideal) c (grid0.coords t) M hM x = x (ix2 6 j) :=
  load_at M hM x _ _ _ 6 j ((off7 t).trans (by rw [hj]; rfl))
theorem r_9_at : kernelRun0_A.sl.r_9 (F := Ideal) c (grid0.coords t) M hM x = x (ix2 7 j) :=
  load_at M hM x _ _ _ 7 j ((off8 t).trans (by rw [hj]; rfl))
theorem r_10_at : kernelRun0_A.sl.r_10 (F := Ideal) c (grid0.coords t) M hM x = x (ix2 8 j) :=
  load_at M hM x _ _ _ 8 j ((off9 t).trans (by rw [hj]; rfl))
theorem r_11_at : kernelRun0_A.sl.r_11 (F := Ideal) c (grid0.coords t) M hM x = x (ix2 9 j) :=
  load_at M hM x _ _ _ 9 j ((off10 t).trans (by rw [hj]; rfl))
theorem r_14_at : kernelRun0_A.sl.r_14 (F := Ideal) c (grid0.coords t) M hM x = x (ix2 10 j) :=
  load_at M hM x _ _ _ 10 j ((off11 t).trans (by rw [hj]; rfl))
theorem r_15_at : kernelRun0_A.sl.r_15 (F := Ideal) c (grid0.coords t) M hM x = x (ix2 11 j) :=
  load_at M hM x _ _ _ 11 j ((off12 t).trans (by rw [hj]; rfl))
theorem r_16_at : kernelRun0_A.sl.r_16 (F := Ideal) c (grid0.coords t) M hM x = x (ix2 12 j) :=
  load_at M hM x _ _ _ 12 j ((off13 t).trans (by rw [hj]; rfl))
theorem r_17_at : kernelRun0_A.sl.r_17 (F := Ideal) c (grid0.coords t) M hM x = x (ix2 13 j) :=
  load_at M hM x _ _ _ 13 j ((off14 t).trans (by rw [hj]; rfl))
theorem r_18_at : kernelRun0_A.sl.r_18 (F := Ideal) c (grid0.coords t) M hM x = x (ix2 14 j) :=
  load_at M hM x _ _ _ 14 j ((off15 t).trans (by rw [hj]; rfl))
theorem r_19_at : kernelRun0_A.sl.r_19 (F := Ideal) c (grid0.coords t) M hM x = x (ix2 15 j) :=
  load_at M hM x _ _ _ 15 j ((off16 t).trans (by rw [hj]; rfl))
theorem r_20_at : kernelRun0_A.sl.r_20 (F := Ideal) c (grid0.coords t) M hM x = x (ix2 16 j) :=
  load_at M hM x _ _ _ 16 j ((off17 t).trans (by rw [hj]; rfl))
theorem r_21_at : kernelRun0_A.sl.r_21 (F := Ideal) c (grid0.coords t) M hM x = x (ix2 17 j) :=
  load_at M hM x _ _ _ 17 j ((off18 t).trans (by rw [hj]; rfl))
theorem r_25_at : kernelRun0_A.sl.r_25 (F := Ideal) c (grid0.coords t) M hM x = x (ix2 18 j) :=
  load_at M hM x _ _ _ 18 j ((off19 t).trans (by rw [hj]; rfl))
theorem r_26_at : kernelRun0_A.sl.r_26 (F := Ideal) c (grid0.coords t) M hM x = x (ix2 19 j) :=
  load_at M hM x _ _ _ 19 j ((off20 t).trans (by rw [hj]; rfl))
theorem r_27_at : kernelRun0_A.sl.r_27 (F := Ideal) c (grid0.coords t) M hM x = x (ix2 20 j) :=
  load_at M hM x _ _ _ 20 j ((off21 t).trans (by rw [hj]; rfl))
theorem r_28_at : kernelRun0_A.sl.r_28 (F := Ideal) c (grid0.coords t) M hM x = x (ix2 21 j) :=
  load_at M hM x _ _ _ 21 j ((off22 t).trans (by rw [hj]; rfl))
theorem r_29_at : kernelRun0_A.sl.r_29 (F := Ideal) c (grid0.coords t) M hM x = x (ix2 22 j) :=
  load_at M hM x _ _ _ 22 j ((off23 t).trans (by rw [hj]; rfl))
theorem r_30_at : kernelRun0_A.sl.r_30 (F := Ideal) c (grid0.coords t) M hM x = x (ix2 23 j) :=
  load_at M hM x _ _ _ 23 j ((off24 t).trans (by rw [hj]; rfl))
theorem r_31_at : kernelRun0_A.sl.r_31 (F := Ideal) c (grid0.coords t) M hM x = x (ix2 24 j) :=
  load_at M hM x _ _ _ 24 j ((off25 t).trans (by rw [hj]; rfl))
theorem r_34_at : kernelRun0_A.sl.r_34 (F := Ideal) c (grid0.coords t) M hM x = x (ix2 25 j) :=
  load_at M hM x _ _ _ 25 j ((off26 t).trans (by rw [hj]; rfl))
theorem r_35_at : kernelRun0_A.sl.r_35 (F := Ideal) c (grid0.coords t) M hM x = x (ix2 26 j) :=
  load_at M hM x _ _ _ 26 j ((off27 t).trans (by rw [hj]; rfl))
theorem r_36_at : kernelRun0_A.sl.r_36 (F := Ideal) c (grid0.coords t) M hM x = x (ix2 27 j) :=
  load_at M hM x _ _ _ 27 j ((off28 t).trans (by rw [hj]; rfl))
theorem r_37_at : kernelRun0_A.sl.r_37 (F := Ideal) c (grid0.coords t) M hM x = x (ix2 28 j) :=
  load_at M hM x _ _ _ 28 j ((off29 t).trans (by rw [hj]; rfl))
theorem r_38_at : kernelRun0_A.sl.r_38 (F := Ideal) c (grid0.coords t) M hM x = x (ix2 29 j) :=
  load_at M hM x _ _ _ 29 j ((off30 t).trans (by rw [hj]; rfl))
theorem r_39_at : kernelRun0_A.sl.r_39 (F := Ideal) c (grid0.coords t) M hM x = x (ix2 30 j) :=
  load_at M hM x _ _ _ 30 j ((off31 t).trans (by rw [hj]; rfl))
theorem r_40_at : kernelRun0_A.sl.r_40 (F := Ideal) c (grid0.coords t) M hM x = x (ix2 31 j) :=
  load_at M hM x _ _ _ 31 j ((off32 t).trans (by rw [hj]; rfl))
theorem r_49_at : kernelRun0_A.sl.r_49 (F := Ideal) c (grid0.coords t) M hM x = x (ix2 31 j) :=
  load_at M hM x _ _ _ 31 j ((off32 t).trans (by rw [hj]; rfl))

/-- The entries of one map, by number. -/
abbrev entry (x : Vec Ideal S32x16 .f32) (j : Fin 16) (n : ℕ) : EReal := x (ix2 (Fin.ofNat 32 n) j)

/-- The tile within a block, before its scale: the entry of the bucket, off the last entry. -/
theorem near_at (y : S256x256.Idx) :
    kernelRun0_A.sl.r_41 (F := Ideal) c (grid0.coords t) M hM x y = pick (k0_pay2 (F := Ideal) y) (entry x j) 32 - entry x j 31 := by
  unfold kernelRun0_A.sl.r_41 kernelRun0_A.sl.r_32 kernelRun0_A.sl.r_33 kernelRun0_A.sl.r_22 kernelRun0_A.sl.r_23 kernelRun0_A.sl.r_24
    kernelRun0_A.sl.r_12 kernelRun0_A.sl.r_13 kernelRun0_A.sl.r_3 kernelRun0_A.sl.r_4
  simp only [r_at c t j hj M hM x, r_1_at c t j hj M hM x, r_2_at c t j hj M hM x, r_5_at c t j hj M hM x, r_6_at c t j hj M hM x, r_7_at c t j hj M hM x, r_8_at c t j hj M hM x, r_9_at c t j hj M hM x, r_10_at c t j hj M hM x, r_11_at c t j hj M hM x, r_14_at c t j hj M hM x, r_15_at c t j hj M hM x, r_16_at c t j hj M hM x, r_17_at c t j hj M hM x, r_18_at c t j hj M hM x, r_19_at c t j hj M hM x, r_20_at c t j hj M hM x, r_21_at c t j hj M hM x, r_25_at c t j hj M hM x, r_26_at c t j hj M hM x, r_27_at c t j hj M hM x, r_28_at c t j hj M hM x, r_29_at c t j hj M hM x, r_30_at c t j hj M hM x, r_31_at c t j hj M hM x, r_34_at c t j hj M hM x, r_35_at c t j hj M hM x, r_36_at c t j hj M hM x, r_37_at c t j hj M hM x, r_38_at c t j hj M hM x, r_39_at c t j hj M hM x, r_40_at c t j hj M hM x, r_49_at c t j hj M hM x]
  unfold k0_pay3 k0_pay4
  generalize k0_pay2 (F := Ideal) = w
  rfl

/-- The tile from a block to the one before, likewise. -/
theorem far_at (y : S256x256.Idx) :
    Scalar.select (kernelRun0_A.sl.r_48 (F := Ideal) y) (kernelRun0_A.sl.r_49 (F := Ideal) c (grid0.coords t) M hM x) (kernelRun0_A.sl.r_47 (F := Ideal) c (grid0.coords t) M hM x y)
      = pick (k0_pay16 (F := Ideal) kernelRun0_A.sl.v0 kernelRun0_A.sl.v1 y) (entry x j) 32 := by
  unfold kernelRun0_A.sl.r_48 kernelRun0_A.sl.r_47 kernelRun0_A.sl.r_46 kernelRun0_A.sl.r_45 kernelRun0_A.sl.r_44 kernelRun0_A.sl.r_43 kernelRun0_A.sl.r_42
  simp only [r_at c t j hj M hM x, r_1_at c t j hj M hM x, r_2_at c t j hj M hM x, r_5_at c t j hj M hM x, r_6_at c t j hj M hM x, r_7_at c t j hj M hM x, r_8_at c t j hj M hM x, r_9_at c t j hj M hM x, r_10_at c t j hj M hM x, r_11_at c t j hj M hM x, r_14_at c t j hj M hM x, r_15_at c t j hj M hM x, r_16_at c t j hj M hM x, r_17_at c t j hj M hM x, r_18_at c t j hj M hM x, r_19_at c t j hj M hM x, r_20_at c t j hj M hM x, r_21_at c t j hj M hM x, r_25_at c t j hj M hM x, r_26_at c t j hj M hM x, r_27_at c t j hj M hM x, r_28_at c t j hj M hM x, r_29_at c t j hj M hM x, r_30_at c t j hj M hM x, r_31_at c t j hj M hM x, r_34_at c t j hj M hM x, r_35_at c t j hj M hM x, r_36_at c t j hj M hM x, r_37_at c t j hj M hM x, r_38_at c t j hj M hM x, r_39_at c t j hj M hM x, r_40_at c t j hj M hM x, r_49_at c t j hj M hM x]
  unfold k0_pay17 k0_pay18
  generalize k0_pay16 (F := Ideal) kernelRun0_A.sl.v0 kernelRun0_A.sl.v1 = w
  rfl

end Reads

/-! ## The bucket of a distance -/

/-- The bucket of a distance: the distance itself below 16, then logarithmic, at most 31. -/
def bucket (d : BitVec 32) : BitVec 32 :=
  Scalar.select (IntOp.cmpi .slt (IntOp.maxsi d 0#32) 16#32) (IntOp.maxsi d 0#32)
    (IntOp.minsi (IntOp.addi 16#32 (FloatOps.fptosi (F := Ideal) (φ := .f32) 32
      (Ideal.div (Ideal.log (Ideal.div (FloatOps.sitofp (F := Ideal) .f32 (IntOp.maxsi (IntOp.maxsi d 0#32) 1#32)) (Ideal.ofBits .f32 0x41800000#32)))
        (Ideal.ofBits .f32 0x40051592#32) * Ideal.ofBits .f32 0x41800000#32))) 31#32)

/-- The distance from a row to a column of tile `T`. -/
abbrev dist (T : BitVec 32) (r c : Fin 256) : BitVec 32 := IntOp.addi (IntOp.subi (BitVec.ofNat 32 r.val) (BitVec.ofNat 32 c.val)) T

theorem near_bucket (r c : Fin 256) : k0_pay2 (F := Ideal) (ix2 r c) = bucket (dist 0#32 r c) := by
  unfold bucket dist
  pointwise [k0_pay2]

theorem far_at_words (v0 v1 : IVec S256x256 32) (y : S256x256.Idx) :
    k0_pay16 (F := Ideal) v0 v1 y = bucket (IntOp.addi (IntOp.subi (v0 y) (v1 y)) 256#32) := by
  unfold bucket
  pointwise [k0_pay16]

theorem v0_at (r k : Fin 256) : kernelRun0_A.sl.v0 (ix2 r k) = BitVec.ofNat 32 r.val := by
  unfold kernelRun0_A.sl.v0
  pointwise []

theorem v1_at (r k : Fin 256) : kernelRun0_A.sl.v1 (ix2 r k) = BitVec.ofNat 32 k.val := by
  unfold kernelRun0_A.sl.v1
  pointwise []

theorem far_bucket (r c : Fin 256) :
    k0_pay16 (F := Ideal) kernelRun0_A.sl.v0 kernelRun0_A.sl.v1 (ix2 r c) = bucket (dist 256#32 r c) := by
  rw [far_at_words, v0_at, v1_at]

/-- The scale of the tiles, and their value past the diagonal. -/
theorem near_payload (v0 v1 : IVec S256x256 32) (a : FVec Ideal S256x256 .f32) (r c : Fin 256) :
    k0_pay15 (F := Ideal) v0 v1 a (k0_pay14 (F := Ideal)) (ix4 0 0 r c)
      = Scalar.select (IntOp.cmpi .sle (v1 (ix2 r c)) (v0 (ix2 r c))) (a (ix2 r c) * (((Real.log 2)⁻¹ : ℝ) : EReal)) ⊥ := by
  pointwise [k0_pay15, k0_pay14]
  rw [IdealRules.named_const.ideal_named_scalar _ _ _ _ rfl, IdealRules.named_const.ideal_named_scalar _ _ _ _ rfl]

theorem far_payload (a : FVec Ideal S256x256 .f32) (b : IVec S256x256 1) (u v : EReal) (r c : Fin 256) :
    k0_pay1 (F := Ideal) a b u v (ix4 0 0 r c)
      = (Scalar.select (b (ix2 r c)) u (a (ix2 r c)) - v) * (((Real.log 2)⁻¹ : ℝ) : EReal) := by
  pointwise [k0_pay1]
  rw [IdealRules.named_const.ideal_named_scalar _ _ _ _ rfl]

/-- Multiplying by the reciprocal of the logarithm of 2 is dividing by the logarithm of 2. -/
theorem quotient (x : EReal) : Ideal.div x (Ideal.log (Ideal.ofBits .f32 0x40000000#32)) = x * (((Real.log 2)⁻¹ : ℝ) : EReal) := by
  rw [Cert.Softmax.word_two]
  have hl : Ideal.log ((2 : ℝ) : EReal) = ((Real.log 2 : ℝ) : EReal) := if_neg (by norm_num)
  rw [hl, Ideal.div_coe (Real.log_pos (by norm_num)).ne', one_div]

/-- A distance within a block is not negative exactly when the column is not past the row. -/
theorem near_sign (r c : Fin 256) : IntOp.cmpi .sge (dist 0#32 r c) 0#32 = if c.val ≤ r.val then 1#1 else 0#1 := by
  have hr := r.isLt
  have hc := c.isLt
  have e : (0#32).sle (dist 0#32 r c) = decide (c.val ≤ r.val) := by
    rw [BitVec.sle_eq_decide]
    refine decide_eq_decide.mpr ?_
    simp only [dist, IntOp.addi, IntOp.subi]
    rw [BitVec.add_zero, BitVec.toInt_eq_toNat_cond (x := _ - _), BitVec.toNat_sub, BitVec.toNat_ofNat, BitVec.toNat_ofNat]
    simp only [BitVec.toInt_zero]
    split <;> omega
  show BitVec.ofBool ((0#32).sle (dist 0#32 r c)) = _
  rw [e]
  by_cases h : c.val ≤ r.val <;> simp [h]

/-- A distance to the block before is not negative. -/
theorem far_sign (r c : Fin 256) : IntOp.cmpi .sge (dist 256#32 r c) 0#32 = 1#1 := by
  have hr := r.isLt
  have hc := c.isLt
  have e : (0#32).sle (dist 256#32 r c) = true := by
    rw [BitVec.sle_eq_decide]
    refine decide_eq_true ?_
    simp only [dist, IntOp.addi, IntOp.subi]
    rw [BitVec.toInt_eq_toNat_cond (x := _ + _), BitVec.toNat_add, BitVec.toNat_sub, BitVec.toNat_ofNat, BitVec.toNat_ofNat, BitVec.toNat_ofNat]
    simp only [BitVec.toInt_zero]
    split <;> omega
  show BitVec.ofBool ((0#32).sle (dist 256#32 r c)) = _
  rw [e]
  rfl

/-! ## The reference -/

section Reference

open Cert.Reference9Ideal Cert.Reference9Ideal.Gen Cert.Reference9Ideal.Read

/-- The distances of the reference's tiles. -/
theorem ref_dist (T : Fin 2) (r c : Fin 256) :
    val_main_v12 (F := Ideal) (ix3 T r c) = dist (IntOp.muli 256#32 (BitVec.ofNat 32 T.val)) r c := by
  pointwise [val_main_v12, val_main_v11, val_main_v10, val_main_v9, val_main_v8, val_main_c, val_main_v7, val_main_v6, val_main_v5, val_main_v4,
    val_main_v3, val_main_v2, val_main_v1, val_main_v0]

/-- The buckets of the reference's tiles. -/
theorem ref_bucket (T : Fin 2) (r c : Fin 256) :
    val_main_v32 (F := Ideal) (ix3 T r c) = bucket (dist (IntOp.muli 256#32 (BitVec.ofNat 32 T.val)) r c) := by
  rw [← ref_dist]
  unfold bucket val_main_v32 val_main_v31 val_main_v30 val_main_v29 val_main_v28 val_main_v27 val_main_v26 val_main_v25 val_main_v24 val_main_v23
    val_main_v22 val_main_v21 val_main_v20 val_main_v19 val_main_v18 val_main_v17 val_main_v16 val_main_v15 val_main_v14 val_main_v13
    val_main_c_0 val_main_c_1 val_main_c_4 val_main_c_5 val_main_c_6 val_main_cst val_main_cst_2 val_main_cst_3
  generalize val_main_v12 (F := Ideal) = w
  pointwise []

/-- The reference's table, with the maps first. -/
theorem ref_entry (x : FVec Ideal S32x8x2 .f32) (h : Fin 16) (n : Fin 32) :
    val_main_v34 (F := Ideal) x (ix2 h n) = val_main_v33 (F := Ideal) x (ix2 n h) := by
  rw [val_main_v34_apply]
  refine congrArg _ (funext fun a => ?_)
  fin_cases a <;> rfl

/-- What the reference adds up for one entry. -/
theorem ref_term (x : FVec Ideal S32x8x2 .f32) (h : Fin 16) (T : Fin 2) (r c : Fin 256) (n : Fin 32) :
    val_main_v42 (F := Ideal) x (idx_main_v43 (ix4 h T r c) n)
      = if val_main_v32 (F := Ideal) (ix3 T r c) = BitVec.ofNat 32 n.val then val_main_v33 (F := Ideal) x (ix2 n h) else 0 := by
  rw [val_main_v42_apply, val_main_call1_v1_apply, val_main_call1_v2_apply, val_main_call1_v3_apply, val_main_v40_apply, val_main_v38_apply,
    val_main_v39_apply, val_main_v35_apply, val_main_v37_apply, val_main_v36_apply, val_main_v41_apply, val_main_call1_v0_apply, val_main_cst_7_apply]
  have e1 : idx_main_v35 (idx_main_v38 (idx_main_call1_v1 (idx_main_v43 (ix4 h T r c) n))) = ix3 T r c := by
    funext a; fin_cases a <;> rfl
  have e2 : idx_main_v41 (idx_main_call1_v2 (idx_main_v43 (ix4 h T r c) n)) = ix2 h n := by
    funext a; fin_cases a <;> rfl
  rw [e1, e2, ref_entry]
  generalize val_main_v32 (F := Ideal) (ix3 T r c) = w
  generalize val_main_v33 (F := Ideal) x (ix2 n h) = z
  exact (eq_word _ _ _ _).trans (congrArg (ite _ z) (Ideal.ofBits_zero .f32))

/-- The reference's entry of a bucket. -/
theorem ref_sum (x : FVec Ideal S32x8x2 .f32) (h : Fin 16) (T : Fin 2) (r c : Fin 256) :
    val_main_v43 (F := Ideal) x (ix4 h T r c) = pick (val_main_v32 (F := Ideal) (ix3 T r c)) (entry (val_main_v33 (F := Ideal) x) h) 32 := by
  rw [val_main_v43_apply, val_main_cst_8_apply, pick_sum _ _ 32 le_rfl, Finset.sum_range]
  refine (congrArg₂ (· + ·) (Ideal.ofBits_zero .f32) (Finset.sum_congr rfl fun n _ => ?_)).trans (zero_add _)
  refine (ref_term x h T r c n).trans ?_
  have e : (Fin.ofNat 32 n.val : Fin 32) = n := Fin.ext (Nat.mod_eq_of_lt n.isLt)
  show _ = ite _ (val_main_v33 (F := Ideal) x (ix2 (Fin.ofNat 32 n.val) h)) 0
  rw [e]

/-- The reference's last entry. -/
theorem ref_last (x : FVec Ideal S32x8x2 .f32) (h : Fin 16) (T : Fin 2) (r c : Fin 256) :
    val_main_v47 (F := Ideal) x (ix4 h T r c) = entry (val_main_v33 (F := Ideal) x) h 31 := by
  rw [val_main_v47_apply, val_main_v46_apply, val_main_v45_apply, val_main_v44_apply]
  have e : idx_main_v44 (idx_main_v45 (idx_main_v46 (idx_main_v47 (ix4 h T r c)))) = ix2 h 31 := by
    funext a
    refine Fin.ext ?_
    fin_cases a
    · show h.val / 1 = h.val; omega
    · rfl
  rw [e, ref_entry]
  rfl

/-- One entry of the reference's result. -/
theorem result_at (x : FVec Ideal S32x8x2 .f32) (h : Fin 16) (T : Fin 2) (r c : Fin 256) :
    val_main_v54 (F := Ideal) x (ix4 h T r c)
      = Scalar.select (IntOp.cmpi .sge (dist (IntOp.muli 256#32 (BitVec.ofNat 32 T.val)) r c) 0#32)
        ((pick (bucket (dist (IntOp.muli 256#32 (BitVec.ofNat 32 T.val)) r c)) (entry (val_main_v33 (F := Ideal) x) h) 32
          - entry (val_main_v33 (F := Ideal) x) h 31) * (((Real.log 2)⁻¹ : ℝ) : EReal)) ⊥ := by
  have hv : val_main_v51 (F := Ideal) x (ix4 h T r c)
      = (pick (bucket (dist (IntOp.muli 256#32 (BitVec.ofNat 32 T.val)) r c)) (entry (val_main_v33 (F := Ideal) x) h) 32
          - entry (val_main_v33 (F := Ideal) x) h 31) * (((Real.log 2)⁻¹ : ℝ) : EReal) := by
    rw [val_main_v51_apply, val_main_v48_apply, ref_sum, ref_last, val_main_v50_apply, val_main_v49_apply, val_main_cst_9_apply, ref_bucket]
    exact quotient _
  rw [← hv, ← ref_dist]
  unfold val_main_v54
  generalize val_main_v51 (F := Ideal) x = z
  unfold val_main_call2_v1 val_main_call2_v2 val_main_call2_v0 val_main_v53 val_main_v52 val_main_c_10 val_main_cst_11
  generalize val_main_v12 (F := Ideal) = w
  pointwise []
  exact congrArg (Scalar.select _ _) Cert.Softmax.word_bot

end Reference

/-! ## The kernel's tiles -/

/-- The table a grid point is given is the whole table, its maps beside one another. -/
theorem table_at (c : Dev nD) (t : Fin cfg0.N) (n : Fin 32) (j : Fin 16) :
    (iblk m c 0 t : Vec Ideal S32x16 .f32) (ix2 n j)
      = Cert.Reference9Ideal.Read.val_main_v33 (F := Ideal) (m ((c : Thread nD τ).loc main_arg0)) (ix2 n j) := by
  unfold Cert.Reference9Ideal.Read.val_main_v33
  blk_ext [iblk, V, block_idx t]

/-- The two tiles a grid point writes. -/
theorem block_near (c : Dev nD) (t : Fin cfg0.N) (r k : Fin 256) :
    outsAt0 m c t (ix4 0 0 r k)
      = k0_pay15 (F := Ideal) kernelRun0_A.sl.v0 kernelRun0_A.sl.v1
          (kernelRun0_A.sl.r_41 c (grid0.coords t) (ms0_0 t) (hs0_0 t) (iblk m c 0 t)) (k0_pay14 (F := Ideal)) (ix4 0 0 r k) := by
  unfold outsAt0 out0_A_1
  refine (View.read_writes_junk_apply_eq_canon VO0_1 _ _).trans ?_
  dsimp only [kernelRun0_A]
  refine (View.canon_cons_of_not_mem _ _ (Rect.not_mem_set_of_axis _ _ 1 1 1 rfl rfl rfl (Or.inl Nat.one_pos))).trans ?_
  have e : (ix4 0 0 r k : S1x2x256x256.Idx)
      = (Rect.unit (s := S1x2x256x256) ![0, 0, 0, 0] ![1, 1, 256, 256] inb_S1x2x256x256_S1x1x256x256_0_0_0_0).emb (ix4 0 0 r k) := by
    funext a
    refine Fin.ext ?_
    fin_cases a
    · rfl
    · rfl
    · show r.val = 0 + 1 * r.val; omega
    · show k.val = 0 + 1 * k.val; omega
  exact (congrArg (View.canon _) e).trans (View.canon_cons_emb _ _ _ _)

theorem block_far (c : Dev nD) (t : Fin cfg0.N) (r k : Fin 256) :
    outsAt0 m c t (ix4 0 1 r k)
      = k0_pay1 (F := Ideal) (kernelRun0_A.sl.r_47 c (grid0.coords t) (ms0_0 t) (hs0_0 t) (iblk m c 0 t)) (kernelRun0_A.sl.r_48 (F := Ideal))
          (kernelRun0_A.sl.r_49 c (grid0.coords t) (ms0_0 t) (hs0_0 t) (iblk m c 0 t))
          (kernelRun0_A.sl.r_49 c (grid0.coords t) (ms0_0 t) (hs0_0 t) (iblk m c 0 t)) (ix4 0 0 r k) := by
  unfold outsAt0 out0_A_1
  refine (View.read_writes_junk_apply_eq_canon VO0_1 _ _).trans ?_
  dsimp only [kernelRun0_A]
  have e : (ix4 0 1 r k : S1x2x256x256.Idx)
      = (Rect.unit (s := S1x2x256x256) ![0, 1, 0, 0] ![1, 1, 256, 256] inb_S1x2x256x256_S1x1x256x256_0_1_0_0).emb (ix4 0 0 r k) := by
    funext a
    refine Fin.ext ?_
    fin_cases a
    · rfl
    · rfl
    · show r.val = 0 + 1 * r.val; omega
    · show k.val = 0 + 1 * k.val; omega
  exact (congrArg (View.canon _) e).trans (View.canon_cons_emb _ _ _ _)

/-- The reference's result of the kernel's argument. -/
abbrev RES (c : Dev nD) : FVec Ideal S16x2x256x256 .f32 :=
  Cert.Reference9Ideal.Read.val_main_v54 (F := Ideal) (m ((c : Thread nD τ).loc main_arg0))

theorem near_value (c : Dev nD) (t : Fin cfg0.N) (h : Fin 16) (ht : t.val = h.val) (r k : Fin 256) :
    outsAt0 m c t (ix4 0 0 r k) = RES m c (ix4 h 0 r k) := by
  rw [block_near, near_payload, near_at c t h ht, near_bucket, v0_at, v1_at]
  refine Eq.trans ?_ (result_at _ h 0 r k).symm
  have w : IntOp.muli 256#32 (BitVec.ofNat 32 (0 : Fin 2).val) = 0#32 := rfl
  have f : entry (iblk m c 0 t) h = entry (Cert.Reference9Ideal.Read.val_main_v33 (F := Ideal) (m ((c : Thread nD τ).loc main_arg0))) h :=
    funext fun n => table_at m c t (Fin.ofNat 32 n) h
  rw [w, near_sign, f, WordCmp.cmpi_sle_ofNat (by have := k.isLt; omega) (by have := r.isLt; omega)]
  by_cases hk : k.val ≤ r.val
  · rw [if_pos hk, decide_eq_true hk]
    rfl
  · rw [if_neg hk, decide_eq_false hk]
    rfl

theorem far_value (c : Dev nD) (t : Fin cfg0.N) (h : Fin 16) (ht : t.val = h.val) (r k : Fin 256) :
    outsAt0 m c t (ix4 0 1 r k) = RES m c (ix4 h 1 r k) := by
  rw [block_far, far_payload, far_at c t h ht, far_bucket, r_49_at c t h ht]
  refine Eq.trans ?_ (result_at _ h 1 r k).symm
  have w : IntOp.muli 256#32 (BitVec.ofNat 32 (1 : Fin 2).val) = 256#32 := rfl
  have f : entry (iblk m c 0 t) h = entry (Cert.Reference9Ideal.Read.val_main_v33 (F := Ideal) (m ((c : Thread nD τ).loc main_arg0))) h :=
    funext fun n => table_at m c t (Fin.ofNat 32 n) h
  rw [w, far_sign, ← f]
  rfl

theorem final (c : Dev nD) : (dats m 0 c).arrAt 1 cfg0.N = RES m c := by
  refine (dats m 0 c).arrAt_eq_of_covers 1 _ (by decide +kernel) fun t _ y => ?_
  blk_simp
  rw [after0_1]
  have hc : t.val < 16 := (block_idx t).2.2
  idx_vars y
  have e : ((View.whole main_v1).slice (win0_1.rect t)).emb (ix4 y0 y1 y2 y3)
      = (ix4 (⟨t.val, hc⟩ : Fin 16) y1 y2 y3 : S16x2x256x256.Idx) := by
    blk_ext [block_idx t]
  refine Eq.trans ?_ (congrArg (RES m c) e).symm
  have h0 : y0 = 0 := Subsingleton.elim _ _
  subst h0
  fin_cases y1
  · exact near_value m c t ⟨t.val, hc⟩ rfl y2 y3
  · exact far_value m c t ⟨t.val, hc⟩ rfl y2 y3

/-- Every execution ends with the result array at the reference's result of the argument, and the argument unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v1) = RES m c
      ∧ r.2.mem ((c.tc : Thread nD τ).loc main_arg0) = m ((c.tc : Thread nD τ).loc main_arg0)) :=
  (θ_run defs _ _).mono (fun r h c => ⟨((h.1 c).1 1).trans (final m c), h.2 c⟩) (θ_run_and (run_main m ρ) (unchanged m ρ))

end Cert.Kernel9Ideal.Tiles

end
-- ==== Proof.lean ====
/- The claim's proof, assembled from its modules. -/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.FoxValue
public import proofs.«01_k».proof.Proof.FoxFrame
public import proofs.«01_k».proof.Proof.FoxPlainFrame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.FfnIn
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.FfnOut
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.FoxProj
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.DiffProj
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.DiffValue
public import proofs.«01_k».proof.Proof.DiffFrame
public import proofs.«01_k».proof.Proof.DiffPlainFrame
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.AttnOut
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Rms
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.BiasTiles

@[expose] public section

noncomputable section

open Idealize.ShloMosaic Idealize.ShloMosaic.TcCoe Idealize.SL.Sem

namespace Cert.Proof

/-- The attention kernel's reference: its run leaves its arguments unchanged, its counters (it has none) at zero. -/
theorem fox_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention kernel and its reference end with equal results. -/
theorem fox_algebraic : Cert.algebraic_KernelIdeal_ReferenceIdeal (hKernelIdeal := Cert.KernelIdeal.Gen.facts)
    (hReferenceIdeal := Cert.ReferenceIdeal.Gen.facts) := fun m ρ m' ρ' _ hargs =>
  ⟨Cert.KernelIdeal.Fox.RES m, Cert.KernelIdeal.Fox.run_value m ρ,
    (θ_run Cert.ReferenceIdeal.defs _ _).mono (fun r h c => ⟨by
        rw [(h c).1, Cert.ReferenceIdeal.Read.val_main_v38_eq, (hargs c).1, (hargs c).2.1, (hargs c).2.2], (h c).2⟩)
      (Cert.ReferenceIdeal.Value.run (F := Ideal) m' ρ')⟩

/-- The feed-forward layer's first half's reference: its run leaves its arguments unchanged, its counters (it has none) at zero. -/
theorem ffn_in_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward layer's first half and its reference end with equal results. -/
theorem ffn_in_algebraic : Cert.algebraic_Kernel2Ideal_Reference2Ideal (hKernel2Ideal := Cert.Kernel2Ideal.Gen.facts)
    (hReference2Ideal := Cert.Reference2Ideal.Gen.facts) := fun m ρ m' ρ' _ hargs =>
  ⟨Cert.Kernel2Ideal.Gated.RES m, Cert.Kernel2Ideal.Gated.run_value m ρ,
    (θ_run Cert.Reference2Ideal.defs _ _).mono (fun r h c => ⟨by
        rw [(h c).1, Cert.Reference2Ideal.Read.val_main_v44_eq, (hargs c).1, (hargs c).2.1, (hargs c).2.2.1, (hargs c).2.2.2], (h c).2⟩)
      (Cert.Reference2Ideal.Value.run (F := Ideal) m' ρ')⟩

/-- The feed-forward layer's second half's reference: its run leaves its arguments unchanged, its counters (it has none) at zero. -/
theorem ffn_out_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The feed-forward layer's second half and its reference end with equal results. -/
theorem ffn_out_algebraic : Cert.algebraic_Kernel3Ideal_Reference3Ideal (hKernel3Ideal := Cert.Kernel3Ideal.Gen.facts)
    (hReference3Ideal := Cert.Reference3Ideal.Gen.facts) := fun m ρ m' ρ' _ hargs =>
  ⟨Cert.Kernel3Ideal.Product.RES m, Cert.Kernel3Ideal.Product.run_value m ρ,
    (θ_run Cert.Reference3Ideal.defs _ _).mono (fun r h c => ⟨by
        rw [(h c).1, Cert.Reference3Ideal.Read.val_main_v4_eq, (hargs c).1, (hargs c).2.1, (hargs c).2.2], (h c).2⟩)
      (Cert.Reference3Ideal.Value.run (F := Ideal) m' ρ')⟩

/-- The attention's projection's reference: its run leaves its arguments unchanged, its counters (it has none) at zero. -/
theorem fox_proj_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The attention's projection and its reference end with equal results. -/
theorem fox_proj_algebraic : Cert.algebraic_Kernel4Ideal_Reference4Ideal (hKernel4Ideal := Cert.Kernel4Ideal.Gen.facts)
    (hReference4Ideal := Cert.Reference4Ideal.Gen.facts) := fun m ρ m' ρ' _ hargs =>
  ⟨Cert.Kernel4Ideal.Heads.RES m, Cert.Kernel4Ideal.Heads.run_value m ρ,
    (θ_run Cert.Reference4Ideal.defs _ _).mono (fun r h c => ⟨by
        rw [(h c).1, Cert.Reference4Ideal.Read.val_main_v56_eq, (hargs c).1, (hargs c).2.1, (hargs c).2.2], (h c).2⟩)
      (Cert.Reference4Ideal.Value.run (F := Ideal) m' ρ')⟩

/-- The differential attention's projection's reference: its run leaves its arguments unchanged, its counters (it has none) at zero. -/
theorem diff_proj_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The differential attention's projection and its reference end with equal results. -/
theorem diff_proj_algebraic : Cert.algebraic_Kernel5Ideal_Reference5Ideal (hKernel5Ideal := Cert.Kernel5Ideal.Gen.facts)
    (hReference5Ideal := Cert.Reference5Ideal.Gen.facts) := fun m ρ m' ρ' _ hargs =>
  ⟨Cert.Kernel5Ideal.Projection.RES m, Cert.Kernel5Ideal.Projection.run_value m ρ,
    (θ_run Cert.Reference5Ideal.defs _ _).mono (fun r h c => ⟨by
        rw [(h c).1, Cert.Reference5Ideal.Read.val_main_v14_eq, (hargs c).1, (hargs c).2], (h c).2⟩)
      (Cert.Reference5Ideal.Value.run (F := Ideal) m' ρ')⟩

/-- The differential attention's reference: its run leaves its arguments unchanged, its counters (it has none) at zero. -/
theorem diff_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The differential attention and its reference end with equal results. -/
theorem diff_algebraic : Cert.algebraic_Kernel6Ideal_Reference6Ideal (hKernel6Ideal := Cert.Kernel6Ideal.Gen.facts)
    (hReference6Ideal := Cert.Reference6Ideal.Gen.facts) := fun m ρ m' ρ' _ hargs =>
  ⟨Cert.Kernel6Ideal.Diff.RES m, Cert.Kernel6Ideal.Diff.run_value m ρ,
    (θ_run Cert.Reference6Ideal.defs _ _).mono (fun r h c => ⟨by
        rw [(h c).1, Cert.Reference6Ideal.Read.val_main_v86_eq, (hargs c).1, (hargs c).2.1, (hargs c).2.2.1, (hargs c).2.2.2], (h c).2⟩)
      (Cert.Reference6Ideal.Value.run (F := Ideal) m' ρ')⟩

/-- The attention's output projection's reference: its run leaves its arguments unchanged, its counters (it has none) at zero. -/
theorem attn_out_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The attention's output projection and its reference end with equal results. -/
theorem attn_out_algebraic : Cert.algebraic_Kernel7Ideal_Reference7Ideal (hKernel7Ideal := Cert.Kernel7Ideal.Gen.facts)
    (hReference7Ideal := Cert.Reference7Ideal.Gen.facts) := fun m ρ m' ρ' _ hargs =>
  ⟨Cert.Kernel7Ideal.Product.RES m, Cert.Kernel7Ideal.Product.run_value m ρ,
    (θ_run Cert.Reference7Ideal.defs _ _).mono (fun r h c => ⟨by
        rw [(h c).1, Cert.Reference7Ideal.Read.val_main_v4_eq, (hargs c).1, (hargs c).2.1, (hargs c).2.2], (h c).2⟩)
      (Cert.Reference7Ideal.Value.run (F := Ideal) m' ρ')⟩

/-- The normalization's reference: its run leaves its arguments unchanged, its counters (it has none) at zero. -/
theorem rms_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The normalization and its reference end with equal results. -/
theorem rms_algebraic : Cert.algebraic_Kernel8Ideal_Reference8Ideal (hKernel8Ideal := Cert.Kernel8Ideal.Gen.facts)
    (hReference8Ideal := Cert.Reference8Ideal.Gen.facts) := fun m ρ m' ρ' _ hargs =>
  ⟨Cert.Kernel8Ideal.Norm.RES m, Cert.Kernel8Ideal.Norm.run_value m ρ,
    (θ_run Cert.Reference8Ideal.defs _ _).mono (fun r h c => ⟨by
        rw [(h c).1, Cert.Reference8Ideal.Read.val_main_v13_eq, (hargs c).1, (hargs c).2], (h c).2⟩)
      (Cert.Reference8Ideal.Value.run (F := Ideal) m' ρ')⟩

/-- The table of position biases's reference: its run leaves its arguments unchanged, its counters (it has none) at zero. -/
theorem bias_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The table of position biases and its reference end with equal results. -/
theorem bias_algebraic : Cert.algebraic_Kernel9Ideal_Reference9Ideal (hKernel9Ideal := Cert.Kernel9Ideal.Gen.facts)
    (hReference9Ideal := Cert.Reference9Ideal.Gen.facts) := fun m ρ m' ρ' _ hargs =>
  ⟨Cert.Kernel9Ideal.Tiles.RES m, Cert.Kernel9Ideal.Tiles.run_value m ρ,
    (θ_run Cert.Reference9Ideal.defs _ _).mono (fun r h c => ⟨by
        rw [(h c).1, Cert.Reference9Ideal.Read.val_main_v54_eq, (hargs c)], (h c).2⟩)
      (Cert.Reference9Ideal.Value.run (F := Ideal) m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    fun m ρ _ => Cert.Kernel.Fox.frame m ρ, fun m ρ _ => Cert.KernelIdeal.Fox.frame m ρ, fox_reference,
    fun m ρ _ => Cert.Kernel2.Gen.frame m ρ, fun m ρ _ => Cert.Kernel2Ideal.Gen.frame m ρ, ffn_in_reference,
    fun m ρ _ => Cert.Kernel3.Gen.frame m ρ, fun m ρ _ => Cert.Kernel3Ideal.Gen.frame m ρ, ffn_out_reference,
    fun m ρ _ => Cert.Kernel4.Gen.frame m ρ, fun m ρ _ => Cert.Kernel4Ideal.Gen.frame m ρ, fox_proj_reference,
    fun m ρ _ => Cert.Kernel5.Gen.frame m ρ, fun m ρ _ => Cert.Kernel5Ideal.Gen.frame m ρ, diff_proj_reference,
    fun m ρ _ => Cert.Kernel6.Diff.frame m ρ, fun m ρ _ => Cert.Kernel6Ideal.Diff.frame m ρ, diff_reference,
    fun m ρ _ => Cert.Kernel7.Gen.frame m ρ, fun m ρ _ => Cert.Kernel7Ideal.Gen.frame m ρ, attn_out_reference,
    fun m ρ _ => Cert.Kernel8.Gen.frame m ρ, fun m ρ _ => Cert.Kernel8Ideal.Gen.frame m ρ, rms_reference,
    fun m ρ _ => Cert.Kernel9.Gen.frame m ρ, fun m ρ _ => Cert.Kernel9Ideal.Gen.frame m ρ, bias_reference,
    IdealRules.named_const.statement Cert.KernelIdeal.κ "mask" .f32 0xF149F2CA#32 ⊥ rfl, fox_algebraic,
    IdealRules.named_const.statement Cert.Kernel2Ideal.κ "half_root" .f32 0x3F3504F3#32 (((Real.sqrt 2)⁻¹ : ℝ) : EReal) rfl, ffn_in_algebraic,
    trivial, ffn_out_algebraic,
    IdealRules.named_const.statement Cert.Kernel4Ideal.κ "scale" .f32 0x3E0293EE#32 (((Real.sqrt 128 * Real.log 2)⁻¹ : ℝ) : EReal) rfl, fox_proj_algebraic,
    IdealRules.named_const.statement Cert.Kernel5Ideal.κ "scale" .f32 0x3E0293EE#32 (((Real.sqrt 128 * Real.log 2)⁻¹ : ℝ) : EReal) rfl, diff_proj_algebraic,
    IdealRules.named_const.statement Cert.Kernel6Ideal.κ "mask" .f32 0xF149F2CA#32 ⊥ rfl, diff_algebraic,
    trivial, attn_out_algebraic,
    trivial, rms_algebraic,
    ⟨IdealRules.named_const.statement Cert.Kernel9Ideal.κ "log2e" .f32 0x3FB8AA3B#32 (((Real.log 2)⁻¹ : ℝ) : EReal) rfl, IdealRules.named_const.statement Cert.Kernel9Ideal.κ "mask" .f32 0xF149F2CA#32 ⊥ rfl⟩, bias_algebraic⟩

end Cert.Proof

end
